-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v21)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v21) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v40) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v11_0)) (v1 : (c : Dev Cert.ProjIdeal.nD) → Buf (Elt Ideal) ((c.tc : Thread Cert.ProjIdeal.nD Cert.ProjIdeal.τ).loc Cert.ProjIdeal.main_v11_1)) (v2 : (c : Dev Cert.ProjIdeal.nD) → Buf (Elt Ideal) ((c.tc : Thread Cert.ProjIdeal.nD Cert.ProjIdeal.τ).loc Cert.ProjIdeal.main_v11_2)) (v3 : (c : Dev Cert.ProjIdeal.nD) → Buf (Elt Ideal) ((c.tc : Thread Cert.ProjIdeal.nD Cert.ProjIdeal.τ).loc Cert.ProjIdeal.main_v11_3)) (v4 : (c : Dev Cert.ProjIdeal.nD) → Buf (Elt Ideal) ((c.tc : Thread Cert.ProjIdeal.nD Cert.ProjIdeal.τ).loc Cert.ProjIdeal.main_v11_4)) (v5 : (c : Dev Cert.ProjIdeal.nD) → Buf (Elt Ideal) ((c.tc : Thread Cert.ProjIdeal.nD Cert.ProjIdeal.τ).loc Cert.ProjIdeal.main_v11_5)) (v6 : (c : Dev Cert.ProjIdeal.nD) → Buf (Elt Ideal) ((c.tc : Thread Cert.ProjIdeal.nD Cert.ProjIdeal.τ).loc Cert.ProjIdeal.main_v11_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v11_0) = v0 c
          ∧ r.2.mem ((c.tc : Thread Cert.ProjIdeal.nD Cert.ProjIdeal.τ).loc Cert.ProjIdeal.main_v11_1) = v1 c
          ∧ r.2.mem ((c.tc : Thread Cert.ProjIdeal.nD Cert.ProjIdeal.τ).loc Cert.ProjIdeal.main_v11_2) = v2 c
          ∧ r.2.mem ((c.tc : Thread Cert.ProjIdeal.nD Cert.ProjIdeal.τ).loc Cert.ProjIdeal.main_v11_3) = v3 c
          ∧ r.2.mem ((c.tc : Thread Cert.ProjIdeal.nD Cert.ProjIdeal.τ).loc Cert.ProjIdeal.main_v11_4) = v4 c
          ∧ r.2.mem ((c.tc : Thread Cert.ProjIdeal.nD Cert.ProjIdeal.τ).loc Cert.ProjIdeal.main_v11_5) = v5 c
          ∧ r.2.mem ((c.tc : Thread Cert.ProjIdeal.nD Cert.ProjIdeal.τ).loc Cert.ProjIdeal.main_v11_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v66) = v0 c
          ∧ r.2.mem ((c.tc : Thread Cert.ProjReferenceIdeal.nD Cert.ProjReferenceIdeal.τ).loc Cert.ProjReferenceIdeal.main_v67) = v1 c
          ∧ r.2.mem ((c.tc : Thread Cert.ProjReferenceIdeal.nD Cert.ProjReferenceIdeal.τ).loc Cert.ProjReferenceIdeal.main_v70) = v2 c
          ∧ r.2.mem ((c.tc : Thread Cert.ProjReferenceIdeal.nD Cert.ProjReferenceIdeal.τ).loc Cert.ProjReferenceIdeal.main_v71) = v3 c
          ∧ r.2.mem ((c.tc : Thread Cert.ProjReferenceIdeal.nD Cert.ProjReferenceIdeal.τ).loc Cert.ProjReferenceIdeal.main_v72) = v4 c
          ∧ r.2.mem ((c.tc : Thread Cert.ProjReferenceIdeal.nD Cert.ProjReferenceIdeal.τ).loc Cert.ProjReferenceIdeal.main_v74) = v5 c
          ∧ r.2.mem ((c.tc : Thread Cert.ProjReferenceIdeal.nD Cert.ProjReferenceIdeal.τ).loc Cert.ProjReferenceIdeal.main_v75) = v6 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hProj : Cert.Proj.Facts) (hProjIdeal : Cert.ProjIdeal.Facts) (hProjReferenceIdeal : Cert.ProjReferenceIdeal.Facts) (hPre_finite_values : Cert.Pre_finite_values.Facts) (hPre_experts_in_range : Cert.Pre_experts_in_range.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_Proj_ProjIdeal
    ∧ algebraic_ProjIdeal_ProjReferenceIdeal (hProjIdeal := hProjIdeal) (hProjReferenceIdeal := hProjReferenceIdeal)
-- ==== Pre_experts_in_range.lean ====
abbrev S120 : Shape := ⟨1, ![120]⟩
abbrev S1 : Shape := ⟨1, ![1]⟩
abbrev S92160x1024 : Shape := ⟨2, ![92160, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S_ : Shape := ⟨0, ![]⟩

class Facts : Prop where
  bcast_S_S120 : S_.BroadcastsInDim S120 (![] : Fin 0 → Fin S120.rank)
  reducesTo_S120_S_d0 : S120.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S120 32) (main_arg1 : IVec S1 32) (main_arg2 : FVec F S92160x1024 .f32) (main_arg3 : FVec F S1x32x1024x2048 .f32) (main_arg4 : FVec F S1x32x2048 .f32) (main_arg5 : FVec F S1x32x1024x1024 .f32) (main_arg6 : FVec F S1x32x1024 .f32) : IVec S_ 1 :=
  let main_c : IVec S_ 32 := constantI S_ 32 0#32
  let main_v0 : IVec S120 32 := broadcastInDim S120 ![] bcast_S_S120 main_c
  let main_v1 : IVec S120 1 := cmpi .sge main_arg0 main_v0
  let main_c_0 : IVec S_ 32 := constantI S_ 32 32#32
  let main_v2 : IVec S120 32 := broadcastInDim S120 ![] bcast_S_S120 main_c_0
  let main_v3 : IVec S120 1 := cmpi .slt main_arg0 main_v2
  let main_v4 : IVec S120 1 := andi main_v1 main_v3
  let main_c_1 : IVec S_ 1 := constantI S_ 1 1#1
  let main_v5 : IVec S_ 1 := (fun x v => Host.reduce IntOp.andi x v reducesTo_S120_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Pre_finite_values.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S_ : Shape := ⟨0, ![]⟩

class Facts : Prop where
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S8x2048x4x2x64 .f32) (main_arg1 : FVec F S8x2048x4x128 .f32) (main_arg2 : FVec F S8x2048x4x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x2048x4x128 .f32 := Host.absf main_arg2
  let main_cst : FVec F S_ .f32 := constant S_ .f32 0x7F800000#32
  let main_v1 : FVec F S8x2048x4x128 .f32 := broadcastInDim S8x2048x4x128 ![] bcast_S_S8x2048x4x128 main_cst
  let main_v2 : IVec S8x2048x4x128 1 := cmpf .olt main_v0 main_v1
  let main_c : IVec S_ 1 := constantI S_ 1 1#1
  let main_v3 : IVec S_ 1 := (fun x v => Host.reduce IntOp.andi x v reducesTo_S8x2048x4x128_S_d0_1_2_3 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_v13 main_v16
-- ==== Kernel.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S64 : Shape := ⟨1, ![64]⟩
abbrev S128 : Shape := ⟨1, ![128]⟩
abbrev S4 : Shape := ⟨1, ![4]⟩
abbrev S_ : Shape := ⟨0, ![]⟩
abbrev S16384x512 : Shape := ⟨2, ![16384, 512]⟩
abbrev S32x512x512 : Shape := ⟨3, ![32, 512, 512]⟩
abbrev S8x2048x512 : Shape := ⟨3, ![8, 2048, 512]⟩
abbrev S1x512x512 : Shape := ⟨3, ![1, 512, 512]⟩
abbrev S1x2048x512 : Shape := ⟨3, ![1, 2048, 512]⟩
abbrev S4x512x512 : Shape := ⟨3, ![4, 512, 512]⟩
abbrev S1 : Shape := ⟨1, ![1]⟩
abbrev S1x1 : Shape := ⟨2, ![1, 1]⟩
abbrev S512x128 : Shape := ⟨2, ![512, 128]⟩
abbrev S1024x128 : Shape := ⟨2, ![1024, 128]⟩
abbrev S1x512x128 : Shape := ⟨3, ![1, 512, 128]⟩
abbrev S1024x256 : Shape := ⟨2, ![1024, 256]⟩
abbrev S1x1024 : Shape := ⟨2, ![1, 1024]⟩
abbrev S144x1024 : Shape := ⟨2, ![144, 1024]⟩
abbrev S512x256 : Shape := ⟨2, ![512, 256]⟩
abbrev S512x1024 : Shape := ⟨2, ![512, 1024]⟩
abbrev S1024 : Shape := ⟨1, ![1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S128x1024 : Shape := ⟨2, ![128, 1024]⟩
abbrev S512 : Shape := ⟨1, ![512]⟩
abbrev S512x1 : Shape := ⟨2, ![512, 1]⟩

abbrev nBuf : Space → Nat
  | .hbm => 44
  | .vmem => 13
  | .smem => 1
  | _ => 0

abbrev bufTy : (tb : Table) → Fin (tcTables nBuf tb) → BufTy
  | .hbm, ⟨0, _⟩ => ⟨S8x2048x4x2x64, .f32⟩
  | .hbm, ⟨1, _⟩ => ⟨S8x2048x4x128, .f32⟩
  | .hbm, ⟨2, _⟩ => ⟨S8x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S128, .f32⟩
  | .hbm, ⟨17, _⟩ => ⟨S1x128, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S16384x512, .f32⟩
  | .hbm, ⟨33, _⟩ => ⟨S_, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .bf16⟩
  | .hbm, ⟨38, _⟩ => ⟨S32x512x512, .f32⟩
  | .hbm, ⟨39, _⟩ => ⟨S32x512x512, .f32⟩
  | .hbm, ⟨40, _⟩ => ⟨S32x512x512, .bf16⟩
  | .hbm, ⟨41, _⟩ => ⟨S8x2048x512, .f32⟩
  | .hbm, ⟨42, _⟩ => ⟨S8x2048x512, .bf16⟩
  | .hbm, ⟨43, _⟩ => ⟨S8x2048x512, .bf16⟩
  | .local _ .vmem, ⟨0, _⟩ => ⟨S1x512x512, .f32⟩
  | .local _ .vmem, ⟨1, _⟩ => ⟨S1x512x512, .f32⟩
  | .local _ .vmem, ⟨2, _⟩ => ⟨S1x2048x512, .bf16⟩
  | .local _ .vmem, ⟨3, _⟩ => ⟨S1x2048x512, .bf16⟩
  | .local _ .vmem, ⟨4, _⟩ => ⟨S4x512x512, .bf16⟩
  | .local _ .vmem, ⟨5, _⟩ => ⟨S4x512x512, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x512x512, .bf16⟩
  | .local _ .vmem, ⟨12, _⟩ => ⟨S1x512x512, .bf16⟩
  | .local _ .smem, ⟨0, _⟩ => ⟨S4, .f32⟩
  | _, _ => ⟨S8x2048x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![8, 1, 4], ![false, false, false]⟩

def k0_off1 (i : grid0.Coords) (c0_i32_14 : BitVec 32) : Fin 1 → Nat :=
  let arg1 : BitVec 32 := BitVec.ofNat 32 (i 1).val
  let c4_i32 : BitVec 32 := 4#32
  let v51 : BitVec 32 := Scalar.muli arg1 c4_i32
  let v52 : BitVec 32 := Scalar.addi v51 c0_i32_14
  let v53 : Index := Scalar.indexCast v52
  ![v53.toNat]
@[reducible] def k0_t1_loop (i : grid0.Coords) : Scf.Loop 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_159 : BitVec 32 := 1#32
  ⟨c0_i32_157, v522, c1_i32_159⟩
def k0_mult1 (i : grid0.Coords) (k0_t1 : Fin (k0_t1_loop i).trips) : BitVec 32 :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_258 : BitVec 32 := 512#32
  let v831 : BitVec 32 := Scalar.muli v830 c512_i32_258
  v831
def k0_off2 (i : grid0.Coords) (k0_t1 : Fin (k0_t1_loop i).trips) : Fin 3 → Nat :=
  let c0_259 : Index := 0#32
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_258 : BitVec 32 := 512#32
  let v831 : BitVec 32 := Scalar.muli v830 c512_i32_258
  let v832 : BitVec 32 := v831
  let v833 : Index := Scalar.indexCast v832
  let c0_260 : Index := 0#32
  ![0, v833.toNat, 0]
def k0_off3 (i : grid0.Coords) (k0_t1 : Fin (k0_t1_loop i).trips) : Fin 3 → Nat :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c0_i32_264 : BitVec 32 := 0#32
  let v855 : BitVec 32 := Scalar.addi v830 c0_i32_264
  let v856 : Index := Scalar.indexCast v855
  let c0_265 : Index := 0#32
  let c0_266 : Index := 0#32
  ![v856.toNat, 0, 0]
def k0_mult2 (i : grid0.Coords) (k0_t1 : Fin (k0_t1_loop i).trips) : BitVec 32 :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_269 : BitVec 32 := 512#32
  let v865 : BitVec 32 := Scalar.muli v830 c512_i32_269
  v865
def k0_off4 (i : grid0.Coords) (k0_t1 : Fin (k0_t1_loop i).trips) : Fin 3 → Nat :=
  let c0_270 : Index := 0#32
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_269 : BitVec 32 := 512#32
  let v865 : BitVec 32 := Scalar.muli v830 c512_i32_269
  let v866 : BitVec 32 := v865
  let v867 : Index := Scalar.indexCast v866
  let c128_271 : Index := 128#32
  ![0, v867.toNat, 128]
def k0_off5 (i : grid0.Coords) (k0_t1 : Fin (k0_t1_loop i).trips) : Fin 3 → Nat :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c0_i32_275 : BitVec 32 := 0#32
  let v889 : BitVec 32 := Scalar.addi v830 c0_i32_275
  let v890 : Index := Scalar.indexCast v889
  let c128_276 : Index := 128#32
  let c0_277 : Index := 0#32
  ![v890.toNat, 128, 0]
def k0_mult3 (i : grid0.Coords) (k0_t1 : Fin (k0_t1_loop i).trips) : BitVec 32 :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_280 : BitVec 32 := 512#32
  let v899 : BitVec 32 := Scalar.muli v830 c512_i32_280
  v899
def k0_off6 (i : grid0.Coords) (k0_t1 : Fin (k0_t1_loop i).trips) : Fin 3 → Nat :=
  let c0_281 : Index := 0#32
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_280 : BitVec 32 := 512#32
  let v899 : BitVec 32 := Scalar.muli v830 c512_i32_280
  let v900 : BitVec 32 := v899
  let v901 : Index := Scalar.indexCast v900
  let c256_282 : Index := 256#32
  ![0, v901.toNat, 256]
def k0_off7 (i : grid0.Coords) (k0_t1 : Fin (k0_t1_loop i).trips) : Fin 3 → Nat :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c0_i32_286 : BitVec 32 := 0#32
  let v923 : BitVec 32 := Scalar.addi v830 c0_i32_286
  let v924 : Index := Scalar.indexCast v923
  let c256_287 : Index := 256#32
  let c0_288 : Index := 0#32
  ![v924.toNat, 256, 0]
def k0_mult4 (i : grid0.Coords) (k0_t1 : Fin (k0_t1_loop i).trips) : BitVec 32 :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_291 : BitVec 32 := 512#32
  let v933 : BitVec 32 := Scalar.muli v830 c512_i32_291
  v933
def k0_off8 (i : grid0.Coords) (k0_t1 : Fin (k0_t1_loop i).trips) : Fin 3 → Nat :=
  let c0_292 : Index := 0#32
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c512_i32_291 : BitVec 32 := 512#32
  let v933 : BitVec 32 := Scalar.muli v830 c512_i32_291
  let v934 : BitVec 32 := v933
  let v935 : Index := Scalar.indexCast v934
  let c384_293 : Index := 384#32
  ![0, v935.toNat, 384]
def k0_off9 (i : grid0.Coords) (k0_t1 : Fin (k0_t1_loop i).trips) : Fin 3 → Nat :=
  let c0_i32_157 : BitVec 32 := 0#32
  let c1_i32_159 : BitVec 32 := 1#32
  let arg13 : BitVec 32 := Scf.iv c0_i32_157 c1_i32_159 k0_t1
  let c1_i32_257 : BitVec 32 := 1#32
  let v830 : BitVec 32 := Scalar.muli arg13 c1_i32_257
  let c0_i32_297 : BitVec 32 := 0#32
  let v957 : BitVec 32 := Scalar.addi v830 c0_i32_297
  let v958 : Index := Scalar.indexCast v957
  let c384_298 : Index := 384#32
  let c0_299 : Index := 0#32
  ![v958.toNat, 384, 0]
@[reducible] def k0_t2_loop (i : grid0.Coords) : Scf.Loop 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let v519 : BitVec 32 := Scalar.addi c0_i32_157 v518
  let c1_i32_160 : BitVec 32 := 1#32
  ⟨v522, v519, c1_i32_160⟩
def k0_mult5 (i : grid0.Coords) (k0_t2 : Fin (k0_t2_loop i).trips) : BitVec 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_258 : BitVec 32 := 512#32
  let v831 : BitVec 32 := Scalar.muli v830 c512_i32_258
  v831
def k0_off10 (i : grid0.Coords) (k0_t2 : Fin (k0_t2_loop i).trips) : Fin 3 → Nat :=
  let c0_259 : Index := 0#32
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_258 : BitVec 32 := 512#32
  let v831 : BitVec 32 := Scalar.muli v830 c512_i32_258
  let v832 : BitVec 32 := v831
  let v833 : Index := Scalar.indexCast v832
  let c0_260 : Index := 0#32
  ![0, v833.toNat, 0]
def k0_off11 (i : grid0.Coords) (k0_t2 : Fin (k0_t2_loop i).trips) : Fin 3 → Nat :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c0_i32_264 : BitVec 32 := 0#32
  let v855 : BitVec 32 := Scalar.addi v830 c0_i32_264
  let v856 : Index := Scalar.indexCast v855
  let c0_265 : Index := 0#32
  let c0_266 : Index := 0#32
  ![v856.toNat, 0, 0]
def k0_mult6 (i : grid0.Coords) (k0_t2 : Fin (k0_t2_loop i).trips) : BitVec 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_269 : BitVec 32 := 512#32
  let v865 : BitVec 32 := Scalar.muli v830 c512_i32_269
  v865
def k0_off12 (i : grid0.Coords) (k0_t2 : Fin (k0_t2_loop i).trips) : Fin 3 → Nat :=
  let c0_270 : Index := 0#32
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_269 : BitVec 32 := 512#32
  let v865 : BitVec 32 := Scalar.muli v830 c512_i32_269
  let v866 : BitVec 32 := v865
  let v867 : Index := Scalar.indexCast v866
  let c128_271 : Index := 128#32
  ![0, v867.toNat, 128]
def k0_off13 (i : grid0.Coords) (k0_t2 : Fin (k0_t2_loop i).trips) : Fin 3 → Nat :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c0_i32_275 : BitVec 32 := 0#32
  let v889 : BitVec 32 := Scalar.addi v830 c0_i32_275
  let v890 : Index := Scalar.indexCast v889
  let c128_276 : Index := 128#32
  let c0_277 : Index := 0#32
  ![v890.toNat, 128, 0]
def k0_mult7 (i : grid0.Coords) (k0_t2 : Fin (k0_t2_loop i).trips) : BitVec 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_280 : BitVec 32 := 512#32
  let v899 : BitVec 32 := Scalar.muli v830 c512_i32_280
  v899
def k0_off14 (i : grid0.Coords) (k0_t2 : Fin (k0_t2_loop i).trips) : Fin 3 → Nat :=
  let c0_281 : Index := 0#32
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_280 : BitVec 32 := 512#32
  let v899 : BitVec 32 := Scalar.muli v830 c512_i32_280
  let v900 : BitVec 32 := v899
  let v901 : Index := Scalar.indexCast v900
  let c256_282 : Index := 256#32
  ![0, v901.toNat, 256]
def k0_off15 (i : grid0.Coords) (k0_t2 : Fin (k0_t2_loop i).trips) : Fin 3 → Nat :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c0_i32_286 : BitVec 32 := 0#32
  let v923 : BitVec 32 := Scalar.addi v830 c0_i32_286
  let v924 : Index := Scalar.indexCast v923
  let c256_287 : Index := 256#32
  let c0_288 : Index := 0#32
  ![v924.toNat, 256, 0]
def k0_mult8 (i : grid0.Coords) (k0_t2 : Fin (k0_t2_loop i).trips) : BitVec 32 :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_291 : BitVec 32 := 512#32
  let v933 : BitVec 32 := Scalar.muli v830 c512_i32_291
  v933
def k0_off16 (i : grid0.Coords) (k0_t2 : Fin (k0_t2_loop i).trips) : Fin 3 → Nat :=
  let c0_292 : Index := 0#32
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c512_i32_291 : BitVec 32 := 512#32
  let v933 : BitVec 32 := Scalar.muli v830 c512_i32_291
  let v934 : BitVec 32 := v933
  let v935 : Index := Scalar.indexCast v934
  let c384_293 : Index := 384#32
  ![0, v935.toNat, 384]
def k0_off17 (i : grid0.Coords) (k0_t2 : Fin (k0_t2_loop i).trips) : Fin 3 → Nat :=
  let c0_i32_157 : BitVec 32 := 0#32
  let arg2 : BitVec 32 := BitVec.ofNat 32 (i 2).val
  let c0_i32_151 : BitVec 32 := 0#32
  let v502 : BitVec 1 := Scalar.cmpi .sgt arg2 c0_i32_151
  let v503 : BitVec 32 := Scalar.extui v502
  let c0_i32_152 : BitVec 32 := 0#32
  let v504 : BitVec 1 := Scalar.cmpi .slt arg2 c0_i32_152
  let v505 : BitVec 32 := Scalar.extui v504
  let v506 : BitVec 32 := Scalar.subi v503 v505
  let c1_i32_150 : BitVec 32 := 1#32
  let c0_i32_153 : BitVec 32 := 0#32
  let v507 : BitVec 1 := Scalar.cmpi .sgt c1_i32_150 c0_i32_153
  let v508 : BitVec 32 := Scalar.extui v507
  let c0_i32_154 : BitVec 32 := 0#32
  let v509 : BitVec 1 := Scalar.cmpi .slt c1_i32_150 c0_i32_154
  let v510 : BitVec 32 := Scalar.extui v509
  let v511 : BitVec 32 := Scalar.subi v508 v510
  let v512 : BitVec 1 := Scalar.cmpi .ne v506 v511
  let v513 : BitVec 32 := Scalar.remsi arg2 c1_i32_150
  let c0_i32_155 : BitVec 32 := 0#32
  let v514 : BitVec 1 := Scalar.cmpi .ne v513 c0_i32_155
  let v515 : BitVec 1 := Scalar.andi v512 v514
  let v501 : BitVec 32 := Scalar.divsi arg2 c1_i32_150
  let c1_i32_156 : BitVec 32 := 1#32
  let v516 : BitVec 32 := Scalar.subi v501 c1_i32_156
  let v517 : BitVec 32 := Scalar.select v515 v516 v501
  let v518 : BitVec 32 := Scalar.subi v517 c0_i32_157
  let c1_i32_158 : BitVec 32 := 1#32
  let v520 : BitVec 32 := Scalar.divsi v518 c1_i32_158
  let v521 : BitVec 32 := Scalar.muli v520 c1_i32_158
  let v522 : BitVec 32 := Scalar.addi c0_i32_157 v521
  let c1_i32_160 : BitVec 32 := 1#32
  let arg13 : BitVec 32 := Scf.iv v522 c1_i32_160 k0_t2
  let c1_i32_257 : BitVec 32 := 1#32
  let v830 : BitVec 32 := Scalar.muli arg13 c1_i32_257
  let c0_i32_297 : BitVec 32 := 0#32
  let v957 : BitVec 32 := Scalar.addi v830 c0_i32_297
  let v958 : Index := Scalar.indexCast v957
  let c384_298 : Index := 384#32
  let c0_299 : Index := 0#32
  ![v958.toNat, 384, 0]
def k0_mult9 (i : grid0.Coords) : BitVec 32 :=
  let arg2 : BitVec 32 := BitVec.ofNat 32 (i 2).val
  let c0_i32_161 : BitVec 32 := 0#32
  let v525 : BitVec 32 := Scalar.subi arg2 c0_i32_161
  let c512_i32 : BitVec 32 := 512#32
  let v526 : BitVec 32 := Scalar.muli v525 c512_i32
  v526
def k0_off18 (i : grid0.Coords) : Fin 3 → Nat :=
  let c0_162 : Index := 0#32
  let arg2 : BitVec 32 := BitVec.ofNat 32 (i 2).val
  let c0_i32_161 : BitVec 32 := 0#32
  let v525 : BitVec 32 := Scalar.subi arg2 c0_i32_161
  let c512_i32 : BitVec 32 := 512#32
  let v526 : BitVec 32 := Scalar.muli v525 c512_i32
  let v527 : BitVec 32 := v526
  let v528 : Index := Scalar.indexCast v527
  let c0_163 : Index := 0#32
  ![0, v528.toNat, 0]
def k0_off19 (i : grid0.Coords) : Fin 3 → Nat :=
  let arg2 : BitVec 32 := BitVec.ofNat 32 (i 2).val
  let c0_i32_161 : BitVec 32 := 0#32
  let v525 : BitVec 32 := Scalar.subi arg2 c0_i32_161
  let c0_i32_171 : BitVec 32 := 0#32
  let v562 : BitVec 32 := Scalar.addi v525 c0_i32_171
  let v563 : Index := Scalar.indexCast v562
  let c0_172 : Index := 0#32
  let c0_173 : Index := 0#32
  ![v563.toNat, 0, 0]
def k0_mult10 (i : grid0.Coords) : BitVec 32 :=
  let arg2 : BitVec 32 := BitVec.ofNat 32 (i 2).val
  let c0_i32_161 : BitVec 32 := 0#32
  let v525 : BitVec 32 := Scalar.subi arg2 c0_i32_161
  let c512_i32_176 : BitVec 32 := 512#32
  let v572 : BitVec 32 := Scalar.muli v525 c512_i32_176
  v572
def k0_off20 (i : grid0.Coords) : Fin 3 → Nat :=
  let c0_177 : Index := 0#32
  let arg2 : BitVec 32 := BitVec.ofNat 32 (i 2).val
  let c0_i32_161 : BitVec 32 := 0#32
  let v525 : BitVec 32 := Scalar.subi arg2 c0_i32_161
  let c512_i32_176 : BitVec 32 := 512#32
  let v572 : BitVec 32 := Scalar.muli v525 c512_i32_176
  let v573 : BitVec 32 := v572
  let v574 : Index := Scalar.indexCast v573
  let c128_178 : Index := 128#32
  ![0, v574.toNat, 128]
def k0_off21 (i : grid0.Coords) : Fin 3 → Nat :=
  let arg2 : BitVec 32 := BitVec.ofNat 32 (i 2).val
  let c0_i32_161 : BitVec 32 := 0#32
  let v525 : BitVec 32 := Scalar.subi arg2 c0_i32_161
  let c0_i32_186 : BitVec 32 := 0#32
  let v608 : BitVec 32 := Scalar.addi v525 c0_i32_186
  let v609 : Index := Scalar.indexCast v608
  let c128_187 : Index := 128#32
  let c0_188 : Index := 0#32
  ![v609.toNat, 128, 0]
def k0_mult11 (i : grid0.Coords) : BitVec 32 :=
  let arg2 : BitVec 32 := BitVec.ofNat 32 (i 2).val
  let c0_i32_161 : BitVec 32 := 0#32
  let v525 : BitVec 32 := Scalar.subi arg2 c0_i32_161
  let c512_i32_191 : BitVec 32 := 512#32
  let v618 : BitVec 32 := Scalar.muli v525 c512_i32_191
  v618
def k0_off22 (i : grid0.Coords) : Fin 3 → Nat :=
  let c0_192 : Index := 0#32
  let arg2 : BitVec 32 := BitVec.ofNat 32 (i 2).val
  let c0_i32_161 : BitVec 32 := 0#32
  let v525 : BitVec 32 := Scalar.subi arg2 c0_i32_161
  let c512_i32_191 : BitVec 32 := 512#32
  let v618 : BitVec 32 := Scalar.muli v525 c512_i32_191
  let v619 : BitVec 32 := v618
  let v620 : Index := Scalar.indexCast v619
  let c256_193 : Index := 256#32
  ![0, v620.toNat, 256]
def k0_off23 (i : grid0.Coords) : Fin 3 → Nat :=
  let arg2 : BitVec 32 := BitVec.ofNat 32 (i 2).val
  let c0_i32_161 : BitVec 32 := 0#32
  let v525 : BitVec 32 := Scalar.subi arg2 c0_i32_161
  let c0_i32_201 : BitVec 32 := 0#32
  let v654 : BitVec 32 := Scalar.addi v525 c0_i32_201
  let v655 : Index := Scalar.indexCast v654
  let c256_202 : Index := 256#32
  let c0_203 : Index := 0#32
  ![v655.toNat, 256, 0]
def k0_mult12 (i : grid0.Coords) : BitVec 32 :=
  let arg2 : BitVec 32 := BitVec.ofNat 32 (i 2).val
  let c0_i32_161 : BitVec 32 := 0#32
  let v525 : BitVec 32 := Scalar.subi arg2 c0_i32_161
  let c512_i32_206 : BitVec 32 := 512#32
  let v664 : BitVec 32 := Scalar.muli v525 c512_i32_206
  v664
def k0_off24 (i : grid0.Coords) : Fin 3 → Nat :=
  let c0_207 : Index := 0#32
  let arg2 : BitVec 32 := BitVec.ofNat 32 (i 2).val
  let c0_i32_161 : BitVec 32 := 0#32
  let v525 : BitVec 32 := Scalar.subi arg2 c0_i32_161
  let c512_i32_206 : BitVec 32 := 512#32
  let v664 : BitVec 32 := Scalar.muli v525 c512_i32_206
  let v665 : BitVec 32 := v664
  let v666 : Index := Scalar.indexCast v665
  let c384_208 : Index := 384#32
  ![0, v666.toNat, 384]
def k0_off25 (i : grid0.Coords) : Fin 3 → Nat :=
  let arg2 : BitVec 32 := BitVec.ofNat 32 (i 2).val
  let c0_i32_161 : BitVec 32 := 0#32
  let v525 : BitVec 32 := Scalar.subi arg2 c0_i32_161
  let c0_i32_216 : BitVec 32 := 0#32
  let v700 : BitVec 32 := Scalar.addi v525 c0_i32_216
  let v701 : Index := Scalar.indexCast v700
  let c384_217 : Index := 384#32
  let c0_218 : Index := 0#32
  ![v701.toNat, 384, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x4x2x64 : Shape := ⟨5, ![8, 2048, 4, 2, 64]⟩
abbrev S8x2048x4x128 : Shape := ⟨4, ![8, 2048, 4, 128]⟩
abbrev S1x64 : Shape := ⟨2, ![1, 64]⟩
abbrev S1x128 : Shape := ⟨2, ![1, 128]⟩
abbrev S2048 : Shape := ⟨1, ![2048]⟩
abbrev S4 : Shape := ⟨1, ![4]⟩
abbrev S_ : Shape := ⟨0, ![]⟩
abbrev S64 : Shape := ⟨1, ![64]⟩
abbrev S8x4x2x2048x2048 : Shape := ⟨5, ![8, 4, 2, 2048, 2048]⟩
abbrev S2048x1 : Shape := ⟨2, ![2048, 1]⟩
abbrev S1x2048 : Shape := ⟨2, ![1, 2048]⟩
abbrev S2048x2048 : Shape := ⟨2, ![2048, 2048]⟩
abbrev S1x4x1x1x1 : Shape := ⟨5, ![1, 4, 1, 1, 1]⟩
abbrev S1x1x1x2048x2048 : Shape := ⟨5, ![1, 1, 1, 2048, 2048]⟩
abbrev S1x4x1x2048x2048 : Shape := ⟨5, ![1, 4, 1, 2048, 2048]⟩
abbrev S8x4x2x2048 : Shape := ⟨4, ![8, 4, 2, 2048]⟩
abbrev S8x4x2x2048x1 : Shape := ⟨5, ![8, 4, 2, 2048, 1]⟩
abbrev S8x4x1x2048x2048 : Shape := ⟨5, ![8, 4, 1, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S128 : Shape := ⟨1, ![128]⟩
abbrev S1x1x1x128 : Shape := ⟨4, ![1, 1, 1, 128]⟩
abbrev S8x2048x512 : Shape := ⟨3, ![8, 2048, 512]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x4x2x64, .f32⟩
  | .hbm, ⟨1, _⟩ => ⟨S8x2048x4x128, .f32⟩
  | .hbm, ⟨2, _⟩ => ⟨S8x2048x4x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S2048, .i32⟩
  | .hbm, ⟨9, _⟩ => ⟨S2048, .i32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S4, .f32⟩
  | .hbm, ⟨22, _⟩ => ⟨S4, .f32⟩
  | .hbm, ⟨23, _⟩ => ⟨S4, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x2048x4x2x64, .f32⟩
  | .hbm, ⟨40, _⟩ => ⟨S8x4x2x2048x2048, .f32⟩
  | .hbm, ⟨41, _⟩ => ⟨S_, .f32⟩
  | .hbm, ⟨42, _⟩ => ⟨S8x4x2x2048x2048, .f32⟩
  | .hbm, ⟨43, _⟩ => ⟨S8x4x2x2048x2048, .f32⟩
  | .hbm, ⟨44, _⟩ => ⟨S2048x1, .i32⟩
  | .hbm, ⟨45, _⟩ => ⟨S1x2048, .i32⟩
  | .hbm, ⟨46, _⟩ => ⟨S2048x2048, .i32⟩
  | .hbm, ⟨47, _⟩ => ⟨S2048x2048, .i32⟩
  | .hbm, ⟨48, _⟩ => ⟨S2048x2048, .i32⟩
  | .hbm, ⟨49, _⟩ => ⟨S2048x2048, .f32⟩
  | .hbm, ⟨50, _⟩ => ⟨S1x4x1x1x1, .f32⟩
  | .hbm, ⟨51, _⟩ => ⟨S1x1x1x2048x2048, .f32⟩
  | .hbm, ⟨52, _⟩ => ⟨S1x4x1x2048x2048, .f32⟩
  | .hbm, ⟨53, _⟩ => ⟨S1x4x1x2048x2048, .f32⟩
  | .hbm, ⟨54, _⟩ => ⟨S1x4x1x2048x2048, .f32⟩
  | .hbm, ⟨55, _⟩ => ⟨S8x4x2x2048x2048, .f32⟩
  | .hbm, ⟨56, _⟩ => ⟨S8x4x2x2048x2048, .f32⟩
  | .hbm, ⟨57, _⟩ => ⟨S_, .f32⟩
  | .hbm, ⟨58, _⟩ => ⟨S2048x2048, .f32⟩
  | .hbm, ⟨59, _⟩ => ⟨S2048x2048, .i1⟩
  | .hbm, ⟨60, _⟩ => ⟨S_, .f32⟩
  | .hbm, ⟨61, _⟩ => ⟨S_, .f32⟩
  | .hbm, ⟨62, _⟩ => ⟨S8x4x2x2048x2048, .i1⟩
  | .hbm, ⟨63, _⟩ => ⟨S8x4x2x2048x2048, .f32⟩
  | .hbm, ⟨64, _⟩ => ⟨S8x4x2x2048x2048, .f32⟩
  | .hbm, ⟨65, _⟩ => ⟨S_, .f32⟩
  | .hbm, ⟨66, _⟩ => ⟨S8x4x2x2048, .f32⟩
  | .hbm, ⟨67, _⟩ => ⟨S_, .f32⟩
  | .hbm, ⟨68, _⟩ => ⟨S8x4x2x2048, .f32⟩
  | .hbm, ⟨69, _⟩ => ⟨S8x4x2x2048, .f32⟩
  | .hbm, ⟨70, _⟩ => ⟨S8x4x2x2048x1, .f32⟩
  | .hbm, ⟨71, _⟩ => ⟨S8x4x2x2048x2048, .f32⟩
  | .hbm, ⟨72, _⟩ => ⟨S8x4x2x2048x2048, .f32⟩
  | .hbm, ⟨73, _⟩ => ⟨S8x4x2x2048x2048, .f32⟩
  | .hbm, ⟨74, _⟩ => ⟨S_, .f32⟩
  | .hbm, ⟨75, _⟩ => ⟨S8x4x2x2048, .f32⟩
  | .hbm, ⟨76, _⟩ => ⟨S8x4x2x2048x1, .f32⟩
  | .hbm, ⟨77, _⟩ => ⟨S8x4x2x2048x2048, .f32⟩
  | .hbm, ⟨78, _⟩ => ⟨S8x4x2x2048x2048, .f32⟩
  | .hbm, ⟨79, _⟩ => ⟨S8x4x1x2048x2048, .f32⟩
  | .hbm, ⟨80, _⟩ => ⟨S8x4x2048x2048, .f32⟩
  | .hbm, ⟨81, _⟩ => ⟨S8x4x1x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x128x2048, .f32⟩
  | .hbm, ⟨87, _⟩ => ⟨S8x2048x4x128, .f32⟩
  | .hbm, ⟨88, _⟩ => ⟨S8x2048x4x128, .f32⟩
  | .hbm, ⟨89, _⟩ => ⟨S_, .f32⟩
  | .hbm, ⟨90, _⟩ => ⟨S8x2048x4, .f32⟩
  | .hbm, ⟨91, _⟩ => ⟨S8x2048x4x1, .f32⟩
  | .hbm, ⟨92, _⟩ => ⟨S_, .f32⟩
  | .hbm, ⟨93, _⟩ => ⟨S8x2048x4x1, .f32⟩
  | .hbm, ⟨94, _⟩ => ⟨S8x2048x4x1, .f32⟩
  | .hbm, ⟨95, _⟩ => ⟨S_, .f32⟩
  | .hbm, ⟨96, _⟩ => ⟨S8x2048x4x1, .f32⟩
  | .hbm, ⟨97, _⟩ => ⟨S8x2048x4x1, .f32⟩
  | .hbm, ⟨98, _⟩ => ⟨S8x2048x4x1, .f32⟩
  | .hbm, ⟨99, _⟩ => ⟨S8x2048x4x128, .f32⟩
  | .hbm, ⟨100, _⟩ => ⟨S8x2048x4x128, .f32⟩
  | .hbm, ⟨101, _⟩ => ⟨S128, .f32⟩
  | .hbm, ⟨102, _⟩ => ⟨S1x1x1x128, .f32⟩
  | .hbm, ⟨103, _⟩ => ⟨S8x2048x4x128, .f32⟩
  | .hbm, ⟨104, _⟩ => ⟨S8x2048x4x128, .f32⟩
  | .hbm, ⟨105, _⟩ => ⟨S_, .f32⟩
  | .hbm, ⟨106, _⟩ => ⟨S8x2048x4x128, .f32⟩
  | .hbm, ⟨107, _⟩ => ⟨S8x2048x4x128, .f32⟩
  | .hbm, ⟨108, _⟩ => ⟨S8x2048x512, .f32⟩
  | .hbm, ⟨109, _⟩ => ⟨S8x2048x512, .bf16⟩
  | _, _ => ⟨S8x2048x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]
-- ==== Experts.lean ====
abbrev S120 : Shape := ⟨1, ![120]⟩
abbrev S1 : Shape := ⟨1, ![1]⟩
abbrev S92160x1024 : Shape := ⟨2, ![92160, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S737280x128 : Shape := ⟨2, ![737280, 128]⟩
abbrev S32x1024x2048 : Shape := ⟨3, ![32, 1024, 2048]⟩
abbrev S32x1024x1024 : Shape := ⟨3, ![32, 1024, 1024]⟩
abbrev S32x2048 : Shape := ⟨2, ![32, 2048]⟩
abbrev S2048x32 : Shape := ⟨2, ![2048, 32]⟩
abbrev S1024x2x32 : Shape := ⟨3, ![1024, 2, 32]⟩
abbrev S1024x1x32 : Shape := ⟨3, ![1024, 1, 32]⟩
abbrev S1024x32 : Shape := ⟨2, ![1024, 32]⟩
abbrev S32x1024 : Shape := ⟨2, ![32, 1024]⟩
abbrev S32x1x1024 : Shape := ⟨3, ![32, 1, 1024]⟩
abbrev S6144x128 : Shape := ⟨2, ![6144, 128]⟩
abbrev S1x1024x1024 : Shape := ⟨3, ![1, 1024, 1024]⟩
abbrev S1x1x1024 : Shape := ⟨3, ![1, 1, 1024]⟩
abbrev S768x128 : Shape := ⟨2, ![768, 128]⟩
abbrev S768x1024 : Shape := ⟨2, ![768, 1024]⟩
abbrev S1024x1024 : Shape := ⟨2, ![1024, 1024]⟩
abbrev S1x1024 : Shape := ⟨2, ![1, 1024]⟩

abbrev nBuf : Space → Nat
  | .hbm => 27
  | .vmem => 16
  | .smem => 2
  | _ => 0

abbrev bufTy : (tb : Table) → Fin (tcTables nBuf tb) → BufTy
  | .hbm, ⟨0, _⟩ => ⟨S92160x1024, .f32⟩
  | .hbm, ⟨1, _⟩ => ⟨S1x32x1024x2048, .f32⟩
  | .hbm, ⟨2, _⟩ => ⟨S1x32x2048, .f32⟩
  | .hbm, ⟨3, _⟩ => ⟨S1x32x1024x1024, .f32⟩
  | .hbm, ⟨4, _⟩ => ⟨S1x32x1024, .f32⟩
  | .hbm, ⟨5, _⟩ => ⟨S737280x128, .f32⟩
  | .hbm, ⟨6, _⟩ => ⟨S32x1024x2048, .f32⟩
  | .hbm, ⟨7, _⟩ => ⟨S32x1024x1024, .f32⟩
  | .hbm, ⟨8, _⟩ => ⟨S32x1024x1024, .bf16⟩
  | .hbm, ⟨9, _⟩ => ⟨S32x1024x2048, .f32⟩
  | .hbm, ⟨10, _⟩ => ⟨S32x1024x1024, .f32⟩
  | .hbm, ⟨11, _⟩ => ⟨S32x1024x1024, .bf16⟩
  | .hbm, ⟨12, _⟩ => ⟨S32x2048, .f32⟩
  | .hbm, ⟨13, _⟩ => ⟨S2048x32, .f32⟩
  | .hbm, ⟨14, _⟩ => ⟨S1024x2x32, .f32⟩
  | .hbm, ⟨15, _⟩ => ⟨S1024x1x32, .f32⟩
  | .hbm, ⟨16, _⟩ => ⟨S1024x32, .f32⟩
  | .hbm, ⟨17, _⟩ => ⟨S32x1024, .f32⟩
  | .hbm, ⟨18, _⟩ => ⟨S32x1x1024, .f32⟩
  | .hbm, ⟨19, _⟩ => ⟨S1024x1x32, .f32⟩
  | .hbm, ⟨20, _⟩ => ⟨S1024x32, .f32⟩
  | .hbm, ⟨21, _⟩ => ⟨S32x1024, .f32⟩
  | .hbm, ⟨22, _⟩ => ⟨S32x1x1024, .f32⟩
  | .hbm, ⟨23, _⟩ => ⟨S32x1024x1024, .f32⟩
  | .hbm, ⟨24, _⟩ => ⟨S32x1024, .f32⟩
  | .hbm, ⟨25, _⟩ => ⟨S32x1x1024, .f32⟩
  | .hbm, ⟨26, _⟩ => ⟨S737280x128, .f32⟩
  | .local _ .vmem, ⟨0, _⟩ => ⟨S6144x128, .f32⟩
  | .local _ .vmem, ⟨1, _⟩ => ⟨S6144x128, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S6144x128, .f32⟩
  | .local _ .vmem, ⟨15, _⟩ => ⟨S6144x128, .f32⟩
  | .local _ .smem, ⟨0, _⟩ => ⟨S120, .i32⟩
  | .local _ .smem, ⟨1, _⟩ => ⟨S1, .i32⟩
  | _, _ => ⟨S92160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![120], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v4 : BitVec 1 := Scalar.cmpi .sge arg0 v0
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S120.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S120) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6144x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsReferenceIdeal.lean ====
abbrev S120 : Shape := ⟨1, ![120]⟩
abbrev S1 : Shape := ⟨1, ![1]⟩
abbrev S92160x1024 : Shape := ⟨2, ![92160, 1024]⟩
abbrev S1x32x1024x2048 : Shape := ⟨4, ![1, 32, 1024, 2048]⟩
abbrev S1x32x2048 : Shape := ⟨3, ![1, 32, 2048]⟩
abbrev S1x32x1024x1024 : Shape := ⟨4, ![1, 32, 1024, 1024]⟩
abbrev S1x32x1024 : Shape := ⟨3, ![1, 32, 1024]⟩
abbrev S120x768x1024 : Shape := ⟨3, ![120, 768, 1024]⟩
abbrev S32x1024x2048 : Shape := ⟨3, ![32, 1024, 2048]⟩
abbrev S120x1 : Shape := ⟨2, ![120, 1]⟩
abbrev S120x1024x2048 : Shape := ⟨3, ![120, 1024, 2048]⟩
abbrev S120x768x2048 : Shape := ⟨3, ![120, 768, 2048]⟩
abbrev S32x2048 : Shape := ⟨2, ![32, 2048]⟩
abbrev S120x2048 : Shape := ⟨2, ![120, 2048]⟩
abbrev S120x1x2048 : Shape := ⟨3, ![120, 1, 2048]⟩
abbrev S_ : Shape := ⟨0, ![]⟩
abbrev S32x1024x1024 : Shape := ⟨3, ![32, 1024, 1024]⟩
abbrev S120x1024x1024 : Shape := ⟨3, ![120, 1024, 1024]⟩
abbrev S32x1024 : Shape := ⟨2, ![32, 1024]⟩
abbrev S120x1024 : Shape := ⟨2, ![120, 1024]⟩
abbrev S120x1x1024 : Shape := ⟨3, ![120, 1, 1024]⟩
abbrev S120x1x1 : Shape := ⟨3, ![120, 1, 1]⟩
abbrev S737280x128 : Shape := ⟨2, ![737280, 128]⟩

abbrev nBuf : Space → Nat
  | .hbm => 68
  | .vmem => 0
  | .smem => 0
  | _ => 0

abbrev bufTy : (tb : Table) → Fin (tcTables nBuf tb) → BufTy
  | .hbm, ⟨0, _⟩ => ⟨S120, .i32⟩
  | .hbm, ⟨1, _⟩ => ⟨S1, .i32⟩
  | .hbm, ⟨2, _⟩ => ⟨S92160x1024, .f32⟩
  | .hbm, ⟨3, _⟩ => ⟨S1x32x1024x2048, .f32⟩
  | .hbm, ⟨4, _⟩ => ⟨S1x32x2048, .f32⟩
  | .hbm, ⟨5, _⟩ => ⟨S1x32x1024x1024, .f32⟩
  | .hbm, ⟨6, _⟩ => ⟨S1x32x1024, .f32⟩
  | .hbm, ⟨7, _⟩ => ⟨S120x768x1024, .f32⟩
  | .hbm, ⟨8, _⟩ => ⟨S32x1024x2048, .f32⟩
  | .hbm, ⟨9, _⟩ => ⟨S120x1, .i32⟩
  | .hbm, ⟨10, _⟩ => ⟨S120x1024x2048, .f32⟩
  | .hbm, ⟨11, _⟩ => ⟨S120x768x2048, .f32⟩
  | .hbm, ⟨12, _⟩ => ⟨S32x2048, .f32⟩
  | .hbm, ⟨13, _⟩ => ⟨S120x1, .i32⟩
  | .hbm, ⟨14, _⟩ => ⟨S120x2048, .f32⟩
  | .hbm, ⟨15, _⟩ => ⟨S120x1x2048, .f32⟩
  | .hbm, ⟨16, _⟩ => ⟨S120x768x2048, .f32⟩
  | .hbm, ⟨17, _⟩ => ⟨S120x768x2048, .f32⟩
  | .hbm, ⟨18, _⟩ => ⟨S120x768x1024, .f32⟩
  | .hbm, ⟨19, _⟩ => ⟨S_, .f32⟩
  | .hbm, ⟨20, _⟩ => ⟨S120x768x1024, .f32⟩
  | .hbm, ⟨21, _⟩ => ⟨S120x768x1024, .f32⟩
  | .hbm, ⟨22, _⟩ => ⟨S120x768x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S120x768x1024, .f32⟩
  | .hbm, ⟨27, _⟩ => ⟨S120x768x1024, .f32⟩
  | .hbm, ⟨28, _⟩ => ⟨S_, .f32⟩
  | .hbm, ⟨29, _⟩ => ⟨S120x768x1024, .f32⟩
  | .hbm, ⟨30, _⟩ => ⟨S120x768x1024, .f32⟩
  | .hbm, ⟨31, _⟩ => ⟨S_, .f32⟩
  | .hbm, ⟨32, _⟩ => ⟨S120x768x1024, .f32⟩
  | .hbm, ⟨33, _⟩ => ⟨S120x768x1024, .f32⟩
  | .hbm, ⟨34, _⟩ => ⟨S120x768x1024, .f32⟩
  | .hbm, ⟨35, _⟩ => ⟨S120x768x1024, .f32⟩
  | .hbm, ⟨36, _⟩ => ⟨S_, .f32⟩
  | .hbm, ⟨37, _⟩ => ⟨S120x768x1024, .f32⟩
  | .hbm, ⟨38, _⟩ => ⟨S120x768x1024, .f32⟩
  | .hbm, ⟨39, _⟩ => ⟨S_, .f32⟩
  | .hbm, ⟨40, _⟩ => ⟨S120x768x1024, .f32⟩
  | .hbm, ⟨41, _⟩ => ⟨S120x768x1024, .f32⟩
  | .hbm, ⟨42, _⟩ => ⟨S120x768x1024, .f32⟩
  | .hbm, ⟨43, _⟩ => ⟨S_, .f32⟩
  | .hbm, ⟨44, _⟩ => ⟨S120x768x1024, .f32⟩
  | .hbm, ⟨45, _⟩ => ⟨S120x768x1024, .f32⟩
  | .hbm, ⟨46, _⟩ => ⟨S120x768x1024, .f32⟩
  | .hbm, ⟨47, _⟩ => ⟨S32x1024x1024, .f32⟩
  | .hbm, ⟨48, _⟩ => ⟨S120x1, .i32⟩
  | .hbm, ⟨49, _⟩ => ⟨S120x1024x1024, .f32⟩
  | .hbm, ⟨50, _⟩ => ⟨S120x768x1024, .f32⟩
  | .hbm, ⟨51, _⟩ => ⟨S32x1024, .f32⟩
  | .hbm, ⟨52, _⟩ => ⟨S120x1, .i32⟩
  | .hbm, ⟨53, _⟩ => ⟨S120x1024, .f32⟩
  | .hbm, ⟨54, _⟩ => ⟨S120x1x1024, .f32⟩
  | .hbm, ⟨55, _⟩ => ⟨S120x768x1024, .f32⟩
  | .hbm, ⟨56, _⟩ => ⟨S120x768x1024, .f32⟩
  | .hbm, ⟨57, _⟩ => ⟨S120, .i32⟩
  | .hbm, ⟨58, _⟩ => ⟨S_, .i32⟩
  | .hbm, ⟨59, _⟩ => ⟨S120, .i32⟩
  | .hbm, ⟨60, _⟩ => ⟨S120, .i1⟩
  | .hbm, ⟨61, _⟩ => ⟨S120x1x1, .i1⟩
  | .hbm, ⟨62, _⟩ => ⟨S_, .f32⟩
  | .hbm, ⟨63, _⟩ => ⟨S_, .f32⟩
  | .hbm, ⟨64, _⟩ => ⟨S120x768x1024, .i1⟩
  | .hbm, ⟨65, _⟩ => ⟨S120x768x1024, .f32⟩
  | .hbm, ⟨66, _⟩ => ⟨S120x768x1024, .f32⟩
  | .hbm, ⟨67, _⟩ => ⟨S737280x128, .f32⟩
  | _, _ => ⟨S120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_cst_1 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call3_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call4_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_call5_v0 : Ref sig .tc := ⟨.hbm, 63, rfl⟩
abbrev main_call5_v1 : Ref sig .tc := ⟨.hbm, 64, rfl⟩
abbrev main_call5_v2 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]
-- ==== Proj.lean ====
abbrev S8x2048x1024 : Shape := ⟨3, ![8, 2048, 1024]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1024 : Shape := ⟨1, ![1024]⟩
abbrev S1024x2048 : Shape := ⟨2, ![1024, 2048]⟩
abbrev S1024x512 : Shape := ⟨2, ![1024, 512]⟩
abbrev S512x1024 : Shape := ⟨2, ![512, 1024]⟩
abbrev S4x128x128 : Shape := ⟨3, ![4, 128, 128]⟩
abbrev S512 : Shape := ⟨1, ![512]⟩
abbrev S16384x1024 : Shape := ⟨2, ![16384, 1024]⟩
abbrev S16384x512 : Shape := ⟨2, ![16384, 512]⟩
abbrev S8x16x512 : Shape := ⟨3, ![8, 16, 512]⟩
abbrev S65536x128 : Shape := ⟨2, ![65536, 128]⟩
abbrev S32x512x512 : Shape := ⟨3, ![32, 512, 512]⟩
abbrev S1024x1024 : Shape := ⟨2, ![1024, 1024]⟩
abbrev S1x16x512 : Shape := ⟨3, ![1, 16, 512]⟩
abbrev S4096x128 : Shape := ⟨2, ![4096, 128]⟩
abbrev S2x512x512 : Shape := ⟨3, ![2, 512, 512]⟩
abbrev S16x512 : Shape := ⟨2, ![16, 512]⟩
abbrev S1024x1 : Shape := ⟨2, ![1024, 1]⟩
abbrev S1024x128 : Shape := ⟨2, ![1024, 128]⟩
abbrev S1040x512 : Shape := ⟨2, ![1040, 512]⟩
abbrev S1040x128 : Shape := ⟨2, ![1040, 128]⟩
abbrev S1x128x128 : Shape := ⟨3, ![1, 128, 128]⟩
abbrev S128x128 : Shape := ⟨2, ![128, 128]⟩
abbrev S1x128 : Shape := ⟨2, ![1, 128]⟩
abbrev S512x512 : Shape := ⟨2, ![512, 512]⟩
abbrev S1x512x512 : Shape := ⟨3, ![1, 512, 512]⟩

abbrev nBuf : Space → Nat
  | .hbm => 23
  | .vmem => 22
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2048, .f32⟩
  | .hbm, ⟨3, _⟩ => ⟨S1x4x128x128, .f32⟩
  | .hbm, ⟨4, _⟩ => ⟨S1x512, .f32⟩
  | .hbm, ⟨5, _⟩ => ⟨S1024, .f32⟩
  | .hbm, ⟨6, _⟩ => ⟨S1x1024, .f32⟩
  | .hbm, ⟨7, _⟩ => ⟨S1024x2048, .f32⟩
  | .hbm, ⟨8, _⟩ => ⟨S1024x2048, .bf16⟩
  | .hbm, ⟨9, _⟩ => ⟨S1024x512, .bf16⟩
  | .hbm, ⟨10, _⟩ => ⟨S512x1024, .bf16⟩
  | .hbm, ⟨11, _⟩ => ⟨S4x128x128, .f32⟩
  | .hbm, ⟨12, _⟩ => ⟨S4x128x128, .bf16⟩
  | .hbm, ⟨13, _⟩ => ⟨S512, .f32⟩
  | .hbm, ⟨14, _⟩ => ⟨S1x512, .f32⟩
  | .hbm, ⟨15, _⟩ => ⟨S16384x1024, .f32⟩
  | .hbm, ⟨16, _⟩ => ⟨S16384x512, .bf16⟩
  | .hbm, ⟨17, _⟩ => ⟨S8x16x512, .f32⟩
  | .hbm, ⟨18, _⟩ => ⟨S16384x512, .f32⟩
  | .hbm, ⟨19, _⟩ => ⟨S65536x128, .f32⟩
  | .hbm, ⟨20, _⟩ => ⟨S65536x128, .f32⟩
  | .hbm, ⟨21, _⟩ => ⟨S16384x512, .bf16⟩
  | .hbm, ⟨22, _⟩ => ⟨S32x512x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S512x1024, .bf16⟩
  | .local _ .vmem, ⟨5, _⟩ => ⟨S4x128x128, .bf16⟩
  | .local _ .vmem, ⟨6, _⟩ => ⟨S1x512, .f32⟩
  | .local _ .vmem, ⟨7, _⟩ => ⟨S1024x512, .bf16⟩
  | .local _ .vmem, ⟨8, _⟩ => ⟨S1024x512, .bf16⟩
  | .local _ .vmem, ⟨9, _⟩ => ⟨S1x16x512, .f32⟩
  | .local _ .vmem, ⟨10, _⟩ => ⟨S1x16x512, .f32⟩
  | .local _ .vmem, ⟨11, _⟩ => ⟨S1024x512, .f32⟩
  | .local _ .vmem, ⟨12, _⟩ => ⟨S1024x512, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S1024x512, .bf16⟩
  | .local _ .vmem, ⟨18, _⟩ => ⟨S1024x512, .bf16⟩
  | .local _ .vmem, ⟨19, _⟩ => ⟨S2x512x512, .bf16⟩
  | .local _ .vmem, ⟨20, _⟩ => ⟨S2x512x512, .bf16⟩
  | .local _ .vmem, ⟨21, _⟩ => ⟨S16x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S8x2048x1024 : Shape := ⟨3, ![8, 2048, 1024]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S1024x2048 : Shape := ⟨2, ![1024, 2048]⟩
abbrev S8x2048x2048 : Shape := ⟨3, ![8, 2048, 2048]⟩
abbrev S8x2048x512 : Shape := ⟨3, ![8, 2048, 512]⟩
abbrev S8x2048x4x128 : Shape := ⟨4, ![8, 2048, 4, 128]⟩
abbrev S4 : Shape := ⟨1, ![4]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x2048x2048 : Shape := ⟨3, ![1, 2048, 2048]⟩
abbrev S4x1x1 : Shape := ⟨3, ![4, 1, 1]⟩
abbrev S4x2048x2048 : Shape := ⟨3, ![4, 2048, 2048]⟩
abbrev S4x8x128x2048 : Shape := ⟨4, ![4, 8, 128, 2048]⟩
abbrev S1x4 : Shape := ⟨2, ![1, 4]⟩
abbrev S2048x4 : Shape := ⟨2, ![2048, 4]⟩
abbrev S1x2048x4x1 : Shape := ⟨4, ![1, 2048, 4, 1]⟩
abbrev S4x128x128 : Shape := ⟨3, ![4, 128, 128]⟩
abbrev S4x128x8x2048 : Shape := ⟨4, ![4, 128, 8, 2048]⟩
abbrev S512 : Shape := ⟨1, ![512]⟩
abbrev S1x1x512 : Shape := ⟨3, ![1, 1, 512]⟩
abbrev S32x512x512 : Shape := ⟨3, ![32, 512, 512]⟩
abbrev S16384x512 : Shape := ⟨2, ![16384, 512]⟩
abbrev S8x16x512 : Shape := ⟨3, ![8, 16, 512]⟩
abbrev S65536x128 : Shape := ⟨2, ![65536, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x2048, .f32⟩
  | .hbm, ⟨3, _⟩ => ⟨S1x4x128x128, .f32⟩
  | .hbm, ⟨4, _⟩ => ⟨S1x512, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x2048, .f32⟩
  | .hbm, ⟨23, _⟩ => ⟨S8x2048x2048, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S8x2048x4x128, .f32⟩
  | .hbm, ⟨29, _⟩ => ⟨S4, .i32⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S2048, .i32⟩
  | .hbm, ⟨34, _⟩ => ⟨S2048x1, .i32⟩
  | .hbm, ⟨35, _⟩ => ⟨S1x2048, .i32⟩
  | .hbm, ⟨36, _⟩ => ⟨S2048x2048, .i32⟩
  | .hbm, ⟨37, _⟩ => ⟨S2048x2048, .i32⟩
  | .hbm, ⟨38, _⟩ => ⟨S2048x2048, .i32⟩
  | .hbm, ⟨39, _⟩ => ⟨S1x2048x2048, .i32⟩
  | .hbm, ⟨40, _⟩ => ⟨S_, .i32⟩
  | .hbm, ⟨41, _⟩ => ⟨S1x2048x2048, .i32⟩
  | .hbm, ⟨42, _⟩ => ⟨S1x2048x2048, .i1⟩
  | .hbm, ⟨43, _⟩ => ⟨S4x1x1, .i32⟩
  | .hbm, ⟨44, _⟩ => ⟨S4x2048x2048, .i32⟩
  | .hbm, ⟨45, _⟩ => ⟨S4x2048x2048, .i32⟩
  | .hbm, ⟨46, _⟩ => ⟨S4x2048x2048, .i1⟩
  | .hbm, ⟨47, _⟩ => ⟨S4x2048x2048, .i1⟩
  | .hbm, ⟨48, _⟩ => ⟨S4x2048x2048, .i1⟩
  | .hbm, ⟨49, _⟩ => ⟨S4x2048x2048, .f32⟩
  | .hbm, ⟨50, _⟩ => ⟨S4x8x128x2048, .f32⟩
  | .hbm, ⟨51, _⟩ => ⟨S8x2048x4x128, .f32⟩
  | .hbm, ⟨52, _⟩ => ⟨S4, .f32⟩
  | .hbm, ⟨53, _⟩ => ⟨S1x4, .f32⟩
  | .hbm, ⟨54, _⟩ => ⟨S2048, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S2048x4, .f32⟩
  | .hbm, ⟨60, _⟩ => ⟨S2048x4, .f32⟩
  | .hbm, ⟨61, _⟩ => ⟨S2048x4, .f32⟩
  | .hbm, ⟨62, _⟩ => ⟨S1x2048x4x1, .f32⟩
  | .hbm, ⟨63, _⟩ => ⟨S8x2048x4x128, .f32⟩
  | .hbm, ⟨64, _⟩ => ⟨S8x2048x4x128, .f32⟩
  | .hbm, ⟨65, _⟩ => ⟨S8x2048x4x128, .f32⟩
  | .hbm, ⟨66, _⟩ => ⟨S4x128x128, .f32⟩
  | .hbm, ⟨67, _⟩ => ⟨S4x128x8x2048, .f32⟩
  | .hbm, ⟨68, _⟩ => ⟨S8x2048x4x128, .f32⟩
  | .hbm, ⟨69, _⟩ => ⟨S8x2048x512, .f32⟩
  | .hbm, ⟨70, _⟩ => ⟨S512, .f32⟩
  | .hbm, ⟨71, _⟩ => ⟨S1x1x512, .f32⟩
  | .hbm, ⟨72, _⟩ => ⟨S8x2048x512, .f32⟩
  | .hbm, ⟨73, _⟩ => ⟨S8x2048x512, .f32⟩
  | .hbm, ⟨74, _⟩ => ⟨S32x512x512, .f32⟩
  | .hbm, ⟨75, _⟩ => ⟨S32x512x512, .f32⟩
  | .hbm, ⟨76, _⟩ => ⟨S16384x512, .f32⟩
  | .hbm, ⟨77, _⟩ => ⟨S16384x512, .bf16⟩
  | .hbm, ⟨78, _⟩ => ⟨S8x16x512, .f32⟩
  | .hbm, ⟨79, _⟩ => ⟨S_, .f32⟩
  | .hbm, ⟨80, _⟩ => ⟨S8x2048x512, .f32⟩
  | .hbm, ⟨81, _⟩ => ⟨S8x2048x512, .f32⟩
  | .hbm, ⟨82, _⟩ => ⟨S16384x512, .f32⟩
  | .hbm, ⟨83, _⟩ => ⟨S65536x128, .f32⟩
  | .hbm, ⟨84, _⟩ => ⟨S65536x128, .f32⟩
  | .hbm, ⟨85, _⟩ => ⟨S16384x512, .f32⟩
  | .hbm, ⟨86, _⟩ => ⟨S16384x512, .bf16⟩
  | .hbm, ⟨87, _⟩ => ⟨S32x512x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩

abbrev nD : Nat := 1
abbrev τ : Topo := Topo.v7x

variable {F : FTy → Type} [FloatOps F]
-- ==== Proof.Ops.lean ====
/- The pure steps of one head of the attention kernel: the query block with its position lanes, one key tile of
   the streaming softmax, and the normalised difference of the two halves. -/
module

public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe Idealize.SL.Sem

/-- The constant `1 / ln 2` as the kernel writes it. -/
abbrev logTwoE : Ideal .f32 := Named.named κ "log2e" 0x3FB8AA3B#32

/-- The masked score as the kernel writes it. -/
abbrev maskedScore : Ideal .f32 := Named.named κ "mask" 0xF149F2CA#32

/-- The mixing weight of the two halves. -/
def lamV (x4 x5 x6 x7 : Vec Ideal S1x64 .f32) : FVec Ideal S1x1 .f32 :=
  let dotOf (a b : Vec Ideal S1x64 .f32) : FVec Ideal S1x1 .f32 :=
    shapeCast S1x1
      (multiReduction .add [1] S1
        (mulf (shapeCast S1x64 a shapeCasts_S1x64_S1x64 : FVec Ideal S1x64 .f32)
          (shapeCast S1x64 b shapeCasts_S1x64_S1x64))
        0x00000000#32 reduces_S1x64_S1 (.inl rfl) rfl)
      shapeCasts_S1_S1x1
  addf (subf (exp (dotOf x4 x5)) (exp (dotOf x6 x7))) (broadcast S1x1 (Scalar.ofBits .f32 0x3E4CCCCD#32))

/-- The parity of the lane, as an integer vector over the key block. -/
def laneParity : IVec S512x128 32 :=
  let two := Scalar.select (Scalar.cmpi .eq 2#32 0#32) 1#32 2#32
  let r : IVec S512x128 32 := remsi (iota .tc S512x128 32 [1] iota_S512x128_d1_w32) (broadcast S512x128 two)
  select
    (andi
      (xori (cmpi .slt r (broadcast S512x128 0#32))
        (broadcastTo S512x128 (broadcast S512x128 (Scalar.cmpi .slt two 0#32)) broadcasts_S512x128_S512x128))
      (cmpi .ne r (broadcast S512x128 0#32)))
    (addi r (broadcast S512x128 two)) r

/-- The integer position lanes of a key block: the row split in a multiple of sixteen and a rest. -/
def posI : IVec S512x128 32 :=
  let row : IVec S512x128 32 := iota .tc S512x128 32 [0] iota_S512x128_d0_w32
  select (cmpi .slt (iota .tc S512x128 32 [1] iota_S512x128_d1_w32) (broadcast S512x128 6#32))
    (select (cmpi .eq laneParity (broadcast S512x128 0#32))
      (andi row (broadcast S512x128 4294967280#32)) (andi row (broadcast S512x128 15#32)))
    (broadcast S512x128 0#32)

/-- The position lanes of a key block. -/
def posF : FVec Ideal S512x128 .bf16 := truncf .bf16 (sitofp .f32 posI : FVec Ideal S512x128 .f32) bitsLt_bf16_f32

/-- The lane halved, rounded towards minus infinity. -/
def laneHalf : IVec S1024x128 32 :=
  let lane : IVec S1024x128 32 := iota .tc S1024x128 32 [1] iota_S1024x128_d1_w32
  let q : IVec S1024x128 32 := divsi lane (broadcast S1024x128 2#32)
  select
    (andi
      (cmpi .ne
        (subi (extui 32 (cmpi .sgt lane (broadcast S1024x128 0#32)) natLt_1_32)
          (extui 32 (cmpi .slt lane (broadcast S1024x128 0#32)) natLt_1_32))
        (broadcast S1024x128
          (Scalar.subi (Scalar.extui (Scalar.cmpi .sgt 2#32 0#32)) (Scalar.extui (Scalar.cmpi .slt 2#32 0#32)))))
      (cmpi .ne (remsi lane (broadcast S1024x128 2#32)) (broadcast S1024x128 0#32)))
    (subi q (broadcast S1024x128 1#32)) q

/-- The part of a value that its rounding keeps. -/
def kept (x : FVec Ideal S1024x128 .f32) : FVec Ideal S1024x128 .f32 :=
  extf .f32 (truncf .bf16 x bitsLt_bf16_f32) bitsLt_bf16_f32

/-- The slope of a head split over the position lanes of the query block, before it is narrowed. -/
def slopeWide (s : Ideal .f32) : FVec Ideal S1024x128 .f32 :=
  let w : FVec Ideal S1024x128 .f32 := broadcast S1024x128 s
  let w1 := subf w (kept w)
  let w2 := subf w1 (kept w1)
  select (cmpi .eq laneHalf (broadcast S1024x128 2#32)) (kept w2)
    (select (cmpi .eq laneHalf (broadcast S1024x128 1#32)) (kept w1)
      (select (cmpi .eq laneHalf (broadcast S1024x128 0#32)) (kept w)
        (broadcast S1024x128 (Scalar.ofBits .f32 0x00000000#32) : FVec Ideal S1024x128 .f32)))

/-- The lanes of a query block below a bound. -/
def lanesBelow : IVec S512x128 1 :=
  cmpi .slt (iota .tc S512x128 32 [1] iota_S512x128_d1_w32) (broadcast S512x128 64#32)

/-- The lanes of a query block from a bound on. -/
def lanesFrom : IVec S512x128 1 :=
  cmpi .sge (iota .tc S512x128 32 [1] iota_S512x128_d1_w32) (broadcast S512x128 64#32)

/-- A head's queries in the base of the exponentials, narrowed. -/
def scaled (q : Vec Ideal S1x512x128 .f32) : FVec Ideal S512x128 .bf16 :=
  truncf .bf16
    (mulf (shapeCast S512x128 q shapeCasts_S1x512x128_S512x128 : FVec Ideal S512x128 .f32)
      (broadcast S512x128 logTwoE)) bitsLt_bf16_f32

/-- A block of zeros. -/
def zeros : FVec Ideal S512x128 .bf16 := broadcast S512x128 (Scalar.ofBits .bf16 0x0000#16)

/-- The query block: each half's lanes in its own rows, the slope's lanes beside them. -/
def queries (q : Vec Ideal S1x512x128 .f32) (s : Ideal .f32) : FVec Ideal S1024x256 .bf16 :=
  concatenate S1024x256 1
    [⟨S1024x128, concatenate S1024x128 0
        [⟨S512x128, select lanesBelow (scaled q) zeros⟩, ⟨S512x128, select lanesFrom (scaled q) zeros⟩]
        concatenates_S512x128_S512x128_S1024x128_d0⟩,
     ⟨S1024x128, truncf .bf16 (slopeWide s) bitsLt_bf16_f32⟩]
    concatenates_S1024x128_S1024x128_S1024x256_d1

/-- The scores of one key tile, keys down and queries across. -/
def scores (k : Vec Ideal S1x512x128 .bf16) (qq : FVec Ideal S1024x256 .bf16) : FVec Ideal S512x1024 .f32 :=
  matmul dot_S512x256_S1024x256_S512x1024_1_1_0_0_n_n none
    (concatenate S512x256 1
      [⟨S512x128, shapeCast S512x128 k shapeCasts_S1x512x128_S512x128⟩, ⟨S512x128, posF⟩]
      concatenates_S512x128_S512x128_S512x256_d1)
    qq (constant S512x1024 .f32 0x00000000#32)

/-- The diagonal tile's scores with the later keys masked. -/
def maskScores (st : FVec Ideal S512x1024 .f32) : FVec Ideal S512x1024 .f32 :=
  let col : IVec S512x1024 32 := iota .tc S512x1024 32 [1] iota_S512x1024_d1_w32
  select
    (cmpi .sge
      (select (cmpi .sge col (broadcast S512x1024 512#32)) (subi col (broadcast S512x1024 512#32)) col)
      (subi (iota .tc S512x1024 32 [0] iota_S512x1024_d0_w32) (broadcast S512x1024 0#32)))
    st (broadcast S512x1024 maskedScore)

/-- The offset of tile `j` seen from query tile `n`. -/
def offset (s : Ideal .f32) (j n : BitVec 32) : Ideal .f32 :=
  Scalar.mulf s (Scalar.sitofp .f32 (Scalar.muli (Scalar.subi j n) 512#32))

/-- The running maximum after one tile. -/
def stepM (m : FVec Ideal S1x1024 .f32) (st : FVec Ideal S512x1024 .f32) (off : Ideal .f32) :
    FVec Ideal S1x1024 .f32 :=
  maximumf m
    (addf
      (shapeCast S1x1024
        (multiReduction .maximumf [0] S1024 st 0xFF800000#32 reduces_S512x1024_S1024 (.inl rfl) rfl)
        shapeCasts_S1024_S1x1024 : FVec Ideal S1x1024 .f32)
      (broadcast S1x1024 off))

/-- The values of one key tile above sixteen rows of ones. -/
def values (v : Vec Ideal S1x128x512 .bf16) : FVec Ideal S144x512 .bf16 :=
  concatenate S144x512 0
    [⟨S128x512, shapeCast S128x512 v shapeCasts_S1x128x512_S128x512⟩,
     ⟨S16x512, (broadcast S16x512 (Scalar.ofBits .bf16 0x3F80#16) : FVec Ideal S16x512 .bf16)⟩]
    concatenates_S128x512_S16x512_S144x512_d0

/-- The weights of one tile under the new maximum. -/
def weights (m' : FVec Ideal S1x1024 .f32) (st : FVec Ideal S512x1024 .f32) (off : Ideal .f32) :
    FVec Ideal S512x1024 .bf16 :=
  truncf .bf16
    (exp2 (subf st
      (broadcastTo S512x1024 (subf m' (broadcast S1x1024 off)) broadcasts_S1x1024_S512x1024)))
    bitsLt_bf16_f32

/-- The accumulator after one tile: the weighted values, with the sum of the weights below. -/
def stepA (m : FVec Ideal S1x1024 .f32) (a : FVec Ideal S144x1024 .f32) (st : FVec Ideal S512x1024 .f32)
    (off : Ideal .f32) (v : Vec Ideal S1x128x512 .bf16) : FVec Ideal S144x1024 .f32 :=
  addf
    (mulf (broadcastTo S144x1024 (exp2 (subf m (stepM m st off))) broadcasts_S1x1024_S144x1024) a)
    (matmul dot_S144x512_S512x1024_S144x1024_1_0_0_1_n_n none (values v) (weights (stepM m st off) st off)
      (constant S144x1024 .f32 0x00000000#32))

/-- The difference of the two halves' averages, queries down. -/
def mixed (a : FVec Ideal S144x1024 .f32) (lam : FVec Ideal S1x1 .f32) : FVec Ideal S512x128 .f32 :=
  let o : FVec Ideal S128x1024 .f32 :=
    divf (extractStridedSlice S128x1024 ![0, 0] a slices_S144x1024_o0_0_S128x1024)
      (broadcastTo S128x1024 (extractStridedSlice S1x1024 ![128, 0] a slices_S144x1024_o128_0_S1x1024)
        broadcasts_S1x1024_S128x1024)
  transpose S512x128 [1, 0]
    (subf (extractStridedSlice S128x512 ![0, 0] o slices_S128x1024_o0_0_S128x512)
      (mulf (broadcastTo S128x512 lam broadcasts_S1x1_S128x512)
        (extractStridedSlice S128x512 ![0, 512] o slices_S128x1024_o0_512_S128x512)))
    transposes_S128x512_p1_0_S512x128

/-- The kernel's root-mean-square normalisation of a head's rows, as it is stored. -/
def normed (x : FVec Ideal S512x128 .f32) (g : Vec Ideal S1x128 .f32) : FVec Ideal S1x512x128 .bf16 :=
  let ms : FVec Ideal S512x1 .f32 :=
    divf
      (shapeCast S512x1
        (multiReduction .add [1] S512 (mulf x x) 0x00000000#32 reduces_S512x128_S512 (.inl rfl) rfl)
        shapeCasts_S512_S512x1)
      (broadcast S512x1 (Scalar.ofBits .f32 0x43000000#32))
  let r : FVec Ideal S512x1 .f32 := rsqrt (addf ms (broadcast S512x1 (Scalar.ofBits .f32 0x358637BD#32)))
  shapeCast S1x512x128
    (truncf .bf16
      (mulf
        (mulf (mulf x (broadcastTo S512x128 r broadcasts_S512x1_S512x128))
          (broadcastTo S512x128 (shapeCast S1x128 g shapeCasts_S1x128_S1x128 : FVec Ideal S1x128 .f32)
            broadcasts_S1x128_S512x128))
        (broadcast S512x128 (Scalar.ofBits .f32 0x3F4CCCCD#32)))
      bitsLt_bf16_f32)
    shapeCasts_S512x128_S1x512x128

/-- The maximum before the first tile. -/
def startM : FVec Ideal S1x1024 .f32 := broadcast S1x1024 maskedScore

/-- The accumulator before the first tile. -/
def startA : FVec Ideal S144x1024 .f32 := broadcast S144x1024 (Scalar.ofBits .f32 0x00000000#32)

end Cert.Attn
-- ==== Proof.Trip.lean ====
/- One trip of the kernel's loop over the earlier key tiles: a step of the streaming softmax for each head. -/
module

public import proofs.«01_k».proof.Proof.Ops

@[expose] public section

set_option maxRecDepth 16384

noncomputable section

namespace Cert.Attn

open Cert.KernelIdeal Cert.KernelIdeal.Gen Idealize.ShloMosaic Idealize.ShloMosaic.TcCoe Idealize.SL.Sem

/-- A head's running maximum and accumulator. -/
abbrev HeadSt : Type := FVec Ideal S1x1024 .f32 × FVec Ideal S144x1024 .f32

/-- What the loop carries: the four heads' maxima and accumulators. -/
abbrev St : Type :=
  FVec Ideal S1x1024 .f32 × FVec Ideal S144x1024 .f32 × FVec Ideal S1x1024 .f32 × FVec Ideal S144x1024 .f32 ×
    FVec Ideal S1x1024 .f32 × FVec Ideal S144x1024 .f32 × FVec Ideal S1x1024 .f32 × FVec Ideal S144x1024 .f32

/-- One tile's step of one head. -/
def headStep (p : HeadSt) (st : FVec Ideal S512x1024 .f32) (off : Ideal .f32) (v : Vec Ideal S1x128x512 .bf16) :
    HeadSt :=
  (stepM p.1 st off, stepA p.1 p.2 st off v)

/-- The four heads side by side, as the loop carries them. -/
def pack (p0 p1 p2 p3 : HeadSt) : St := (p0.1, p0.2, p1.1, p1.2, p2.1, p2.2, p3.1, p3.2)

/-- The carried state split by heads again. -/
def unpack (a : St) : Fin 4 → HeadSt :=
  ![(a.1, a.2.1), (a.2.2.1, a.2.2.2.1), (a.2.2.2.2.1, a.2.2.2.2.2.1), (a.2.2.2.2.2.2.1, a.2.2.2.2.2.2.2)]

/-- The number of the tile of trip `k`. -/
def tileNo {n : Nat} (k : Fin n) : BitVec 32 := Scalar.muli (Scf.iv 0#32 1#32 k) 1#32

/-- A trip's result: every head takes the step of the trip's tile. -/
theorem trip_eq (𝒱 : Variants) (c : Dev nD) (bd : Option 𝒱.V) (i : grid0.Coords) (arg3 : Memref sig .tc .smem S4 .f32)
    (harg3 : arg3.IsWhole) (arg4 : Memref sig .tc .vmem S1x512x512 .f32) (harg4 : arg4.IsWhole) (arg5 : Memref sig
    .tc .vmem S1x2048x512 .bf16) (harg5 : arg5.IsWhole) (arg6 : Memref sig .tc .vmem S4x512x512 .bf16)
    (harg6 : arg6.IsWhole) (arg7 : Memref sig .tc .vmem S1x64 .f32) (harg7 : arg7.IsWhole) (arg8 : Memref sig .tc
    .vmem S1x64 .f32) (harg8 : arg8.IsWhole) (arg9 : Memref sig .tc .vmem S1x64 .f32) (harg9 : arg9.IsWhole)
    (arg10 : Memref sig .tc .vmem S1x64 .f32) (harg10 : arg10.IsWhole) (arg11 : Memref sig .tc .vmem S1x128 .f32)
    (harg11 : arg11.IsWhole) (arg12 : Memref sig .tc .vmem S1x512x512 .bf16) (harg12 : arg12.IsWhole)
    (arg2 : BitVec 32) (q : Fin 4 → Vec Ideal S1x512x128 .f32) (s : Fin 4 → Ideal .f32) (X_arg5 : BufTy.Contents
    (Elt Ideal) arg5.view.ty) (X_arg6 : BufTy.Contents (Elt Ideal) arg6.view.ty)
    (k : Fin (k0_t1_loop i).trips) (acc : St) :
    (trip_k0_t1 (F := Ideal) 𝒱 c bd i arg3 harg3 arg4 harg4 arg5 harg5 arg6 harg6 arg7 harg7 arg8 harg8 arg9 harg9 arg10 harg10
        arg11 harg11 arg12 harg12 arg2 posF (s 0) (queries (q 0) (s 0)) (s 1) (queries (q 1) (s 1)) (s 2)
        (queries (q 2) (s 2)) (s 3) (slopeWide (s 3)) (scaled (q 3)) zeros (select lanesBelow (scaled (q 3)) zeros) lanesFrom
        X_arg5 X_arg6 k).1 acc =
      pack
        (headStep (unpack acc 0)
            (scores (View.readAt (Elt Ideal) arg5.view
              (Rect.unit (s := S1x2048x512) (k0_off2 i k) S1x512x128.size (k0_off2_inb i k)).toLoadRect X_arg5)
              (queries (q 0) (s 0)))
            (offset (s 0) (tileNo k) arg2)
            (View.readAt (Elt Ideal) arg6.view
              (Rect.unit (s := S4x512x512) (k0_off3 i k) S1x128x512.size (k0_off3_inb i k)).toLoadRect X_arg6))
        (headStep (unpack acc 1)
            (scores (View.readAt (Elt Ideal) arg5.view
              (Rect.unit (s := S1x2048x512) (k0_off4 i k) S1x512x128.size (k0_off4_inb i k)).toLoadRect X_arg5)
              (queries (q 1) (s 1)))
            (offset (s 1) (tileNo k) arg2)
            (View.readAt (Elt Ideal) arg6.view
              (Rect.unit (s := S4x512x512) (k0_off5 i k) S1x128x512.size (k0_off5_inb i k)).toLoadRect X_arg6))
        (headStep (unpack acc 2)
            (scores (View.readAt (Elt Ideal) arg5.view
              (Rect.unit (s := S1x2048x512) (k0_off6 i k) S1x512x128.size (k0_off6_inb i k)).toLoadRect X_arg5)
              (queries (q 2) (s 2)))
            (offset (s 2) (tileNo k) arg2)
            (View.readAt (Elt Ideal) arg6.view
              (Rect.unit (s := S4x512x512) (k0_off7 i k) S1x128x512.size (k0_off7_inb i k)).toLoadRect X_arg6))
        (headStep (unpack acc 3)
            (scores (View.readAt (Elt Ideal) arg5.view
              (Rect.unit (s := S1x2048x512) (k0_off8 i k) S1x512x128.size (k0_off8_inb i k)).toLoadRect X_arg5)
              (queries (q 3) (s 3)))
            (offset (s 3) (tileNo k) arg2)
            (View.readAt (Elt Ideal) arg6.view
              (Rect.unit (s := S4x512x512) (k0_off9 i k) S1x128x512.size (k0_off9_inb i k)).toLoadRect X_arg6)) := by
  unfold trip_k0_t1
  dsimp only
  sl_unfold_words
  rfl

end Cert.Attn
-- ==== Proof.Block.lean ====
/- One block of the attention kernel as a function of the blocks it reads: the loop over the earlier key tiles,
   the diagonal tile, and the four stored heads. -/
module
public import proofs.«01_k».proof.Proof.Trip
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The lane of the flat row that holds lane `l` of head `h`. -/
def flatLane (h : Fin 4) (l : Fin 128) : Fin 512 := ⟨128 * h.val + l.val, by omega⟩

/-- Head `h`'s slope in the base of the exponentials. -/
def slopeIn (x0 : Vec Ideal S4 .f32) (h : Fin 4) : Ideal .f32 := Scalar.mulf (x0 (ix1 h)) logTwoE

/-- Head `h`'s queries in the staged block. -/
def queryIn (x1 : Vec Ideal S1x512x512 .f32) (h : Fin 4) : Vec Ideal S1x512x128 .f32 :=
  fun a => x1 (ix3 (0 : Fin 1) (a 1) (flatLane h (a 2)))

/-- Tile `j` of head `h`'s keys. -/
def keyTile (x2 : Vec Ideal S1x2048x512 .bf16) (h : Fin 4) (j : ℕ) : Vec Ideal S1x512x128 .bf16 :=
  fun a => x2 (ix3 (0 : Fin 1) (⟨(512 * j + (a 1).val) % 2048, Nat.mod_lt _ (by decide)⟩ : Fin 2048) (flatLane h (a 2)))

/-- Tile `j` of head `h`'s values. -/
def valTile (x3 : Vec Ideal S4x512x512 .bf16) (h : Fin 4) (j : ℕ) : Vec Ideal S1x128x512 .bf16 :=
  fun a => x3 (ix3 (⟨j % 4, Nat.mod_lt _ (by decide)⟩ : Fin 4) (flatLane h (a 1)) (a 2))

/-- Head `h` after the first tiles, seen from query tile `n`. -/
def earlier (x0 : Vec Ideal S4 .f32) (x1 : Vec Ideal S1x512x512 .f32) (x2 : Vec Ideal S1x2048x512 .bf16)
    (x3 : Vec Ideal S4x512x512 .bf16) (n : BitVec 32) (h : Fin 4) : ℕ → HeadSt
  | 0 => (startM, startA)
  | j + 1 =>
    headStep (earlier x0 x1 x2 x3 n h j)
      (scores (keyTile x2 h j) (queries (queryIn x1 h) (slopeIn x0 h)))
      (offset (slopeIn x0 h) (Scalar.muli (Scf.iv 0#32 1#32 j) 1#32) n) (valTile x3 h j)

/-- Head `h` after the diagonal tile of query tile `n`. -/
def whole (x0 : Vec Ideal S4 .f32) (x1 : Vec Ideal S1x512x512 .f32) (x2 : Vec Ideal S1x2048x512 .bf16)
    (x3 : Vec Ideal S4x512x512 .bf16) (n : ℕ) (h : Fin 4) : HeadSt :=
  headStep (earlier x0 x1 x2 x3 (BitVec.ofNat 32 n) h n)
    (maskScores (scores (keyTile x2 h n) (queries (queryIn x1 h) (slopeIn x0 h))))
    (offset (slopeIn x0 h) (Scalar.subi (BitVec.ofNat 32 n) 0#32) (BitVec.ofNat 32 n)) (valTile x3 h n)

/-- The stored rows of head `h`. -/
def headOut (x0 : Vec Ideal S4 .f32) (x1 : Vec Ideal S1x512x512 .f32) (x2 : Vec Ideal S1x2048x512 .bf16)
    (x3 : Vec Ideal S4x512x512 .bf16) (x4 x5 x6 x7 : Vec Ideal S1x64 .f32) (x8 : Vec Ideal S1x128 .f32)
    (n : ℕ) (h : Fin 4) : FVec Ideal S1x512x128 .bf16 :=
  normed (mixed (whole x0 x1 x2 x3 n h).2 (lamV x4 x5 x6 x7)) x8

/-- The block the kernel leaves for query tile `n`. -/
def blockOut (x0 : Vec Ideal S4 .f32) (x1 : Vec Ideal S1x512x512 .f32) (x2 : Vec Ideal S1x2048x512 .bf16)
    (x3 : Vec Ideal S4x512x512 .bf16) (x4 x5 x6 x7 : Vec Ideal S1x64 .f32) (x8 : Vec Ideal S1x128 .f32)
    (n : ℕ) : Vec Ideal S1x512x512 .bf16 :=
  fun a => headOut x0 x1 x2 x3 x4 x5 x6 x7 x8 n (⟨(a 2).val / 128, by have := (a 2).isLt; change (a 2).val < 512 at this; omega⟩ : Fin 4)
    (ix3 (0 : Fin 1) (a 1) (⟨(a 2).val % 128, Nat.mod_lt _ (by decide)⟩ : Fin 128))

/-! ## Loads of part of a staged block -/

/-- A load of part of a whole staged block reads the block at the shifted index. -/
theorem load_part {s : Shape} {e : EltTy} {sp} {M : Memref sig .tc sp s e} (hM : M.IsWhole) (x : Vec Ideal s e)
    (off size : Fin s.rank → ℕ) (inb) :
    View.readAt (Elt Ideal) M.view (Rect.unit (s := s) off size inb).toLoadRect (hM.unread x) =
      View.ld x (Rect.unit (s := s) off size inb) := by
  rw [View.readAt_eq_ld, hM.read_unread]

theorem load_query (x : Vec Ideal S1x512x512 .f32) (h : Fin 4) {off : Fin S1x512x512.rank → ℕ} (hoff : off = ![0, 0, 128 * h.val]) (inb) :
    View.ld (Val := Elt Ideal) (e' := .f32) x (Rect.unit (s := S1x512x512) off S1x512x128.size inb) = queryIn x h := by
  subst hoff
  funext a
  refine congrArg x (funext fun b => Fin.ext ?_)
  have h1 := (a 1).isLt
  match b with
  | ⟨0, _⟩ => show 0 + 1 * (a 0).val = 0; have := (a 0).isLt; change (a 0).val < 1 at this; omega
  | ⟨1, _⟩ => show 0 + 1 * (a 1).val = (a 1).val; omega
  | ⟨2, _⟩ => show 128 * h.val + 1 * (a 2).val = 128 * h.val + (a 2).val; omega

theorem load_key (x : Vec Ideal S1x2048x512 .bf16) (h : Fin 4) (j : ℕ) (hj : j < 4) {off : Fin S1x2048x512.rank → ℕ} (hoff : off = ![0, 512 * j, 128 * h.val]) (inb) :
    View.ld (Val := Elt Ideal) (e' := .bf16) x (Rect.unit (s := S1x2048x512) off S1x512x128.size inb) = keyTile x h j := by
  subst hoff
  funext a
  refine congrArg x (funext fun b => Fin.ext ?_)
  have h1 := (a 1).isLt
  match b with
  | ⟨0, _⟩ => show 0 + 1 * (a 0).val = 0; have := (a 0).isLt; change (a 0).val < 1 at this; omega
  | ⟨1, _⟩ => show 512 * j + 1 * (a 1).val = (512 * j + (a 1).val) % 2048; change (a 1).val < 512 at h1; omega
  | ⟨2, _⟩ => show 128 * h.val + 1 * (a 2).val = 128 * h.val + (a 2).val; omega

theorem load_val (x : Vec Ideal S4x512x512 .bf16) (h : Fin 4) (j : ℕ) (hj : j < 4) {off : Fin S4x512x512.rank → ℕ} (hoff : off = ![j, 128 * h.val, 0]) (inb) :
    View.ld (Val := Elt Ideal) (e' := .bf16) x (Rect.unit (s := S4x512x512) off S1x128x512.size inb) = valTile x h j := by
  subst hoff
  funext a
  refine congrArg x (funext fun b => Fin.ext ?_)
  have h1 := (a 1).isLt
  match b with
  | ⟨0, _⟩ => show j + 1 * (a 0).val = j % 4; have := (a 0).isLt; change (a 0).val < 1 at this; omega
  | ⟨1, _⟩ => show 128 * h.val + 1 * (a 1).val = 128 * h.val + (a 1).val; omega
  | ⟨2, _⟩ => show 0 + 1 * (a 2).val = (a 2).val; omega

theorem load_slope (x : Vec Ideal S4 .f32) (h : Fin 4) {off : Fin S4.rank → ℕ} (hoff : off = ![h.val]) (inb) (a) :
    View.ld (Val := Elt Ideal) (e' := .f32) x (Rect.unit (s := S4) off S1.size inb) a = x (ix1 h) := by
  subst hoff
  refine congrArg x (funext fun b => Fin.ext ?_)
  match b with
  | ⟨0, _⟩ => show h.val + 1 * (a 0).val = h.val; have := (a 0).isLt; change (a 0).val < 1 at this; omega

/-- The loop over the earlier tiles makes as many trips as there are earlier tiles. -/
theorem trips1 : ∀ i : grid0.Coords,
    Scf.trips (k0_t1_loop i).lb (k0_t1_loop i).ub (k0_t1_loop i).st = (i 2).val := by decide +kernel

/-- The remainder loop makes no trip. -/
theorem trips2 : ∀ i : grid0.Coords,
    Scf.trips (k0_t2_loop i).lb (k0_t2_loop i).ub (k0_t2_loop i).st = 0 := by decide +kernel

theorem off2_eq : ∀ (i : grid0.Coords) (k : Fin (k0_t1_loop i).trips),
    k0_off2 i k = ![0, 512 * k.val, 128 * ((0 : Fin 4) : ℕ)] := by decide +kernel
theorem off3_eq : ∀ (i : grid0.Coords) (k : Fin (k0_t1_loop i).trips),
    k0_off3 i k = ![k.val, 128 * ((0 : Fin 4) : ℕ), 0] := by decide +kernel
theorem off18_eq : ∀ (i : grid0.Coords),
    k0_off18 i = ![0, 512 * (i 2).val, 128 * ((0 : Fin 4) : ℕ)] := by decide +kernel
theorem off19_eq : ∀ (i : grid0.Coords),
    k0_off19 i = ![(i 2).val, 128 * ((0 : Fin 4) : ℕ), 0] := by decide +kernel
theorem off1_eq0 : ∀ (i : grid0.Coords), k0_off1 i 0#32 = ![((0 : Fin 4) : ℕ)] := by decide +kernel
theorem off4_eq : ∀ (i : grid0.Coords) (k : Fin (k0_t1_loop i).trips),
    k0_off4 i k = ![0, 512 * k.val, 128 * ((1 : Fin 4) : ℕ)] := by decide +kernel
theorem off5_eq : ∀ (i : grid0.Coords) (k : Fin (k0_t1_loop i).trips),
    k0_off5 i k = ![k.val, 128 * ((1 : Fin 4) : ℕ), 0] := by decide +kernel
theorem off20_eq : ∀ (i : grid0.Coords),
    k0_off20 i = ![0, 512 * (i 2).val, 128 * ((1 : Fin 4) : ℕ)] := by decide +kernel
theorem off21_eq : ∀ (i : grid0.Coords),
    k0_off21 i = ![(i 2).val, 128 * ((1 : Fin 4) : ℕ), 0] := by decide +kernel
theorem off1_eq1 : ∀ (i : grid0.Coords), k0_off1 i 1#32 = ![((1 : Fin 4) : ℕ)] := by decide +kernel
theorem off6_eq : ∀ (i : grid0.Coords) (k : Fin (k0_t1_loop i).trips),
    k0_off6 i k = ![0, 512 * k.val, 128 * ((2 : Fin 4) : ℕ)] := by decide +kernel
theorem off7_eq : ∀ (i : grid0.Coords) (k : Fin (k0_t1_loop i).trips),
    k0_off7 i k = ![k.val, 128 * ((2 : Fin 4) : ℕ), 0] := by decide +kernel
theorem off22_eq : ∀ (i : grid0.Coords),
    k0_off22 i = ![0, 512 * (i 2).val, 128 * ((2 : Fin 4) : ℕ)] := by decide +kernel
theorem off23_eq : ∀ (i : grid0.Coords),
    k0_off23 i = ![(i 2).val, 128 * ((2 : Fin 4) : ℕ), 0] := by decide +kernel
theorem off1_eq2 : ∀ (i : grid0.Coords), k0_off1 i 2#32 = ![((2 : Fin 4) : ℕ)] := by decide +kernel
theorem off8_eq : ∀ (i : grid0.Coords) (k : Fin (k0_t1_loop i).trips),
    k0_off8 i k = ![0, 512 * k.val, 128 * ((3 : Fin 4) : ℕ)] := by decide +kernel
theorem off9_eq : ∀ (i : grid0.Coords) (k : Fin (k0_t1_loop i).trips),
    k0_off9 i k = ![k.val, 128 * ((3 : Fin 4) : ℕ), 0] := by decide +kernel
theorem off24_eq : ∀ (i : grid0.Coords),
    k0_off24 i = ![0, 512 * (i 2).val, 128 * ((3 : Fin 4) : ℕ)] := by decide +kernel
theorem off25_eq : ∀ (i : grid0.Coords),
    k0_off25 i = ![(i 2).val, 128 * ((3 : Fin 4) : ℕ), 0] := by decide +kernel
theorem off1_eq3 : ∀ (i : grid0.Coords), k0_off1 i 3#32 = ![((3 : Fin 4) : ℕ)] := by decide +kernel

end Cert.Attn
-- ==== Proof.Read.lean ====
/- The pure steps of the attention kernel read at one element. -/
module
public import proofs.«01_k».proof.Proof.Block

@[expose] public section

set_option maxRecDepth 16384

noncomputable section

namespace Cert.Attn

open Cert.KernelIdeal Cert.KernelIdeal.Gen Idealize.ShloMosaic Idealize.ShloMosaic.TcCoe Idealize.SL.Sem

/-- The base change of the exponentials, a real number. -/
abbrev log2e : ℝ := (Real.log 2)⁻¹

theorem logTwoE_eq : logTwoE = ((log2e : ℝ) : EReal) := rfl

theorem maskedScore_eq : maskedScore = (⊥ : EReal) := rfl

theorem negInf_word : Ideal.ofBits .f32 0xFF800000#32 = (⊥ : EReal) := by simp [Ideal.ofBits, Ideal.ieee]

/-- Half the lane number, as computed by the kernel. -/
theorem laneHalf_apply (c : Fin 1024) (l : Fin 128) : laneHalf (ix2 c l) = BitVec.ofNat 32 (l.val / 2) := by
  pointwise [laneHalf]
  revert l
  decide +kernel

/-- A real slope fills the two lowest lanes and leaves no remainder for the others. -/
theorem slopeWide_apply (s : ℝ) (c : Fin 1024) (l : Fin 128) :
    slopeWide (s : EReal) (ix2 c l) = if l.val < 2 then (s : EReal) else 0 := by
  pointwise [slopeWide, kept]
  rw [laneHalf_apply]
  have hs : (s : EReal) - (s : EReal) = 0 := by rw [← EReal.coe_sub, sub_self]; rfl
  rw [hs, sub_zero]
  have h2 : ∀ l : Fin 128, (IntOp.cmpi CmpIPredicate.eq (BitVec.ofNat 32 (l.val / 2)) 0#32 = (1 : BitVec 1)) ↔ l.val < 2 := by
    decide +kernel
  simp only [Scalar.select, ite_self]
  by_cases hl : l.val < 2
  · have h0 := (h2 l).mpr hl
    have h1 : ∀ l : Fin 128, l.val < 2 → IntOp.cmpi CmpIPredicate.eq (BitVec.ofNat 32 (l.val / 2)) 1#32 = 0#1 ∧
        IntOp.cmpi CmpIPredicate.eq (BitVec.ofNat 32 (l.val / 2)) 2#32 = 0#1 := by decide +kernel
    rw [if_pos hl, h0, (h1 l hl).1, (h1 l hl).2]
    rfl
  · rw [if_neg hl, if_neg (fun h => hl ((h2 l).mp h))]
    simp

/-- The parity of the lane, as computed by the kernel. -/
theorem laneParity_apply (r : Fin 512) (l : Fin 128) : laneParity (ix2 r l) = BitVec.ofNat 32 (l.val % 2) := by
  pointwise [laneParity]
  revert l
  decide +kernel

/-- The position lanes: the row's multiple of sixteen and its rest, alternating. -/
theorem posF_apply (r : Fin 512) (l : Fin 128) :
    posF (ix2 r l) = (((if l.val < 6 then (if l.val % 2 = 0 then 16 * (r.val / 16) else r.val % 16) else 0 : ℕ) : ℝ) : EReal) := by
  pointwise [posF, posI]
  rw [laneParity_apply]
  have h1 : ∀ r : Fin 512, (IntOp.andi (BitVec.ofNat 32 r.val) 4294967280#32).toInt = ((16 * (r.val / 16) : ℕ) : ℤ) ∧
    (IntOp.andi (BitVec.ofNat 32 r.val) 15#32).toInt = ((r.val % 16 : ℕ) : ℤ) := by decide +kernel
  have h2 : ∀ l : Fin 128, ((IntOp.cmpi CmpIPredicate.slt (BitVec.ofNat 32 l.val) 6#32 = 1) ↔ l.val < 6) ∧
    ((IntOp.cmpi CmpIPredicate.eq (BitVec.ofNat 32 (l.val % 2)) 0#32 = 1) ↔ l.val % 2 = 0) := by decide +kernel
  show (((BitVec.toInt _ : ℤ) : ℝ) : EReal) = _
  simp only [Scalar.select, (h2 l).1, (h2 l).2]
  split_ifs
  · rw [(h1 r).1]; norm_cast
  · rw [(h1 r).2]; norm_cast
  · simp

/-- The position lanes against the slope's lanes add up to the slope times the row. -/
theorem lanes_sum (s : ℝ) (r : Fin 512) (c : Fin 1024) :
    ∑ l : Fin 128, posF (ix2 r l) * slopeWide (s : EReal) (ix2 c l) = ((s * (r.val : ℝ) : ℝ) : EReal) := by
  have hterm : ∀ l : Fin 128, posF (ix2 r l) * slopeWide (s : EReal) (ix2 c l) =
      if l.val = 0 then (((16 * (r.val / 16) : ℕ) : ℝ) : EReal) * s
      else if l.val = 1 then (((r.val % 16 : ℕ) : ℝ) : EReal) * s else 0 := by
    intro l
    rw [posF_apply, slopeWide_apply]
    rcases l with ⟨l, hl⟩
    match l with
    | 0 => rfl
    | 1 => rfl
    | l + 2 => simp
  rw [Finset.sum_congr rfl fun l _ => hterm l, Fin.sum_univ_succ, Fin.sum_univ_succ,
    Finset.sum_eq_zero (fun x _ => by simp [Fin.val_succ])]
  simp only [Fin.val_zero, Fin.val_succ, if_true, zero_add, one_ne_zero, if_false, add_zero]
  rw [← EReal.coe_mul, ← EReal.coe_mul, ← EReal.coe_add, ← add_mul, mul_comm s]
  congr 2
  exact_mod_cast Nat.div_add_mod r.val 16

/-- The half of the head a column belongs to. -/
def half (c : Fin 1024) : Fin 2 := ⟨c.val / 512, by omega⟩

/-- The query row of a column. -/
def qrow (c : Fin 1024) : Fin 512 := ⟨c.val % 512, by omega⟩

/-- The lane of the head that holds entry `d` of half `p`. -/
def halfLane (p : Fin 2) (d : Fin 64) : Fin 128 := ⟨64 * p.val + d.val, by omega⟩

/-- The two lane masks. -/
theorem lanes_masks (r : Fin 512) (l : Fin 128) :
    (lanesBelow (ix2 r l) = (1 : BitVec 1) ↔ l.val < 64) ∧ (lanesFrom (ix2 r l) = (1 : BitVec 1) ↔ 64 ≤ l.val) := by
  pointwise [lanesBelow, lanesFrom]
  revert l
  decide +kernel

/-- One score of a key tile: the half's product in the base of the exponentials and the slope times the row. -/
theorem scores_apply (k : Vec Ideal S1x512x128 .bf16) (q : Vec Ideal S1x512x128 .f32) (s : ℝ) (r : Fin 512)
    (c : Fin 1024) :
    scores k (queries q (s : EReal)) (ix2 r c) =
      ∑ d : Fin 64, k (ix3 0 r (halfLane (half c) d)) * (q (ix3 0 (qrow c) (halfLane (half c) d)) * (log2e : EReal)) +
        ((s * (r.val : ℝ) : ℝ) : EReal) := by
  have hq : ∀ (l : Fin 128), queries q (s : EReal) (ix2 c ⟨l.val, by omega⟩) =
      if l.val / 64 = c.val / 512 then q (ix3 0 (qrow c) l) * (log2e : EReal) else 0 := by
    intro l
    pointwise [queries, scaled]
    by_cases hc : c.val < 512
    · rw [dif_pos hc]
      have e : (⟨c.val, hc⟩ : Fin 512) = qrow c := Fin.ext (Nat.mod_eq_of_lt hc).symm
      have hm := (lanes_masks (qrow c) l).1
      rw [e]
      by_cases hl : l.val < 64
      · rw [hm.mpr hl, if_pos (by omega)]; rfl
      · rw [if_neg (by omega)]
        show ite _ _ _ = _
        rw [if_neg (fun h => hl (hm.mp h))]
        show Ideal.ofBits .bf16 0x0000#16 = 0
        simp [Ideal.ofBits, Ideal.ieee]
    · rw [dif_neg hc]
      have e : (⟨c.val - 512, by omega⟩ : Fin 512) = qrow c := Fin.ext (by show c.val - 512 = c.val % 512; omega)
      have hm := (lanes_masks (qrow c) l).2
      rw [e]
      by_cases hl : 64 ≤ l.val
      · rw [hm.mpr hl, if_pos (by omega)]; rfl
      · rw [if_neg (by omega)]
        show ite _ _ _ = _
        rw [if_neg (fun h => hl (hm.mp h))]
        show Ideal.ofBits .bf16 0x0000#16 = 0
        simp [Ideal.ofBits, Ideal.ieee]
  have hw : ∀ (l : Fin 128), queries q (s : EReal) (ix2 c ⟨128 + l.val, by omega⟩) = slopeWide (s : EReal) (ix2 c l) := by
    intro l
    pointwise [queries]
  pointwise [scores]
  refine congrArg₂ (· + ·) ?_ ?_
  · rw [Finset.sum_congr rfl fun l _ => by rw [hq l]]
    have hsplit : ∀ f : Fin 128 → EReal, ∑ l, f l = ∑ d : Fin 64, f (halfLane 0 d) + ∑ d : Fin 64, f (halfLane 1 d) :=
      fun f => (Fin.sum_univ_add (a := 64) (b := 64) f).trans (by
        refine congrArg₂ (· + ·) (Finset.sum_congr rfl fun d _ => congrArg f (Fin.ext ?_))
          (Finset.sum_congr rfl fun d _ => congrArg f (Fin.ext ?_))
        · show d.val = 64 * 0 + d.val; omega
        · show 64 + d.val = 64 * 1 + d.val; omega)
    rw [hsplit]
    by_cases hc : c.val < 512
    · have h0 : half c = 0 := Fin.ext (by show c.val / 512 = 0; omega)
      rw [h0]
      rw [Finset.sum_eq_zero (s := Finset.univ) (f := fun d : Fin 64 => _ * ite ((halfLane 1 d).val / 64 = c.val / 512) _ _)
        (fun d _ => by
          rw [if_neg (by show ¬ (64 * 1 + d.val) / 64 = c.val / 512; omega), mul_zero]), add_zero]
      refine Finset.sum_congr rfl fun d _ => ?_
      rw [if_pos (by show (64 * 0 + d.val) / 64 = c.val / 512; omega)]
    · have h0 : half c = 1 := Fin.ext (by show c.val / 512 = 1; omega)
      rw [h0]
      rw [Finset.sum_eq_zero (s := Finset.univ) (f := fun d : Fin 64 => _ * ite ((halfLane 0 d).val / 64 = c.val / 512) _ _)
        (fun d _ => by
          rw [if_neg (by show ¬ (64 * 0 + d.val) / 64 = c.val / 512; omega), mul_zero]), zero_add]
      refine Finset.sum_congr rfl fun d _ => ?_
      rw [if_pos (by show (64 * 1 + d.val) / 64 = c.val / 512; omega)]
  · rw [Finset.sum_congr rfl fun l _ => by rw [hw l]]
    exact lanes_sum s r c

/-- The diagonal tile's scores: a key after the query is masked. -/
theorem maskScores_apply (st : FVec Ideal S512x1024 .f32) (r : Fin 512) (c : Fin 1024) :
    maskScores st (ix2 r c) = if r.val ≤ c.val % 512 then st (ix2 r c) else (⊥ : EReal) := by
  pointwise [maskScores]
  have h1 : ∀ c : Fin 1024, Scalar.select (IntOp.cmpi CmpIPredicate.sge (BitVec.ofNat 32 c.val) 512#32)
          (IntOp.subi (BitVec.ofNat 32 c.val) 512#32) (BitVec.ofNat 32 c.val) = BitVec.ofNat 32 (c.val % 512) := by
    decide +kernel
  have h2 : ∀ r : Fin 512, IntOp.subi (BitVec.ofNat 32 r.val) 0#32 = BitVec.ofNat 32 r.val := by decide +kernel
  have h3 : ∀ r : Fin 512, (BitVec.ofNat 32 r.val).toInt = (r.val : ℤ) := by decide +kernel
  rw [h1, h2]
  have h4 : (IntOp.cmpi CmpIPredicate.sge (BitVec.ofNat 32 (c.val % 512)) (BitVec.ofNat 32 r.val) = (1 : BitVec 1)) ↔
      r.val ≤ c.val % 512 := by
    have hc := h3 ⟨c.val % 512, by omega⟩
    have hr := h3 r
    show BitVec.ofBool _ = (1 : BitVec 1) ↔ _
    simp only [BitVec.sle, hc, hr]
    rw [show (1 : BitVec 1) = BitVec.ofBool true from rfl, BitVec.ofBool_eq_iff_eq]
    simp
    omega
  show ite _ _ _ = _
  by_cases h : r.val ≤ c.val % 512
  · rw [if_pos h, if_pos (h4.mpr h)]
  · rw [if_neg h, if_neg (fun hh => h (h4.mp hh))]; rfl

/-- The maximum after one tile. -/
theorem stepM_apply (m : FVec Ideal S1x1024 .f32) (st : FVec Ideal S512x1024 .f32) (off : Ideal .f32) (c : Fin 1024) :
    stepM m st off (ix2 0 c) =
      max (m (ix2 0 c)) (Finset.univ.fold max (⊥ : EReal) (fun x : Fin 512 => st (ix2 x c)) + off) := by
  pointwise [stepM]
  rw [negInf_word]

/-- The accumulator after one tile. -/
theorem stepA_apply (m : FVec Ideal S1x1024 .f32) (a : FVec Ideal S144x1024 .f32) (st : FVec Ideal S512x1024 .f32)
    (off : Ideal .f32) (v : Vec Ideal S1x128x512 .bf16) (r : Fin 144) (c : Fin 1024) :
    stepA m a st off v (ix2 r c) =
      Ideal.exp2 (m (ix2 0 c) - stepM m st off (ix2 0 c)) * a (ix2 r c) +
        ∑ x : Fin 512, values v (ix2 r x) * Ideal.exp2 (st (ix2 x c) - (stepM m st off (ix2 0 c) - off)) := by
  pointwise [stepA, weights]
  rfl

/-- The values above the rows of ones. -/
theorem values_apply (v : Vec Ideal S1x128x512 .bf16) (r : Fin 144) (x : Fin 512) :
    values v (ix2 r x) = if h : r.val < 128 then v (ix3 0 ⟨r.val, h⟩ x) else (1 : EReal) := by
  pointwise [values]

/-- The difference of the two halves' averages. -/
theorem mixed_apply (a : FVec Ideal S144x1024 .f32) (lam : FVec Ideal S1x1 .f32) (r : Fin 512) (d : Fin 128) :
    mixed a lam (ix2 r d) =
      Ideal.div (a (ix2 (⟨d.val, by omega⟩ : Fin 144) (⟨r.val, by omega⟩ : Fin 1024))) (a (ix2 (128 : Fin 144) (⟨r.val, by omega⟩ : Fin 1024))) -
        lam (ix2 0 0) *
          Ideal.div (a (ix2 (⟨d.val, by omega⟩ : Fin 144) (⟨512 + r.val, by omega⟩ : Fin 1024)))
            (a (ix2 (128 : Fin 144) (⟨512 + r.val, by omega⟩ : Fin 1024))) := by
  pointwise [mixed]

/-- One normalised entry of a row. -/
def normRow (o g : Fin 128 → EReal) (d : Fin 128) : EReal :=
  o d * Ideal.rsqrt (Ideal.div (∑ x, o x * o x) (Ideal.ofBits .f32 0x43000000#32) + Ideal.ofBits .f32 0x358637BD#32) *
    g d * Ideal.ofBits .f32 0x3F4CCCCD#32

/-- The kernel's normalisation read at an entry. -/
theorem normed_apply (x : FVec Ideal S512x128 .f32) (g : Vec Ideal S1x128 .f32) (r : Fin 512) (d : Fin 128) :
    normed x g (ix3 0 r d) = normRow (fun e => x (ix2 r e)) (fun e => g (ix2 0 e)) d := by
  pointwise [normed]
  rfl

/-- The mixing weight read as the difference of two exponentials of sums. -/
theorem lamV_apply (x4 x5 x6 x7 : Vec Ideal S1x64 .f32) :
    lamV x4 x5 x6 x7 (ix2 0 0) = Ideal.exp (∑ x, x4 (ix2 0 x) * x5 (ix2 0 x)) -
      Ideal.exp (∑ x, x6 (ix2 0 x) * x7 (ix2 0 x)) + Ideal.ofBits .f32 0x3E4CCCCD#32 := by
  pointwise [lamV]

end Cert.Attn
-- ==== Proof.Algebra.lean ====
/- The mathematics of the streaming softmax over the extended reals: weights under a running maximum, one tile's
   step, the change of base, and the normalisation of the averages. -/
module
public import proofs.«01_k».proof.Proof.Read

@[expose] public section

noncomputable section

namespace Cert.Attn

open Idealize.ShloMosaic

/-! ## Weights -/

/-- The weight of score `u` under maximum `m`, base two. -/
def wt2 (u m : EReal) : ℝ := (Ideal.exp2 (u - m)).toReal

/-- The weight of score `s` under maximum `m`, base `e`. -/
def wtE (s m : EReal) : ℝ := (Ideal.exp (s - m)).toReal

theorem exp2_sub (u m : EReal) (h : u ≤ m) : Ideal.exp2 (u - m) = (wt2 u m : EReal) := by
  unfold wt2
  induction u using EReal.rec with
  | bot => simp
  | top => obtain rfl := top_le_iff.mp h; simp
  | coe u =>
    induction m using EReal.rec with
    | bot => exact absurd (le_bot_iff.mp h) (EReal.coe_ne_bot u)
    | top => simp
    | coe m => rw [← EReal.coe_sub, Ideal.exp2_coe, EReal.toReal_coe]

theorem exp_sub (u m : EReal) (h : u ≤ m) : Ideal.exp (u - m) = (wtE u m : EReal) := by
  unfold wtE
  induction u using EReal.rec with
  | bot => simp
  | top => obtain rfl := top_le_iff.mp h; simp
  | coe u =>
    induction m using EReal.rec with
    | bot => exact absurd (le_bot_iff.mp h) (EReal.coe_ne_bot u)
    | top => simp
    | coe m => rw [← EReal.coe_sub, Ideal.exp_coe, EReal.toReal_coe]

/-- Weights compose along growing maxima. -/
theorem wt2_mul (u m m' : EReal) (h : u ≤ m) (h' : m ≤ m') : wt2 u m * wt2 m m' = wt2 u m' := by
  unfold wt2
  induction m' using EReal.rec with
  | bot =>
    obtain rfl := le_bot_iff.mp h'
    obtain rfl := le_bot_iff.mp h
    simp
  | top => simp
  | coe m' =>
    induction m using EReal.rec with
    | bot => obtain rfl := le_bot_iff.mp h; simp
    | top => exact absurd (top_le_iff.mp h') (EReal.coe_ne_top m')
    | coe m =>
      induction u using EReal.rec with
      | bot => simp
      | top => exact absurd (top_le_iff.mp h) (EReal.coe_ne_top m)
      | coe u =>
        simp only [← EReal.coe_sub, Ideal.exp2_coe, EReal.toReal_coe]
        show (2 : ℝ) ^ (u - m) * (2 : ℝ) ^ (m - m') = (2 : ℝ) ^ (u - m')
        rw [← Real.rpow_add (by norm_num)]
        congr 1; ring

theorem wtE_bot (m : EReal) : wtE ⊥ m = 0 := by simp [wtE]

theorem wtE_nonneg (s m : EReal) : 0 ≤ wtE s m := by
  unfold wtE
  induction s - m using EReal.rec with
  | bot => simp
  | top => simp
  | coe r => simp [Real.exp_nonneg]

/-- A finite offset moves out of the shifted maximum. -/
theorem sub_shift (s m : EReal) (o : ℝ) : s - (m - (o : EReal)) = s + (o : EReal) - m := by
  induction s using EReal.rec with
  | bot => simp
  | top =>
    induction m using EReal.rec with
    | bot => simp
    | top => simp
    | coe m => rw [EReal.top_add_coe, EReal.top_sub_coe, ← EReal.coe_sub, EReal.top_sub_coe]
  | coe s =>
    induction m using EReal.rec with
    | bot => rw [← EReal.coe_add]; simp
    | top => rw [← EReal.coe_add]; simp
    | coe m => norm_cast; ring

/-! ## The running state -/

/-- The maximum of the first `N` scores. -/
def mx (u : ℕ → EReal) (N : ℕ) : EReal := (Finset.range N).sup u

/-- The weighted sum of the first `N` values under their maximum. -/
def ac (u : ℕ → EReal) (v : ℕ → ℝ) (N : ℕ) : ℝ := ∑ t ∈ Finset.range N, wt2 (u t) (mx u N) * v t

theorem le_mx (u : ℕ → EReal) {t N : ℕ} (h : t < N) : u t ≤ mx u N :=
  Finset.le_sup (f := u) (Finset.mem_range.mpr h)

theorem mx_mono (u : ℕ → EReal) {N M : ℕ} (h : N ≤ M) : mx u N ≤ mx u M :=
  Finset.sup_mono (Finset.range_mono h)

/-- A finite offset moves out of a maximum. -/
theorem fold_max_add {n : ℕ} (st : Fin n → EReal) (o : ℝ) :
    Finset.univ.fold max (⊥ : EReal) st + (o : EReal) = Finset.univ.sup fun x => st x + (o : EReal) := by
  show Finset.univ.sup st + (o : EReal) = _
  exact Finset.comp_sup_eq_sup_comp_of_is_total (fun x : EReal => x + (o : EReal)) (fun _ _ h => add_le_add_left h _) (by simp)

/-- One tile's step of the maximum. -/
theorem mx_step (u : ℕ → EReal) (N n : ℕ) (st : Fin n → EReal) (o : ℝ) (hu : ∀ x : Fin n, u (N + x.val) = st x + (o : EReal)) :
    max (mx u N) (Finset.univ.fold max (⊥ : EReal) st + (o : EReal)) = mx u (N + n) := by
  rw [fold_max_add]
  apply le_antisymm
  · refine max_le (mx_mono u (Nat.le_add_right _ _)) (Finset.sup_le fun x _ => ?_)
    rw [← hu x]
    exact le_mx u (Nat.add_lt_add_left x.isLt N)
  · refine Finset.sup_le fun t ht => ?_
    have ht := Finset.mem_range.mp ht
    by_cases h : t < N
    · exact le_max_of_le_left (le_mx u h)
    · refine le_max_of_le_right ?_
      have := Finset.le_sup (f := fun x => st x + (o : EReal)) (Finset.mem_univ (⟨t - N, by omega⟩ : Fin n))
      rwa [← hu, show N + (t - N) = t by omega] at this

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- One tile's step of the weighted sum. -/
theorem ac_step (u : ℕ → EReal) (v : ℕ → ℝ) (N n : ℕ) (st : Fin n → EReal) (o : ℝ)
    (hu : ∀ x : Fin n, u (N + x.val) = st x + (o : EReal)) (vv : Fin n → EReal)
    (hv : ∀ x : Fin n, vv x = ((v (N + x.val) : ℝ) : EReal)) :
    Ideal.exp2 (mx u N - mx u (N + n)) * ((ac u v N : ℝ) : EReal) +
      ∑ x : Fin n, vv x * Ideal.exp2 (st x - (mx u (N + n) - (o : EReal))) = ((ac u v (N + n) : ℝ) : EReal) := by
  have hx : ∀ x : Fin n, vv x * Ideal.exp2 (st x - (mx u (N + n) - (o : EReal))) =
      ((wt2 (u (N + x.val)) (mx u (N + n)) * v (N + x.val) : ℝ) : EReal) := by
    intro x
    rw [sub_shift, ← hu x, exp2_sub _ _ (le_mx u (Nat.add_lt_add_left x.isLt N)), hv x, ← EReal.coe_mul, mul_comm]
  rw [Finset.sum_congr rfl fun x _ => hx x, exp2_sub _ _ (mx_mono u (Nat.le_add_right _ _)), ← coe_sum, ← EReal.coe_mul,
    ← EReal.coe_add]
  congr 1
  unfold ac
  rw [Finset.sum_range_add, Finset.mul_sum, Fin.sum_univ_eq_sum_range (fun x => wt2 (u (N + x)) (mx u (N + n)) * v (N + x)) n]
  refine congrArg (· + _) (Finset.sum_congr rfl fun t ht => ?_)
  rw [← wt2_mul (u t) (mx u N) (mx u (N + n)) (le_mx u (Finset.mem_range.mp ht)) (mx_mono u (Nat.le_add_right _ _))]
  ring

/-! ## The change of base -/

theorem log2e_pos : 0 < log2e := inv_pos.mpr (Real.log_pos (by norm_num))

/-- A positive real factor distributes over a sum of extended reals. -/
theorem pos_mul_add (r : ℝ) (hr : 0 < r) (a b : EReal) : (a + b) * (r : EReal) = a * (r : EReal) + b * (r : EReal) := by
  induction a using EReal.rec with
  | bot => rw [EReal.bot_add, EReal.bot_mul_coe_of_pos hr, EReal.bot_add]
  | top =>
    induction b using EReal.rec with
    | bot => rw [EReal.add_bot, EReal.bot_mul_coe_of_pos hr, EReal.add_bot]
    | top => rw [EReal.top_add_top, EReal.top_mul_coe_of_pos hr, EReal.top_add_top]
    | coe b => rw [EReal.top_add_coe, EReal.top_mul_coe_of_pos hr, ← EReal.coe_mul, EReal.top_add_coe]
  | coe a =>
    induction b using EReal.rec with
    | bot => rw [EReal.add_bot, EReal.bot_mul_coe_of_pos hr, EReal.add_bot]
    | top => rw [EReal.coe_add_top, EReal.top_mul_coe_of_pos hr, ← EReal.coe_mul, EReal.coe_add_top]
    | coe b => rw [← EReal.coe_add, ← EReal.coe_mul, ← EReal.coe_mul, ← EReal.coe_mul, ← EReal.coe_add, add_mul]

theorem pos_mul_sum {ι : Type*} (s : Finset ι) (f : ι → EReal) (r : ℝ) (hr : 0 < r) :
    ∑ i ∈ s, f i * (r : EReal) = (∑ i ∈ s, f i) * (r : EReal) := by
  classical
  induction s using Finset.induction_on with
  | empty => simp
  | insert a s h ih => rw [Finset.sum_insert h, Finset.sum_insert h, pos_mul_add r hr, ih]

/-- A score in base two: scaled and moved by a real number. -/
def rebase (c : ℝ) (s : EReal) : EReal := s * (log2e : EReal) + (c : EReal)

theorem rebase_mono (c : ℝ) : Monotone (rebase c) := fun _ _ h =>
  add_le_add_left (mul_le_mul_of_nonneg_right h (EReal.coe_nonneg.mpr log2e_pos.le)) _

theorem rebase_bot (c : ℝ) : rebase c ⊥ = ⊥ := by
  unfold rebase
  rw [EReal.bot_mul_coe_of_pos log2e_pos, EReal.bot_add]

theorem rebase_top (c : ℝ) : rebase c ⊤ = ⊤ := by
  unfold rebase
  rw [EReal.top_mul_coe_of_pos log2e_pos, EReal.top_add_coe]

/-- The two bases give the same weights. -/
theorem wt2_rebase (c : ℝ) (s m : EReal) (h : s ≤ m) : wt2 (rebase c s) (rebase c m) = wtE s m := by
  induction m using EReal.rec with
  | bot => obtain rfl := le_bot_iff.mp h; simp [rebase_bot, wt2, wtE]
  | top => simp [rebase_top, wt2, wtE]
  | coe m =>
    induction s using EReal.rec with
    | bot => simp [rebase_bot, wt2, wtE]
    | top => exact absurd (top_le_iff.mp h) (EReal.coe_ne_top m)
    | coe s =>
      unfold rebase wt2 wtE
      rw [← EReal.coe_mul, ← EReal.coe_mul, ← EReal.coe_add, ← EReal.coe_add, ← EReal.coe_sub, ← EReal.coe_sub,
        Ideal.exp2_coe, Ideal.exp_coe, EReal.toReal_coe, EReal.toReal_coe]
      show (2 : ℝ) ^ (s * log2e + c - (m * log2e + c)) = _
      rw [Real.rpow_def_of_pos (by norm_num)]
      congr 1
      have : Real.log 2 ≠ 0 := (Real.log_pos (by norm_num)).ne'
      unfold log2e
      field_simp
      ring

theorem mx_rebase (c : ℝ) (s : ℕ → EReal) (N : ℕ) : mx (fun t => rebase c (s t)) N = rebase c (mx s N) :=
  (Finset.comp_sup_eq_sup_comp_of_is_total (rebase c) (rebase_mono c) (rebase_bot c)).symm

/-- The weighted sum in base `e`. -/
def acE (s : ℕ → EReal) (v : ℕ → ℝ) (N : ℕ) : ℝ := ∑ t ∈ Finset.range N, wtE (s t) (mx s N) * v t

theorem ac_rebase (c : ℝ) (s : ℕ → EReal) (v : ℕ → ℝ) (N : ℕ) : ac (fun t => rebase c (s t)) v N = acE s v N := by
  unfold ac acE
  refine Finset.sum_congr rfl fun t ht => ?_
  rw [mx_rebase, wt2_rebase c _ _ (le_mx s (Finset.mem_range.mp ht))]

theorem mx_extend (s : ℕ → EReal) {N M : ℕ} (h : N ≤ M) (hs : ∀ t, N ≤ t → t < M → s t = ⊥) : mx s M = mx s N := by
  refine le_antisymm (Finset.sup_le fun t ht => ?_) (mx_mono s h)
  by_cases ht' : t < N
  · exact le_mx s ht'
  · rw [hs t (by omega) (Finset.mem_range.mp ht)]; exact bot_le

/-- Masked scores past the end change nothing. -/
theorem acE_extend (s : ℕ → EReal) (v : ℕ → ℝ) {N M : ℕ} (h : N ≤ M) (hs : ∀ t, N ≤ t → t < M → s t = ⊥) :
    acE s v M = acE s v N := by
  unfold acE
  rw [mx_extend s h hs]
  refine (Finset.sum_subset (Finset.range_mono h) fun t ht hn => ?_).symm
  rw [hs t (by simpa using hn) (Finset.mem_range.mp ht), wtE_bot, zero_mul]

/-! ## The averages and their normalisation -/

theorem div_coe (x y : ℝ) (hy : y ≠ 0) : Ideal.div (x : EReal) (y : EReal) = ((x / y : ℝ) : EReal) := by
  unfold Ideal.div
  rw [if_neg (EReal.coe_ne_zero.mpr hy), ← EReal.coe_inv, ← EReal.coe_mul, div_eq_mul_inv]

theorem div_zero_zero : Ideal.div (0 : EReal) 0 = ⊥ := by simp [Ideal.div]

theorem word_128 : Ideal.ofBits .f32 0x43000000#32 = ((128 : ℝ) : EReal) := by
  simp [Ideal.ofBits, Ideal.ieee]
  rw [← EReal.coe_mul]
  norm_num

theorem word_eps : ∃ r : ℝ, Ideal.ofBits .f32 0x358637BD#32 = (r : EReal) := by
  simp [Ideal.ofBits, Ideal.ieee]
  exact ⟨_, (EReal.coe_mul _ _).symm⟩

/-- A row of infinities and zeros normalises to zero. -/
theorem normRow_infinite (o g : Fin 128 → EReal) (h : ∀ d, o d = ⊤ ∨ o d = ⊥ ∨ o d = 0) (d : Fin 128) :
    normRow o g d = 0 := by
  unfold normRow
  by_cases h0 : o d = 0
  · rw [h0]; simp
  · have hsq : ∀ x, 0 ≤ o x * o x := fun x => by rcases h x with h | h | h <;> simp [h]
    have hd : o d * o d = ⊤ := by rcases h d with h | h | h <;> simp [h] at h0 ⊢
    have hsum : ∑ x, o x * o x = ⊤ := by
      rw [← Finset.add_sum_erase Finset.univ (fun x => o x * o x) (Finset.mem_univ d), hd]
      refine EReal.top_add_of_ne_bot (ne_of_gt ?_)
      exact lt_of_lt_of_le EReal.bot_lt_zero (Finset.sum_nonneg fun x _ => hsq x)
    obtain ⟨e, he⟩ := word_eps
    have hdiv : Ideal.div ⊤ ((128 : ℝ) : EReal) = ⊤ := by
      unfold Ideal.div
      rw [if_neg (EReal.coe_ne_zero.mpr (by norm_num)), ← EReal.coe_inv, EReal.top_mul_coe_of_pos (by norm_num)]
    rw [hsum, word_128, hdiv, he, EReal.top_add_coe]
    show o d * 0 * g d * _ = 0
    simp

/-- Sums of infinities of zero real multiples are infinite or zero. -/
theorem sum_infinite {ι : Type*} (s : Finset ι) (f : ι → EReal) (h : ∀ t, f t = ⊤ ∨ f t = ⊥ ∨ f t = 0) :
    ∑ t ∈ s, f t = ⊤ ∨ ∑ t ∈ s, f t = ⊥ ∨ ∑ t ∈ s, f t = 0 := by
  classical
  induction s using Finset.induction_on with
  | empty => simp
  | insert a s ha ih =>
    rw [Finset.sum_insert ha]
    rcases h a with h | h | h <;> rcases ih with ih | ih | ih <;> simp [h, ih]

/-- The kernel averages the values before it mixes the halves, the reference after: the normalised rows agree. -/
theorem normRow_mix {n : ℕ} (e0 e1 : Fin n → ℝ) (h0 : ∀ t, 0 ≤ e0 t) (h1 : ∀ t, 0 ≤ e1 t) (lam : ℝ)
    (v : Fin 128 → Fin n → ℝ) (g : Fin 128 → EReal) (d : Fin 128) :
    normRow (fun d => Ideal.div ((∑ t, e0 t * v d t : ℝ) : EReal) ((∑ t, e0 t : ℝ) : EReal) -
        (lam : EReal) * Ideal.div ((∑ t, e1 t * v d t : ℝ) : EReal) ((∑ t, e1 t : ℝ) : EReal)) g d =
      normRow (fun d => ∑ t, (v d t : EReal) * (Ideal.div (e0 t : EReal) ((∑ t, e0 t : ℝ) : EReal) -
        (lam : EReal) * Ideal.div (e1 t : EReal) ((∑ t, e1 t : ℝ) : EReal))) g d := by
  have key : ∀ (e : Fin n → ℝ), (∀ t, 0 ≤ e t) → ∑ t, e t = 0 → ∀ t, e t = 0 := fun e he hs t =>
    (Finset.sum_eq_zero_iff_of_nonneg fun t _ => he t).mp hs t (Finset.mem_univ t)
  have infinite : ∀ z : EReal, z = ⊤ ∨ z = ⊥ → ∀ t d, (v d t : EReal) * z = ⊤ ∨ (v d t : EReal) * z = ⊥ ∨ (v d t : EReal) * z = 0 := by
    intro z hz t d
    rcases lt_trichotomy (v d t) 0 with hv | hv | hv
    · rcases hz with rfl | rfl
      · rw [EReal.coe_mul_top_of_neg hv]; simp
      · rw [EReal.coe_mul_bot_of_neg hv]; simp
    · rw [hv]; simp
    · rcases hz with rfl | rfl
      · rw [EReal.coe_mul_top_of_pos hv]; simp
      · rw [EReal.coe_mul_bot_of_pos hv]; simp
  have both : ∀ (z : EReal) (o o' : Fin 128 → EReal), (z = ⊤ ∨ z = ⊥) → (∀ d, o d = z) →
      (∀ d, o' d = ∑ t, (v d t : EReal) * z) → normRow o g d = normRow o' g d := by
    intro z o o' hz ho ho'
    rw [normRow_infinite o g (fun d => by rw [ho d]; rcases hz with h | h <;> simp [h]),
      normRow_infinite o' g (fun d => by rw [ho' d]; exact sum_infinite _ _ fun t => infinite z hz t d)]
  by_cases l0 : ∑ t, e0 t = 0
  · refine both ⊥ _ _ (Or.inr rfl) (fun d => ?_) (fun d => Finset.sum_congr rfl fun t _ => ?_)
    · rw [l0, Finset.sum_eq_zero (fun t _ => by rw [key e0 h0 l0 t, zero_mul]), EReal.coe_zero, div_zero_zero, EReal.bot_sub]
    · rw [l0, key e0 h0 l0 t, EReal.coe_zero, div_zero_zero, EReal.bot_sub]
  · by_cases l1 : ∑ t, e1 t = 0
    · have z1 : ∀ d, ∑ t, e1 t * v d t = 0 := fun d =>
        Finset.sum_eq_zero fun t _ => by rw [key e1 h1 l1 t, zero_mul]
      rcases lt_trichotomy lam 0 with hl | hl | hl
      · refine both ⊥ _ _ (Or.inr rfl) (fun d => ?_) (fun d => Finset.sum_congr rfl fun t _ => ?_)
        · rw [l1, z1 d, EReal.coe_zero, div_zero_zero,
            EReal.coe_mul_bot_of_neg hl, div_coe _ _ l0, sub_eq_add_neg, EReal.neg_top, EReal.add_bot]
        · rw [l1, key e1 h1 l1 t, EReal.coe_zero, div_zero_zero,
            EReal.coe_mul_bot_of_neg hl, div_coe _ _ l0, sub_eq_add_neg, EReal.neg_top, EReal.add_bot]
      · congr 1
        funext d
        rw [hl, EReal.coe_zero, zero_mul, sub_zero, div_coe _ _ l0, Finset.sum_div, coe_sum]
        refine Finset.sum_congr rfl fun t _ => ?_
        rw [zero_mul, sub_zero, div_coe _ _ l0, ← EReal.coe_mul]
        congr 1; ring
      · refine both ⊤ _ _ (Or.inl rfl) (fun d => ?_) (fun d => Finset.sum_congr rfl fun t _ => ?_)
        · rw [l1, z1 d, EReal.coe_zero, div_zero_zero,
            EReal.coe_mul_bot_of_pos hl, div_coe _ _ l0, sub_eq_add_neg, EReal.neg_bot, EReal.coe_add_top]
        · rw [l1, key e1 h1 l1 t, EReal.coe_zero, div_zero_zero,
            EReal.coe_mul_bot_of_pos hl, div_coe _ _ l0, sub_eq_add_neg, EReal.neg_bot, EReal.coe_add_top]
    · congr 1
      funext d
      rw [div_coe _ _ l0, div_coe _ _ l1, ← EReal.coe_mul, ← EReal.coe_sub, Finset.sum_div, Finset.sum_div, Finset.mul_sum,
        ← Finset.sum_sub_distrib, coe_sum]
      refine Finset.sum_congr rfl fun t _ => ?_
      rw [div_coe _ _ l0, div_coe _ _ l1, ← EReal.coe_mul, ← EReal.coe_sub, ← EReal.coe_mul]
      congr 1; ring

end Cert.Attn
-- ==== Proof.Column.lean ====
/- One column of the streaming softmax: what the loop and the diagonal tile leave for one query of one half of a
   head is the maximum and the weighted sums over the keys up to the query. -/
module
public import proofs.«01_k».proof.Proof.Algebra

@[expose] public section

set_option maxRecDepth 16384

noncomputable section

namespace Cert.Attn

open Cert.KernelIdeal Cert.KernelIdeal.Gen Idealize.ShloMosaic Idealize.ShloMosaic.TcCoe Idealize.SL.Sem

/-- The product of a query with key `t`, over the lanes of its half. -/
def dotAt (x1 : Vec Ideal S1x512x512 .f32) (x2 : Vec Ideal S1x2048x512 .bf16) (h : Fin 4) (c : Fin 1024) (t : ℕ) : EReal :=
  ∑ d : Fin 64, x2 (ix3 (0 : Fin 1) (⟨t % 2048, Nat.mod_lt _ (by decide)⟩ : Fin 2048) (flatLane h (halfLane (half c) d))) *
    x1 (ix3 (0 : Fin 1) (qrow c) (flatLane h (halfLane (half c) d)))

/-- The masked score of key `t` for query row `c % 512` of query tile `n`. -/
def scoreAt (sl : ℝ) (x1 : Vec Ideal S1x512x512 .f32) (x2 : Vec Ideal S1x2048x512 .bf16) (n : ℕ) (h : Fin 4)
    (c : Fin 1024) (t : ℕ) : EReal :=
  if t ≤ 512 * n + (qrow c).val then
    dotAt x1 x2 h c t - ((sl * ((512 * n + (qrow c).val : ℕ) - (t : ℝ)) : ℝ) : EReal)
  else ⊥

/-- The value of key `t` in row `r` of the accumulator, a row of ones below the head's lanes. -/
def valAt (x3 : Vec Ideal S4x512x512 .bf16) (h : Fin 4) (r : Fin 144) (t : ℕ) : ℝ :=
  if hr : r.val < 128 then
    EReal.toReal (x3 (ix3 (⟨t / 512 % 4, Nat.mod_lt _ (by decide)⟩ : Fin 4) (flatLane h ⟨r.val, hr⟩)
      (⟨t % 512, Nat.mod_lt _ (by decide)⟩ : Fin 512)))
  else 1

/-- The move between the two bases for a query row. -/
def moved (sl : ℝ) (c : Fin 1024) : ℝ := sl * log2e * (qrow c).val

theorem slopeIn_eq (x0 : Vec Ideal S4 .f32) (h : Fin 4) (sl : ℝ) (hs : x0 (ix1 h) = (sl : EReal)) :
    slopeIn x0 h = ((sl * log2e : ℝ) : EReal) := by
  show x0 (ix1 h) * _ = _
  rw [hs, logTwoE_eq, ← EReal.coe_mul]

/-- The offsets of the earlier tiles. -/
theorem offset_earlier (s : ℝ) : ∀ (j n : Fin 4),
    offset (s : EReal) (Scalar.muli (Scf.iv 0#32 1#32 j.val) 1#32) (BitVec.ofNat 32 n.val) =
      ((s * (512 * ((j.val : ℝ) - (n.val : ℝ))) : ℝ) : EReal) := by
  intro j n
  have h : ∀ j n : Fin 4, (Scalar.muli (Scalar.subi (Scalar.muli (Scf.iv 0#32 1#32 j.val) 1#32) (BitVec.ofNat 32 n.val)) 512#32).toInt =
      512 * ((j.val : ℤ) - (n.val : ℤ)) := by decide +kernel
  show (s : EReal) * (((BitVec.toInt _ : ℤ) : ℝ) : EReal) = _
  rw [h, ← EReal.coe_mul]
  push_cast
  rfl

/-- The diagonal tile has no offset. -/
theorem offset_diagonal (s : ℝ) : ∀ n : Fin 4,
    offset (s : EReal) (Scalar.subi (BitVec.ofNat 32 n.val) 0#32) (BitVec.ofNat 32 n.val) = ((0 : ℝ) : EReal) := by
  intro n
  have h : ∀ n : Fin 4, (Scalar.muli (Scalar.subi (Scalar.subi (BitVec.ofNat 32 n.val) 0#32) (BitVec.ofNat 32 n.val)) 512#32).toInt = 0 := by
    decide +kernel
  show (s : EReal) * (((BitVec.toInt _ : ℤ) : ℝ) : EReal) = _
  rw [h]
  simp

/-- A tile's computed score with its offset is the score of its key in base two. -/
theorem tile_score (sl : ℝ) (x1 : Vec Ideal S1x512x512 .f32) (x2 : Vec Ideal S1x2048x512 .bf16) (n j : ℕ) (h : Fin 4)
    (c : Fin 1024) (x : Fin 512) (hle : 512 * j + x.val ≤ 512 * n + (qrow c).val) :
    rebase (moved sl c) (scoreAt sl x1 x2 n h c (512 * j + x.val)) =
      scores (keyTile x2 h j) (queries (queryIn x1 h) ((sl * log2e : ℝ) : EReal)) (ix2 x c) +
        ((sl * log2e * (512 * ((j : ℝ) - (n : ℝ))) : ℝ) : EReal) := by
  rw [scores_apply]
  unfold scoreAt rebase
  rw [if_pos hle, sub_eq_add_neg, ← EReal.coe_neg, pos_mul_add _ log2e_pos, ← EReal.coe_mul, add_assoc, add_assoc,
    ← EReal.coe_add, ← EReal.coe_add]
  refine congrArg₂ (· + ·) ?_ (congrArg _ ?_)
  · unfold dotAt
    rw [← pos_mul_sum _ _ _ log2e_pos]
    refine Finset.sum_congr rfl fun d _ => ?_
    rw [mul_assoc]
    rfl
  · unfold moved
    push_cast
    ring

/-- A tile's values with the rows of ones are the values of its keys. -/
theorem tile_value (x3 : Vec Ideal S4x512x512 .bf16) (h : Fin 4) (hv : ∀ a, x3 a = (EReal.toReal (x3 a) : EReal)) (j : ℕ)
    (hj : j < 4) (r : Fin 144) (x : Fin 512) :
    values (valTile x3 h j) (ix2 r x) = ((valAt x3 h r (512 * j + x.val) : ℝ) : EReal) := by
  rw [values_apply]
  unfold valAt
  have hx := x.isLt
  split_ifs with hr
  · rw [← hv]
    have e1 : (⟨(512 * j + x.val) / 512 % 4, Nat.mod_lt _ (by decide)⟩ : Fin 4) = ⟨j % 4, Nat.mod_lt _ (by decide)⟩ :=
      Fin.ext (by show (512 * j + x.val) / 512 % 4 = j % 4; omega)
    have e2 : (⟨(512 * j + x.val) % 512, Nat.mod_lt _ (by decide)⟩ : Fin 512) = x :=
      Fin.ext (by show (512 * j + x.val) % 512 = x.val; omega)
    rw [e1, e2]
    rfl
  · rfl

/-- Before the diagonal tile: the maximum and the sums over the keys of the earlier tiles. -/
theorem earlier_eq (x0 : Vec Ideal S4 .f32) (x1 : Vec Ideal S1x512x512 .f32) (x2 : Vec Ideal S1x2048x512 .bf16)
    (x3 : Vec Ideal S4x512x512 .bf16) (h : Fin 4) (sl : ℝ) (hs : x0 (ix1 h) = (sl : EReal))
    (hv : ∀ a, x3 a = (EReal.toReal (x3 a) : EReal)) (n : ℕ) (hn : n < 4) (c : Fin 1024) : ∀ j ≤ n,
    (earlier x0 x1 x2 x3 (BitVec.ofNat 32 n) h j).1 (ix2 0 c) =
        mx (fun t => rebase (moved sl c) (scoreAt sl x1 x2 n h c t)) (512 * j) ∧
      ∀ r : Fin 144, (earlier x0 x1 x2 x3 (BitVec.ofNat 32 n) h j).2 (ix2 r c) =
        ((ac (fun t => rebase (moved sl c) (scoreAt sl x1 x2 n h c t)) (valAt x3 h r) (512 * j) : ℝ) : EReal) := by
  intro j
  induction j with
  | zero =>
    intro _
    refine ⟨?_, fun r => ?_⟩
    · show startM (ix2 0 c) = _
      rw [Nat.mul_zero]
      rfl
    · show startA (ix2 r c) = _
      rw [Nat.mul_zero]
      show Ideal.ofBits .f32 0x00000000#32 = _
      rw [Ideal.ofBits_zero_f32]
      simp [ac]
  | succ j ih =>
    intro hj
    obtain ⟨ihm, iha⟩ := ih (by omega)
    have hoff := offset_earlier (sl * log2e) ⟨j, by omega⟩ ⟨n, hn⟩
    dsimp only at hoff
    have hu := fun x : Fin 512 => tile_score sl x1 x2 n j h c x (by have := x.isLt; omega)
    have hm : stepM (earlier x0 x1 x2 x3 (BitVec.ofNat 32 n) h j).1
        (scores (keyTile x2 h j) (queries (queryIn x1 h) ((sl * log2e : ℝ) : EReal)))
        ((sl * log2e * (512 * ((j : ℝ) - (n : ℝ))) : ℝ) : EReal) (ix2 0 c) =
        mx (fun t => rebase (moved sl c) (scoreAt sl x1 x2 n h c t)) (512 * j + 512) := by
      rw [stepM_apply, ihm]
      exact mx_step _ _ _ _ _ hu
    have hstep : earlier x0 x1 x2 x3 (BitVec.ofNat 32 n) h (j + 1) =
        headStep (earlier x0 x1 x2 x3 (BitVec.ofNat 32 n) h j)
          (scores (keyTile x2 h j) (queries (queryIn x1 h) ((sl * log2e : ℝ) : EReal)))
          ((sl * log2e * (512 * ((j : ℝ) - (n : ℝ))) : ℝ) : EReal) (valTile x3 h j) := by
      rw [← hoff, ← slopeIn_eq x0 h sl hs]
      rfl
    rw [hstep, show 512 * (j + 1) = 512 * j + 512 by ring]
    refine ⟨hm, fun r => ?_⟩
    show stepA _ _ _ _ _ (ix2 r c) = _
    rw [stepA_apply, hm, ihm, iha r]
    refine ac_step _ _ _ _ _ _ hu (fun x => values (valTile x3 h j) (ix2 r x)) fun x => ?_
    exact tile_value x3 h hv j (by omega) r x

/-- After the diagonal tile: the sums over all keys up to the end of the query's tile. -/
theorem whole_eq (x0 : Vec Ideal S4 .f32) (x1 : Vec Ideal S1x512x512 .f32) (x2 : Vec Ideal S1x2048x512 .bf16)
    (x3 : Vec Ideal S4x512x512 .bf16) (h : Fin 4) (sl : ℝ) (hs : x0 (ix1 h) = (sl : EReal))
    (hv : ∀ a, x3 a = (EReal.toReal (x3 a) : EReal)) (n : ℕ) (hn : n < 4) (c : Fin 1024) (r : Fin 144) :
    (whole x0 x1 x2 x3 n h).2 (ix2 r c) =
      ((acE (scoreAt sl x1 x2 n h c) (valAt x3 h r) 2048 : ℝ) : EReal) := by
  obtain ⟨ihm, iha⟩ := earlier_eq x0 x1 x2 x3 h sl hs hv n hn c n (le_refl n)
  have hoff := offset_diagonal (sl * log2e) ⟨n, hn⟩
  dsimp only at hoff
  have hu : ∀ x : Fin 512, rebase (moved sl c) (scoreAt sl x1 x2 n h c (512 * n + x.val)) =
      maskScores (scores (keyTile x2 h n) (queries (queryIn x1 h) ((sl * log2e : ℝ) : EReal))) (ix2 x c) + ((0 : ℝ) : EReal) := by
    intro x
    rw [maskScores_apply]
    by_cases hx : x.val ≤ c.val % 512
    · rw [if_pos hx, tile_score sl x1 x2 n n h c x (Nat.add_le_add_left hx _)]
      simp
    · rw [if_neg hx, EReal.bot_add]
      unfold scoreAt
      rw [if_neg (by show ¬ 512 * n + x.val ≤ 512 * n + c.val % 512; omega), rebase_bot]
  have hm : stepM (earlier x0 x1 x2 x3 (BitVec.ofNat 32 n) h n).1
      (maskScores (scores (keyTile x2 h n) (queries (queryIn x1 h) ((sl * log2e : ℝ) : EReal))))
      ((0 : ℝ) : EReal) (ix2 0 c) =
      mx (fun t => rebase (moved sl c) (scoreAt sl x1 x2 n h c t)) (512 * n + 512) := by
    rw [stepM_apply, ihm]
    exact mx_step _ _ _ _ _ hu
  have hstep : whole x0 x1 x2 x3 n h =
      headStep (earlier x0 x1 x2 x3 (BitVec.ofNat 32 n) h n)
        (maskScores (scores (keyTile x2 h n) (queries (queryIn x1 h) ((sl * log2e : ℝ) : EReal))))
        ((0 : ℝ) : EReal) (valTile x3 h n) := by
    rw [← hoff, ← slopeIn_eq x0 h sl hs]
    rfl
  rw [hstep]
  show stepA _ _ _ _ _ (ix2 r c) = _
  rw [stepA_apply, hm, ihm, iha r]
  refine (ac_step _ _ _ _ _ _ hu (fun x => values (valTile x3 h n) (ix2 r x)) fun x => tile_value x3 h hv n hn r x).trans ?_
  rw [ac_rebase, acE_extend _ _ (N := 512 * n + 512) (M := 2048) (by omega)]
  intro t ht _
  unfold scoreAt
  rw [if_neg (by have := (qrow c).isLt; omega)]

end Cert.Attn
-- ==== Proof.Reference.lean ====
/- The reference read at one element: the masked scores, the softmax, the mixture of the two halves and the
   normalised rows. -/
module
public import proofs.«01_k».proof.Proof.Algebra
public import proofs.«01_k».proof.Proof.Gen.ReferenceIdeal.Run

@[expose] public section

set_option maxRecDepth 16384

noncomputable section

namespace Cert.AttnRef

open Cert.ReferenceIdeal Cert.ReferenceIdeal.Gen Idealize.ShloMosaic Idealize.ShloMosaic.TcCoe Idealize.SL.Sem

/-- The slopes of the heads. -/
def slopes : FVec Ideal S4 .f32 :=
  Host.exp (mulf (broadcastInDim S4 ![] bcast_S_S4 (constant S_ .f32 0x3F317218#32))
    (Host.divf
      (mulf (broadcastInDim S4 ![] bcast_S_S4 (constant S_ .f32 0xC1000000#32))
        (addf (sitofp .f32 (iotaInDim S4 32 0) : FVec Ideal S4 .f32)
          (broadcastInDim S4 ![] bcast_S_S4 (constant S_ .f32 0x3F800000#32))))
      (broadcastInDim S4 ![] bcast_S_S4 (constant S_ .f32 0x40800000#32))))

/-- The distance of a query to a key. -/
def dist : FVec Ideal S2048x2048 .f32 :=
  sitofp .f32
    (subi
      (broadcastInDim S2048x2048 ![0, 1] bcast_S2048x1_S2048x2048_0_1
        (broadcastInDim S2048x1 ![0] bcast_S2048_S2048x1_0 (iotaInDim S2048 32 0) : IVec S2048x1 32) : IVec S2048x2048 32)
      (broadcastInDim S2048x2048 ![0, 1] bcast_S1x2048_S2048x2048_0_1
        (broadcastInDim S1x2048 ![1] bcast_S2048_S1x2048_1 (iotaInDim S2048 32 0) : IVec S1x2048 32)))

/-- The masked scores. -/
def scoresR (q : FVec Ideal S8x2048x4x2x64 .f32) (k : FVec Ideal S8x2048x4x128 .f32) : FVec Ideal S8x4x2x2048x2048 .f32 :=
  select
    (broadcastInDim S8x4x2x2048x2048 ![3, 4] bcast_S2048x2048_S8x4x2x2048x2048_3_4
      (cmpf .oge dist (broadcastInDim S2048x2048 ![] bcast_S_S2048x2048 (constant S_ .f32 0x00000000#32)) : IVec S2048x2048 1)
        : IVec S8x4x2x2048x2048 1)
    (subf
      (mulf
        (Host.dotGeneral dot_S8x2048x4x2x64_S8x2048x4x2x64_S8x4x2x2048x2048_4_4_1_1_023_023 none q
          (shapeCast S8x2048x4x2x64 k shapeCasts_S8x2048x4x128_S8x2048x4x2x64 : FVec Ideal S8x2048x4x2x64 .f32))
        (broadcastInDim S8x4x2x2048x2048 ![] bcast_S_S8x4x2x2048x2048 (constant S_ .f32 0x3E000000#32)))
      (broadcastInDim S8x4x2x2048x2048 ![0, 1, 2, 3, 4] bcast_S1x4x1x2048x2048_S8x4x2x2048x2048_0_1_2_3_4
        (mulf
          (broadcastInDim S1x4x1x2048x2048 ![0, 1, 2, 3, 4] bcast_S1x4x1x1x1_S1x4x1x2048x2048_0_1_2_3_4
            (broadcastInDim S1x4x1x1x1 ![1] bcast_S4_S1x4x1x1x1_1 slopes : FVec Ideal S1x4x1x1x1 .f32))
          (broadcastInDim S1x4x1x2048x2048 ![0, 1, 2, 3, 4] bcast_S1x1x1x2048x2048_S1x4x1x2048x2048_0_1_2_3_4
            (broadcastInDim S1x1x1x2048x2048 ![3, 4] bcast_S2048x2048_S1x1x1x2048x2048_3_4 dist : FVec Ideal S1x1x1x2048x2048 .f32))
            : FVec Ideal S1x4x1x2048x2048 .f32)))
    (broadcastInDim S8x4x2x2048x2048 ![] bcast_S_S8x4x2x2048x2048 (id (constant S_ .f32 0xFF800000#32)))

/-- A maximum over the last of five axes is the fold of `max` along it. -/
theorem reduceMax_last {n0 n1 n2 n3 n4 : ℕ} (s : FVec Ideal (⟨5, ![n0, n1, n2, n3, n4]⟩ : Shape) .f32) (init : FVec Ideal S_ .f32)
    (hr : (⟨5, ![n0, n1, n2, n3, n4]⟩ : Shape).ReducesTo [4] (⟨4, ![n0, n1, n2, n3]⟩ : Shape)) (hu : 0 < S_.numel)
    (a : Fin n0) (b : Fin n1) (c : Fin n2) (d : Fin n3) :
    (Host.reduce FloatOps.maximumf s init hr hu : FVec Ideal (⟨4, ![n0, n1, n2, n3]⟩ : Shape) .f32) (ix4 a b c d) =
      Finset.univ.fold max (init (Shape.Idx.first hu)) (fun t : Fin n4 => s (ix5 a b c d t)) := by
  simp only [pointwise]

/-- The rows' maxima. -/
def rowMax (s : FVec Ideal S8x4x2x2048x2048 .f32) : FVec Ideal S8x4x2x2048 .f32 :=
  Host.reduce FloatOps.maximumf s (constant S_ .f32 0xFF800000#32) reducesTo_S8x4x2x2048x2048_S8x4x2x2048_d4 h_S_

theorem rowMax_apply (s : FVec Ideal S8x4x2x2048x2048 .f32) (b : Fin 8) (h : Fin 4) (p : Fin 2) (i : Fin 2048) :
    rowMax s (ix4 b h p i) = Finset.univ.fold max (⊥ : EReal) (fun t : Fin 2048 => s (ix5 b h p i t)) := by
  unfold rowMax
  rw [reduceMax_last, show (constant S_ .f32 0xFF800000#32 : FVec Ideal S_ .f32) (Shape.Idx.first h_S_) = (⊥ : EReal) from Attn.negInf_word]

/-- The exponentials under the rows' maxima. -/
def expUnder (s : FVec Ideal S8x4x2x2048x2048 .f32) (m : FVec Ideal S8x4x2x2048 .f32) : FVec Ideal S8x4x2x2048x2048 .f32 :=
  Host.exp
    (subf s
      (broadcastInDim S8x4x2x2048x2048 ![0, 1, 2, 3, 4] bcast_S8x4x2x2048x1_S8x4x2x2048x2048_0_1_2_3_4
        (broadcastInDim S8x4x2x2048x1 ![0, 1, 2, 3] bcast_S8x4x2x2048_S8x4x2x2048x1_0_1_2_3 m : FVec Ideal S8x4x2x2048x1 .f32)))

/-- The larger of two arrays, at an index. -/
theorem maximumf_at {S : Shape} (x r : FVec Ideal S .f32) (i : S.Idx) : maximumf x r i = max (x i) (r i) := rfl

/-- An array filled with a word, at an index. -/
theorem filled_at {S : Shape} (w : BitVec 32) (d) (h) (i : S.Idx) :
    (broadcastInDim S d h (constant S_ .f32 w) : FVec Ideal S .f32) i = Ideal.ofBits .f32 w := rfl

/-- The rows' maxima, not below minus infinity. -/
def maxR (s : FVec Ideal S8x4x2x2048x2048 .f32) : FVec Ideal S8x4x2x2048 .f32 :=
  maximumf (broadcastInDim S8x4x2x2048 ![] bcast_S_S8x4x2x2048 (constant S_ .f32 0xFF800000#32)) (rowMax s)

/-- The exponentials under the row's maximum. -/
def expR (s : FVec Ideal S8x4x2x2048x2048 .f32) : FVec Ideal S8x4x2x2048x2048 .f32 := expUnder s (maxR s)

/-- The softmax of exponentials. -/
def probR (e : FVec Ideal S8x4x2x2048x2048 .f32) : FVec Ideal S8x4x2x2048x2048 .f32 :=
  Host.divf e
    (broadcastInDim S8x4x2x2048x2048 ![0, 1, 2, 3, 4] bcast_S8x4x2x2048x1_S8x4x2x2048x2048_0_1_2_3_4
      (broadcastInDim S8x4x2x2048x1 ![0, 1, 2, 3] bcast_S8x4x2x2048_S8x4x2x2048x1_0_1_2_3
        (Host.reduceAdd e (constant S_ .f32 0x00000000#32) reducesTo_S8x4x2x2048x2048_S8x4x2x2048_d4 h_S_
          : FVec Ideal S8x4x2x2048 .f32) : FVec Ideal S8x4x2x2048x1 .f32))

/-- The mixing weight. -/
def lamR (x3 x4 x5 x6 : FVec Ideal S1x64 .f32) : FVec Ideal S_ .f32 :=
  addf
    (subf
      (Host.exp (Host.reduceAdd
        (mulf (shapeCast S64 x3 shapeCasts_S1x64_S64 : FVec Ideal S64 .f32) (shapeCast S64 x4 shapeCasts_S1x64_S64))
        (constant S_ .f32 0x00000000#32) reducesTo_S64_S_d0 h_S_))
      (Host.exp (Host.reduceAdd
        (mulf (shapeCast S64 x5 shapeCasts_S1x64_S64 : FVec Ideal S64 .f32) (shapeCast S64 x6 shapeCasts_S1x64_S64))
        (constant S_ .f32 0x00000000#32) reducesTo_S64_S_d0 h_S_)))
    (constant S_ .f32 0x3E4CCCCD#32)

/-- The weighted values. -/
def outR (v : FVec Ideal S8x2048x4x128 .f32) (p : FVec Ideal S8x4x2x2048x2048 .f32) (lam : FVec Ideal S_ .f32) :
    FVec Ideal S8x2048x4x128 .f32 :=
  transpose S8x2048x4x128 [0, 3, 1, 2]
    (Host.dotGeneral dot_S8x2048x4x128_S8x4x2048x2048_S8x4x128x2048_1_3_3_2_02_01 none v
      (subf
        (shapeCast S8x4x2048x2048
          (extractStridedSlice S8x4x1x2048x2048 ![0, 0, 0, 0, 0] p slices_S8x4x2x2048x2048_S8x4x1x2048x2048_0_0_0_0_0)
          shapeCasts_S8x4x1x2048x2048_S8x4x2048x2048 : FVec Ideal S8x4x2048x2048 .f32)
        (mulf (broadcastInDim S8x4x2048x2048 ![] bcast_S_S8x4x2048x2048 lam)
          (shapeCast S8x4x2048x2048
            (extractStridedSlice S8x4x1x2048x2048 ![0, 0, 1, 0, 0] p slices_S8x4x2x2048x2048_S8x4x1x2048x2048_0_0_1_0_0)
            shapeCasts_S8x4x1x2048x2048_S8x4x2048x2048))) : FVec Ideal S8x4x128x2048 .f32)
    transposes_S8x4x128x2048_S8x2048x4x128_0_3_1_2

/-- The normalised rows. -/
def normR (o : FVec Ideal S8x2048x4x128 .f32) (g : FVec Ideal S1x128 .f32) : FVec Ideal S8x2048x512 .bf16 :=
  truncf .bf16
    (shapeCast S8x2048x512
      (mulf
        (mulf
          (mulf o
            (broadcastInDim S8x2048x4x128 ![0, 1, 2, 3] bcast_S8x2048x4x1_S8x2048x4x128_0_1_2_3
              (Host.rsqrt
                (addf
                  (Host.divf
                    (broadcastInDim S8x2048x4x1 ![0, 1, 2] bcast_S8x2048x4_S8x2048x4x1_0_1_2
                      (Host.reduceAdd (mulf o o) (constant S_ .f32 0x00000000#32) reducesTo_S8x2048x4x128_S8x2048x4_d3 h_S_
                        : FVec Ideal S8x2048x4 .f32) : FVec Ideal S8x2048x4x1 .f32)
                    (broadcastInDim S8x2048x4x1 ![] bcast_S_S8x2048x4x1 (constant S_ .f32 0x43000000#32)))
                  (broadcastInDim S8x2048x4x1 ![] bcast_S_S8x2048x4x1 (constant S_ .f32 0x358637BD#32))))))
          (broadcastInDim S8x2048x4x128 ![0, 1, 2, 3] bcast_S1x1x1x128_S8x2048x4x128_0_1_2_3
            (broadcastInDim S1x1x1x128 ![3] bcast_S128_S1x1x1x128_3
              (shapeCast S128 g shapeCasts_S1x128_S128 : FVec Ideal S128 .f32) : FVec Ideal S1x1x1x128 .f32)))
        (broadcastInDim S8x2048x4x128 ![] bcast_S_S8x2048x4x128 (constant S_ .f32 0x3F4CCCCD#32)))
      shapeCasts_S8x2048x4x128_S8x2048x512 : FVec Ideal S8x2048x512 .f32)
    bitsLt_bf16_f32

/-- The reference's result from its stages. -/
theorem res_eq (m : (ℓ : Loc nD τ sig) → Buf (Elt Ideal) ℓ) (c : Dev nD) :
    Value.res_out0 m c =
      normR (outR (m ((c.tc : Thread nD τ).loc main_arg2))
          (probR (expR (scoresR (m ((c.tc : Thread nD τ).loc main_arg0)) (m ((c.tc : Thread nD τ).loc main_arg1)))))
          (lamR (m ((c.tc : Thread nD τ).loc main_arg3)) (m ((c.tc : Thread nD τ).loc main_arg4))
            (m ((c.tc : Thread nD τ).loc main_arg5)) (m ((c.tc : Thread nD τ).loc main_arg6))))
        (m ((c.tc : Thread nD τ).loc main_arg7)) := by
  unfold Value.res_out0 Value.res_main_v81
  rfl

/-- The distance as a real number. -/
theorem dist_apply (i t : Fin 2048) : dist (ix2 i t) = (((i.val : ℝ) - (t.val : ℝ) : ℝ) : EReal) := by
  pointwise [dist]
  have h : (IntOp.subi (BitVec.ofNat 32 i.val) (BitVec.ofNat 32 t.val)).toInt = (i.val : ℤ) - (t.val : ℤ) := by
    have hi := i.isLt
    have ht := t.isLt
    show (BitVec.ofNat 32 i.val - BitVec.ofNat 32 t.val).toInt = _
    rw [BitVec.toInt_sub, BitVec.toInt_ofNat', BitVec.toInt_ofNat']
    simp only [Int.bmod]
    omega
  show (((BitVec.toInt _ : ℤ) : ℝ) : EReal) = _
  rw [h]
  push_cast
  rfl

/-- The mask of the later keys. -/
theorem dist_nonneg (i t : Fin 2048) : (0 : EReal) ≤ dist (ix2 i t) ↔ t.val ≤ i.val := by
  rw [dist_apply, EReal.coe_nonneg, sub_nonneg, Nat.cast_le]

/-- The word the scores are scaled by. -/
abbrev scaleWord : EReal := Ideal.ofBits .f32 0x3E000000#32

/-- One masked score. -/
theorem scoresR_apply (q : FVec Ideal S8x2048x4x2x64 .f32) (k : FVec Ideal S8x2048x4x128 .f32) (b : Fin 8) (h : Fin 4)
    (p : Fin 2) (i t : Fin 2048) :
    scoresR q k (ix5 b h p i t) =
      if t.val ≤ i.val then
        (∑ x : Fin 64, q (ix5 b i h p x) * k (ix4 b t h (Attn.halfLane p x))) * scaleWord -
          slopes (ix1 h) * (((i.val : ℝ) - (t.val : ℝ) : ℝ) : EReal)
      else ⊥ := by
  pointwise [scoresR]
  have hl : ∀ (x : Fin 64) (hx), (⟨p.val * 64 + x.val, hx⟩ : Fin 128) = Attn.halfLane p x := fun x _ =>
    Fin.ext (by show p.val * 64 + x.val = 64 * p.val + x.val; omega)
  simp only [dist_nonneg, hl]
  by_cases ht : t.val ≤ i.val
  · rw [if_pos ht, if_pos ht, dist_apply]
  · rw [if_neg ht, if_neg ht]
    exact Attn.negInf_word

theorem maxR_apply (s : FVec Ideal S8x4x2x2048x2048 .f32) (b : Fin 8) (h : Fin 4) (p : Fin 2) (i : Fin 2048) :
    maxR s (ix4 b h p i) = rowMax s (ix4 b h p i) := by
  unfold maxR
  rw [maximumf_at, filled_at, Attn.negInf_word]
  exact max_eq_right bot_le

theorem expUnder_apply (s : FVec Ideal S8x4x2x2048x2048 .f32) (m : FVec Ideal S8x4x2x2048 .f32) (b : Fin 8) (h : Fin 4)
    (p : Fin 2) (i t : Fin 2048) :
    expUnder s m (ix5 b h p i t) = Ideal.exp (s (ix5 b h p i t) - m (ix4 b h p i)) := by
  pointwise [expUnder]

/-- One exponential under the row's maximum. -/
theorem expR_apply (s : FVec Ideal S8x4x2x2048x2048 .f32) (b : Fin 8) (h : Fin 4) (p : Fin 2) (i t : Fin 2048) :
    expR s (ix5 b h p i t) =
      Ideal.exp (s (ix5 b h p i t) - Finset.univ.fold max (⊥ : EReal) (fun t : Fin 2048 => s (ix5 b h p i t))) := by
  unfold expR
  rw [expUnder_apply, maxR_apply, rowMax_apply]

/-- One probability. -/
theorem probR_apply (e : FVec Ideal S8x4x2x2048x2048 .f32) (b : Fin 8) (h : Fin 4) (p : Fin 2) (i t : Fin 2048) :
    probR e (ix5 b h p i t) = Ideal.div (e (ix5 b h p i t)) (∑ x : Fin 2048, e (ix5 b h p i x)) := by
  pointwise [probR]

/-- One weighted value. -/
theorem outR_apply (v : FVec Ideal S8x2048x4x128 .f32) (p : FVec Ideal S8x4x2x2048x2048 .f32) (lam : FVec Ideal S_ .f32)
    (b : Fin 8) (i : Fin 2048) (h : Fin 4) (d : Fin 128) :
    outR v p lam (ix4 b i h d) =
      ∑ x : Fin 2048, v (ix4 b x h d) * (p (ix5 b h 0 i x) - lam ix0 * p (ix5 b h 1 i x)) := by
  pointwise [outR]

/-- One normalised entry. -/
theorem normR_apply (o : FVec Ideal S8x2048x4x128 .f32) (g : FVec Ideal S1x128 .f32) (b : Fin 8) (i : Fin 2048) (d : Fin 512) :
    normR o g (ix3 b i d) =
      Attn.normRow (fun e => o (ix4 b i (⟨d.val / 128, by omega⟩ : Fin 4) e)) (fun e => g (ix2 0 e)) ⟨d.val % 128, by omega⟩ := by
  pointwise [normR]
  rfl

/-- The mixing weight. -/
theorem lamR_apply (x3 x4 x5 x6 : FVec Ideal S1x64 .f32) :
    lamR x3 x4 x5 x6 ix0 = Ideal.exp (∑ x, x3 (ix2 0 x) * x4 (ix2 0 x)) -
      Ideal.exp (∑ x, x5 (ix2 0 x) * x6 (ix2 0 x)) + Ideal.ofBits .f32 0x3E4CCCCD#32 := by
  pointwise [lamR]

end Cert.AttnRef
-- ==== Proof.Equation.lean ====
/- One entry of the kernel's block is the reference's entry, once the block's inputs are read from the arguments. -/
module
public import proofs.«01_k».proof.Proof.Column
public import proofs.«01_k».proof.Proof.Reference

@[expose] public section

set_option maxRecDepth 16384

noncomputable section

namespace Cert.AttnRef

open Idealize.ShloMosaic Idealize.ShloMosaic.TcCoe Idealize.SL.Sem
open Cert.Attn (flatLane halfLane half qrow scoreAt valAt acE wtE mx normRow)
open Cert.ReferenceIdeal (S4 S8x2048x4x2x64 S8x2048x4x128 S1x64 S1x128 S8x4x2x2048x2048 S_)

/-- The column of query row `r` in half `p`. -/
def col (p : Fin 2) (r : Fin 512) : Fin 1024 := ⟨512 * p.val + r.val, by omega⟩

theorem half_col (p : Fin 2) (r : Fin 512) : half (col p r) = p := by
  apply Fin.ext
  show (512 * p.val + r.val) / 512 = p.val
  omega

theorem qrow_col (p : Fin 2) (r : Fin 512) : qrow (col p r) = r := by
  apply Fin.ext
  show (512 * p.val + r.val) % 512 = r.val
  omega

/-- The query's place in the sequence. -/
def place (n : Fin 4) (r : Fin 512) : Fin 2048 := ⟨512 * n.val + r.val, by omega⟩

/-- A word with a real value. -/
theorem scaleWord_eq : scaleWord = ((1 / 8 : ℝ) : EReal) := by
  unfold scaleWord
  simp [Ideal.ofBits, Ideal.ieee]
  rw [← EReal.coe_mul]
  norm_num

theorem word_real (w : BitVec 32) (h : (w.extractLsb' 23 8).toNat ≠ 2 ^ 8 - 1) : ∃ r : ℝ, Ideal.ofBits .f32 w = (r : EReal) := by
  show ∃ r : ℝ, Ideal.ieee 8 23 w = (r : EReal)
  unfold Ideal.ieee
  simp only
  rw [if_neg h]
  split_ifs <;> exact ⟨_, rfl⟩

theorem word_four : Ideal.ofBits .f32 0x40800000#32 = ((4 : ℝ) : EReal) := by
  simp [Ideal.ofBits, Ideal.ieee]
  rw [← EReal.coe_mul]
  norm_num

/-- The slope of a head is a real number. -/
theorem slopes_real (h : Fin 4) : ∃ sl : ℝ, slopes (ix1 h) = (sl : EReal) := by
  obtain ⟨a, ha⟩ := word_real 0x3F317218#32 (by decide)
  obtain ⟨c, hc⟩ := word_real 0xC1000000#32 (by decide)
  obtain ⟨o, ho⟩ := word_real 0x3F800000#32 (by decide)
  pointwise [slopes]
  show ∃ sl : ℝ, Ideal.exp (_ * Ideal.div (_ * ((((BitVec.toInt _ : ℤ) : ℝ) : EReal) + 1)) _) = (sl : EReal)
  rw [ha, hc, word_four, ← EReal.coe_one, ← EReal.coe_add, ← EReal.coe_mul, Cert.Attn.div_coe _ _ (by norm_num), ← EReal.coe_mul,
    Ideal.exp_coe]
  exact ⟨_, rfl⟩

/-- A sum of products of real numbers is real. -/
theorem dot_real {n : ℕ} (x y : Fin n → EReal) (hx : ∀ a, x a = (EReal.toReal (x a) : EReal))
    (hy : ∀ a, y a = (EReal.toReal (y a) : EReal)) : ∃ r : ℝ, ∑ a, x a * y a = (r : EReal) := by
  refine ⟨∑ a, (x a).toReal * (y a).toReal, ?_⟩
  rw [Cert.Attn.coe_sum]
  refine Finset.sum_congr rfl fun a _ => ?_
  rw [EReal.coe_mul, ← hx, ← hy]

/-- The mixing weight is a real number when the four rows it comes from are. -/
theorem lam_real (x3 x4 x5 x6 : FVec Ideal S1x64 .f32) (h3 : ∀ a, x3 a = (EReal.toReal (x3 a) : EReal))
    (h4 : ∀ a, x4 a = (EReal.toReal (x4 a) : EReal)) (h5 : ∀ a, x5 a = (EReal.toReal (x5 a) : EReal))
    (h6 : ∀ a, x6 a = (EReal.toReal (x6 a) : EReal)) : ∃ r : ℝ, lamR x3 x4 x5 x6 ix0 = (r : EReal) := by
  obtain ⟨a, ha⟩ := dot_real (fun x : Fin 64 => x3 (ix2 0 x)) (fun x => x4 (ix2 0 x)) (fun _ => h3 _) fun _ => h4 _
  obtain ⟨b, hb⟩ := dot_real (fun x : Fin 64 => x5 (ix2 0 x)) (fun x => x6 (ix2 0 x)) (fun _ => h5 _) fun _ => h6 _
  obtain ⟨w, hw⟩ := word_real 0x3E4CCCCD#32 (by decide)
  rw [lamR_apply, ha, hb, hw, Ideal.exp_coe, Ideal.exp_coe, ← EReal.coe_sub, ← EReal.coe_add]
  exact ⟨_, rfl⟩

/-- The largest of finitely many scores, two ways. -/
theorem fold_eq_mx (s : ℕ → EReal) (N : ℕ) : Finset.univ.fold max (⊥ : EReal) (fun t : Fin N => s t.val) = mx s N := by
  show Finset.univ.sup (fun t : Fin N => s t.val) = _
  refine le_antisymm (Finset.sup_le fun t _ => Cert.Attn.le_mx s t.isLt) (Finset.sup_le fun t ht => ?_)
  exact Finset.le_sup (f := fun t : Fin N => s t.val) (Finset.mem_univ (⟨t, Finset.mem_range.mp ht⟩ : Fin N))

theorem acE_fin (s : ℕ → EReal) (v : ℕ → ℝ) (N : ℕ) : acE s v N = ∑ t : Fin N, wtE (s t.val) (mx s N) * v t.val :=
  (Fin.sum_univ_eq_sum_range (fun t => wtE (s t) (mx s N) * v t) N).symm

/-- The kernel's masked score is the reference's. -/
theorem score_eq (x1 : Vec Ideal Cert.KernelIdeal.S1x512x512 .f32) (x2 : Vec Ideal Cert.KernelIdeal.S1x2048x512 .bf16)
    (q : FVec Ideal S8x2048x4x2x64 .f32) (k : FVec Ideal S8x2048x4x128 .f32) (b : Fin 8) (n : Fin 4) (h : Fin 4) (sl : ℝ)
    (hsl : slopes (ix1 h) = (sl : EReal))
    (h1 : ∀ (r : Fin 512) (p : Fin 2) (d : Fin 64),
      x1 (ix3 0 r (flatLane h (halfLane p d))) = q (ix5 b (place n r) h p d) * scaleWord)
    (h2 : ∀ (t : Fin 2048) (l : Fin 128), x2 (ix3 0 t (flatLane h l)) = k (ix4 b t h l))
    (p : Fin 2) (r : Fin 512) (t : Fin 2048) :
    scoresR q k (ix5 b h p (place n r) t) = scoreAt sl x1 x2 n.val h (col p r) t.val := by
  have ht : (⟨t.val % 2048, Nat.mod_lt _ (by decide)⟩ : Fin 2048) = t := Fin.ext (Nat.mod_eq_of_lt t.isLt)
  rw [scoresR_apply]
  unfold scoreAt Cert.Attn.dotAt
  rw [qrow_col, half_col, ht]
  show (if t.val ≤ 512 * n.val + r.val then _ else _) = _
  by_cases hle : t.val ≤ 512 * n.val + r.val
  · rw [if_pos hle, if_pos hle, hsl, ← EReal.coe_mul]
    refine congrArg (· - _) ?_
    rw [scaleWord_eq, ← Cert.Attn.pos_mul_sum _ _ _ (by norm_num)]
    refine Finset.sum_congr rfl fun d _ => ?_
    rw [h1, h2, scaleWord_eq, ← mul_assoc, mul_comm (k _)]
  · rw [if_neg hle, if_neg hle]

/-- One entry of a head's output is the reference's entry. -/
theorem entry_eq (x0 : Vec Ideal Cert.KernelIdeal.S4 .f32) (x1 : Vec Ideal Cert.KernelIdeal.S1x512x512 .f32)
    (x2 : Vec Ideal Cert.KernelIdeal.S1x2048x512 .bf16) (x3 : Vec Ideal Cert.KernelIdeal.S4x512x512 .bf16)
    (x4 x5 x6 x7 : Vec Ideal S1x64 .f32) (x8 : Vec Ideal S1x128 .f32)
    (q : FVec Ideal S8x2048x4x2x64 .f32) (k v : FVec Ideal S8x2048x4x128 .f32)
    (b : Fin 8) (n : Fin 4) (h : Fin 4)
    (h0 : x0 (ix1 h) = slopes (ix1 h))
    (h1 : ∀ (r : Fin 512) (p : Fin 2) (d : Fin 64),
      x1 (ix3 0 r (flatLane h (halfLane p d))) = q (ix5 b (place n r) h p d) * scaleWord)
    (h2 : ∀ (t : Fin 2048) (l : Fin 128), x2 (ix3 0 t (flatLane h l)) = k (ix4 b t h l))
    (h3 : ∀ (j : Fin 4) (l : Fin 128) (s : Fin 512), x3 (ix3 j (flatLane h l) s) = v (ix4 b (place j s) h l))
    (hx3 : ∀ a, x3 a = (EReal.toReal (x3 a) : EReal))
    (h4 : ∀ a, x4 a = (EReal.toReal (x4 a) : EReal)) (h5 : ∀ a, x5 a = (EReal.toReal (x5 a) : EReal))
    (h6 : ∀ a, x6 a = (EReal.toReal (x6 a) : EReal)) (h7 : ∀ a, x7 a = (EReal.toReal (x7 a) : EReal))
    (r : Fin 512) (d : Fin 128) :
    Cert.Attn.headOut x0 x1 x2 x3 x4 x5 x6 x7 x8 n.val h (ix3 0 r d) =
      normR (outR v (probR (expR (scoresR q k))) (lamR x4 x5 x6 x7)) x8 (ix3 b (place n r) (flatLane h d)) := by
  obtain ⟨sl, hsl⟩ := slopes_real h
  obtain ⟨lam, hlam⟩ := lam_real x4 x5 x6 x7 h4 h5 h6 h7
  have hhead : (⟨(flatLane h d).val / 128, by have := (flatLane h d).isLt; omega⟩ : Fin 4) = h :=
    Fin.ext (by show (128 * h.val + d.val) / 128 = h.val; omega)
  have hlane : (⟨(flatLane h d).val % 128, by omega⟩ : Fin 128) = d :=
    Fin.ext (by show (128 * h.val + d.val) % 128 = d.val; omega)
  rw [normR_apply, hhead, hlane]
  unfold Cert.Attn.headOut
  rw [Cert.Attn.normed_apply]
  let s : Fin 2 → ℕ → EReal := fun p => scoreAt sl x1 x2 n.val h (col p r)
  let w : Fin 2 → Fin 2048 → ℝ := fun p t => wtE (s p t.val) (mx (s p) 2048)
  have hw : ∀ p t, 0 ≤ w p t := fun p t => Cert.Attn.wtE_nonneg _ _
  have hexp : ∀ p t, expR (scoresR q k) (ix5 b h p (place n r) t) = ((w p t : ℝ) : EReal) := fun p t => by
    rw [expR_apply]
    simp only [score_eq x1 x2 q k b n h sl hsl h1 h2]
    rw [fold_eq_mx (s p)]
    exact Cert.Attn.exp_sub _ _ (Cert.Attn.le_mx (s p) t.isLt)
  have hval : ∀ (e : Fin 128) (t : Fin 2048), v (ix4 b t h e) = ((valAt x3 h ⟨e.val, by omega⟩ t.val : ℝ) : EReal) := fun e t => by
    unfold valAt
    rw [dif_pos e.isLt, ← hx3]
    have hp : (⟨t.val / 512 % 4, Nat.mod_lt _ (by decide)⟩ : Fin 4) = ⟨t.val / 512, by omega⟩ :=
      Fin.ext (Nat.mod_eq_of_lt (by omega))
    rw [hp, h3]
    have : place ⟨t.val / 512, by omega⟩ ⟨t.val % 512, Nat.mod_lt _ (by decide)⟩ = t :=
      Fin.ext (by show 512 * (t.val / 512) + t.val % 512 = t.val; omega)
    rw [this]
  have hone : ∀ t, valAt x3 h 128 t = 1 := fun t => by
    unfold valAt
    exact dif_neg (by decide)
  have hcol : ∀ (p : Fin 2) (hc), (⟨512 * p.val + r.val, hc⟩ : Fin 1024) = col p r := fun _ _ => rfl
  refine Eq.trans (congrArg (fun o => normRow o _ d) (funext fun e => ?_))
    ((Cert.Attn.normRow_mix (w 0) (w 1) (hw 0) (hw 1) lam (fun e t => valAt x3 h ⟨e.val, by omega⟩ t.val) _ d).trans
      (congrArg (fun o => normRow o _ d) (funext fun e => ?_)))
  · rw [Cert.Attn.mixed_apply]
    have hc0 : (⟨r.val, by omega⟩ : Fin 1024) = col 0 r := Fin.ext (by show r.val = 512 * 0 + r.val; omega)
    have hc1 : (⟨512 + r.val, by omega⟩ : Fin 1024) = col 1 r := Fin.ext (by show 512 + r.val = 512 * 1 + r.val; omega)
    have hl : Cert.Attn.lamV x4 x5 x6 x7 (ix2 0 0) = (lam : EReal) := by
      rw [Cert.Attn.lamV_apply, ← lamR_apply]
      exact hlam
    rw [hc0, hc1, hl]
    simp only [Cert.Attn.whole_eq x0 x1 x2 x3 h sl (h0.trans hsl) hx3 n.val n.isLt, acE_fin, hone, mul_one]
    rfl
  · rw [outR_apply]
    refine Finset.sum_congr rfl fun t _ => ?_
    rw [probR_apply, probR_apply, hlam, ← hval]
    simp only [hexp, Cert.Attn.coe_sum]

end Cert.AttnRef
-- ==== Proof.Inputs.lean ====
/- What the kernel's blocks hold of the arguments. -/
module
public import proofs.«01_k».proof.Proof.Equation
public import proofs.«01_k».proof.Proof.Gen.KernelIdeal.Value
public import Idealize.ShloMosaic.Lib.Pipeline.ValueKit

@[expose] public section

set_option maxRecDepth 16384

noncomputable section

namespace Cert.AttnRun

open Cert.KernelIdeal Cert.KernelIdeal.Gen Idealize.ShloMosaic Idealize.ShloMosaic.TcCoe Idealize.SL.Sem
open Cert.Attn (flatLane halfLane)

variable (m : (ℓ : Loc nD τ sig) → Buf (Elt Ideal) ℓ)

theorem idx0 : ∀ t : Fin cfg0.N, win0_0.index t = ![0] :=
  (by decide +kernel : ∀ t : Fin grid0.N, win0_0.index t = ![0])
theorem idx1 : ∀ t : Fin cfg0.N, win0_1.index t = ![t.val / 4, t.val % 4, 0] :=
  (by decide +kernel : ∀ t : Fin grid0.N, win0_1.index t = ![t.val / 4, t.val % 4, 0])
theorem idx2 : ∀ t : Fin cfg0.N, win0_2.index t = ![t.val / 4, 0, 0] :=
  (by decide +kernel : ∀ t : Fin grid0.N, win0_2.index t = ![t.val / 4, 0, 0])
theorem idx3 : ∀ t : Fin cfg0.N, win0_3.index t = ![t.val / 4, 0, 0] :=
  (by decide +kernel : ∀ t : Fin grid0.N, win0_3.index t = ![t.val / 4, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val / 4, t.val % 4, 0] :=
  (by decide +kernel : ∀ t : Fin grid0.N, win0_9.index t = ![t.val / 4, t.val % 4, 0])

/-- The batch row of a grid point. -/
def row (t : Fin cfg0.N) : Fin 8 := ⟨t.val / 4, by have := t.isLt; have : cfg0.N = 32 := N_0; omega⟩

/-- The query tile of a grid point. -/
def tile (t : Fin cfg0.N) : Fin 4 := ⟨t.val % 4, Nat.mod_lt _ (by decide)⟩

theorem read1 (c : Dev nD) (t : Fin cfg0.N) (r l : Fin 512) :
    (iblk m c 1 t : Vec Ideal S1x512x512 .f32) (ix3 0 r l) =
      (V m c main_v28 : Vec Ideal S8x2048x512 .f32) (ix3 (row t) (AttnRef.place (tile t) r) l) := by
  blk_ext [iblk, idx1 t, row, tile, AttnRef.place]

theorem read2 (c : Dev nD) (t : Fin cfg0.N) (s : Fin 2048) (l : Fin 512) :
    (iblk m c 2 t : Vec Ideal S1x2048x512 .bf16) (ix3 0 s l) =
      (V m c main_v29 : Vec Ideal S8x2048x512 .bf16) (ix3 (row t) s l) := by
  blk_ext [iblk, idx2 t, row]

theorem read3 (c : Dev nD) (t : Fin cfg0.N) (j : Fin 4) (l s : Fin 512) :
    (iblk m c 3 t : Vec Ideal S4x512x512 .bf16) (ix3 j l s) =
      (V m c main_v27 : Vec Ideal S32x512x512 .bf16) (ix3 ⟨4 * (row t).val + j.val, by have := (row t).isLt; omega⟩ l s) := by
  blk_ext [iblk, idx3 t, row]

/-- The staged queries: the argument times an eighth. -/
theorem staged1 (c : Dev nD) (q : FVec Ideal S8x2048x4x2x64 .f32) (hq : m ((c : Thread nD τ).loc main_arg0) = q)
    (b : Fin 8) (i : Fin 2048) (h : Fin 4) (p : Fin 2) (d : Fin 64) :
    (V m c main_v28 : Vec Ideal S8x2048x512 .f32) (ix3 b i (flatLane h (halfLane p d))) =
      q (ix5 b i h p d) * AttnRef.scaleWord := by
  entry_read
  pointwise
  subst hq
  refine congrArg (· * _) ?_
  blk_ext [flatLane, halfLane]

/-- The staged keys: the argument. -/
theorem staged2 (c : Dev nD) (k : FVec Ideal S8x2048x4x128 .f32) (hk : m ((c : Thread nD τ).loc main_arg1) = k)
    (b : Fin 8) (s : Fin 2048) (h : Fin 4) (l : Fin 128) :
    (V m c main_v29 : Vec Ideal S8x2048x512 .bf16) (ix3 b s (flatLane h l)) = k (ix4 b s h l) := by
  entry_read
  pointwise
  subst hk
  blk_ext [flatLane]

/-- The staged values: the argument, a tile's keys along the lanes. -/
theorem staged3 (c : Dev nD) (v : FVec Ideal S8x2048x4x128 .f32) (hv : m ((c : Thread nD τ).loc main_arg2) = v)
    (b : Fin 8) (j : Fin 4) (h : Fin 4) (l : Fin 128) (s : Fin 512) (hb) :
    (V m c main_v27 : Vec Ideal S32x512x512 .bf16) (ix3 ⟨4 * b.val + j.val, hb⟩ (flatLane h l) s) =
      v (ix4 b (AttnRef.place j s) h l) := by
  entry_read
  pointwise
  subst hv
  blk_ext [flatLane, AttnRef.place]

/-- The staged slopes: the reference's. -/
theorem staged0 (c : Dev nD) (h : Fin 4) : (V m c main_v19 : Vec Ideal S4 .f32) (ix1 h) = AttnRef.slopes (ix1 h) := by
  entry_read
  pointwise [AttnRef.slopes]

/-- The block of window 4: argument 3. -/
theorem row4 (c : Dev nD) (t : Fin cfg0.N) :
    (iblk m c 4 t : Vec Ideal S1x64 .f32) = m ((c : Thread nD τ).loc main_arg3) := by
  funext a
  blk_simp [iblk, idx4 t]
  entry_read
  pointwise
  blk_ext [iblk, idx4 t]

/-- The block of window 5: argument 4. -/
theorem row5 (c : Dev nD) (t : Fin cfg0.N) :
    (iblk m c 5 t : Vec Ideal S1x64 .f32) = m ((c : Thread nD τ).loc main_arg4) := by
  funext a
  blk_simp [iblk, idx5 t]
  entry_read
  pointwise
  blk_ext [iblk, idx5 t]

/-- The block of window 6: argument 5. -/
theorem row6 (c : Dev nD) (t : Fin cfg0.N) :
    (iblk m c 6 t : Vec Ideal S1x64 .f32) = m ((c : Thread nD τ).loc main_arg5) := by
  funext a
  blk_simp [iblk, idx6 t]
  entry_read
  pointwise
  blk_ext [iblk, idx6 t]

/-- The block of window 7: argument 6. -/
theorem row7 (c : Dev nD) (t : Fin cfg0.N) :
    (iblk m c 7 t : Vec Ideal S1x64 .f32) = m ((c : Thread nD τ).loc main_arg6) := by
  funext a
  blk_simp [iblk, idx7 t]
  entry_read
  pointwise
  blk_ext [iblk, idx7 t]

/-- The block of window 8: argument 7. -/
theorem row8 (c : Dev nD) (t : Fin cfg0.N) :
    (iblk m c 8 t : Vec Ideal S1x128 .f32) = m ((c : Thread nD τ).loc main_arg7) := by
  funext a
  blk_simp [iblk, idx8 t]
  entry_read
  pointwise
  blk_ext [iblk, idx8 t]

/-- The block of window 0: the slopes. -/
theorem slope0 (c : Dev nD) (t : Fin cfg0.N) (h : Fin 4) :
    (iblk m c 0 t : Vec Ideal S4 .f32) (ix1 h) = AttnRef.slopes (ix1 h) := by
  refine Eq.trans ?_ (staged0 m c h)
  blk_ext [iblk, idx0 t]

end Cert.AttnRun
-- ==== Proof.Run.lean ====
/- The kernel's block is the pure block: the loop by induction on its trips, and each stored head. -/
module
public import proofs.«01_k».proof.Proof.Block
public import Idealize.ShloMosaic.Lib.Pointwise

@[expose] public section

set_option maxRecDepth 16384

noncomputable section

namespace Cert.Attn

open Cert.KernelIdeal Cert.KernelIdeal.Gen Idealize.ShloMosaic Idealize.ShloMosaic.TcCoe Idealize.SL.Sem

/-- The loop's carried value before trip `k`: every head after `k` tiles. -/
theorem loop_eq (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    ∀ k : ℕ, k ≤ Scf.trips (k0_t1_loop i).lb (k0_t1_loop i).ub (k0_t1_loop i).st →
      (st_k0_t1 (F := Ideal) Variants.none c none i arg3 harg3 arg4 harg4 arg5 harg5 arg6 harg6 arg7 harg7 arg8
      harg8 arg9 harg9 arg10 harg10 arg11 harg11 arg12 harg12 (BitVec.ofNat 32 (i 2).val) posF (slopeIn x0 0)
      (queries (queryIn x1 0) (slopeIn x0 0)) (slopeIn x0 1) (queries (queryIn x1 1) (slopeIn x0 1)) (slopeIn x0
      2) (queries (queryIn x1 2) (slopeIn x0 2)) (slopeIn x0 3) (slopeWide (slopeIn x0 3)) (scaled (queryIn x1 3))
      zeros (select lanesBelow (scaled (queryIn x1 3)) zeros) lanesFrom (harg5.unread x2) (harg6.unread x3) (pack
      (startM, startA) (startM, startA) (startM, startA) (startM, startA)) k) =
      pack (earlier x0 x1 x2 x3 (BitVec.ofNat 32 (i 2).val) 0 k) (earlier x0 x1 x2 x3 (BitVec.ofNat 32 (i 2).val) 1 k)
        (earlier x0 x1 x2 x3 (BitVec.ofNat 32 (i 2).val) 2 k) (earlier x0 x1 x2 x3 (BitVec.ofNat 32 (i 2).val) 3 k)
  | 0, _ => st_k0_t1_zero ..
  | k + 1, hk => by
    have hk4 : k < 4 := by
      have h2 := (i 2).isLt
      change (i 2).val < 4 at h2
      rw [trips1] at hk; omega
    refine (st_k0_t1_succ Variants.none c none i arg3 harg3 arg4 harg4 arg5 harg5 arg6 harg6 arg7 harg7 arg8 harg8 arg9 harg9 arg10 harg10 arg11 harg11 arg12
      harg12
      _ _ _ _ _ _ _ _ _ _ _ _ _ _ _ _ _ ⟨k, hk⟩).trans ?_
    rw [show (⟨k, hk⟩ : Fin _).val = k from rfl,
      loop_eq c i arg3 harg3 arg4 harg4 arg5 harg5 arg6 harg6 arg7 harg7 arg8 harg8 arg9 harg9 arg10 harg10 arg11 harg11
      arg12 harg12 x0 x1 x2 x3 x4 x5 x6 x7 x8 k (Nat.le_of_succ_le hk)]
    refine (trip_eq Variants.none c none i arg3 harg3 arg4 harg4 arg5 harg5 arg6 harg6 arg7 harg7 arg8 harg8 arg9 harg9 arg10 harg10 arg11 harg11 arg12
      harg12
      (BitVec.ofNat 32 (i 2).val) (queryIn x1) (slopeIn x0) _ _ ⟨k, hk⟩ _).trans ?_
    simp only [load_part]
    rw [load_key x2 0 k hk4 (off2_eq i ⟨k, hk⟩), load_key x2 1 k hk4 (off4_eq i ⟨k, hk⟩),
      load_key x2 2 k hk4 (off6_eq i ⟨k, hk⟩), load_key x2 3 k hk4 (off8_eq i ⟨k, hk⟩),
      load_val x3 0 k hk4 (off3_eq i ⟨k, hk⟩), load_val x3 1 k hk4 (off5_eq i ⟨k, hk⟩),
      load_val x3 2 k hk4 (off7_eq i ⟨k, hk⟩), load_val x3 3 k hk4 (off9_eq i ⟨k, hk⟩)]
    rfl

/-! ## The words of the run -/

theorem word_pos : k0_pay45 (F := Ideal) kernelRun0_A.sl.v19 k0_pay43 k0_pay44 = posF := by
  sl_unfold_words
  rfl

theorem word_slope0 (c : Dev nD) (i : grid0.Coords) (arg3 : Memref sig .tc .smem S4 .f32) (harg3 : arg3.IsWhole) (x0 : Vec Ideal
    S4 .f32) :
    kernelRun0_A.sl.r_2 (F := Ideal) c i arg3 harg3 x0 = slopeIn x0 0 := by
  sl_unfold_words
  exact congrArg (fun t => Scalar.mulf t logTwoE)
    ((congrFun (load_part harg3 x0 _ _ _) _).trans (load_slope x0 0 (off1_eq0 i) (k0_off1_inb i 0) _))

theorem word_slope1 (c : Dev nD) (i : grid0.Coords) (arg3 : Memref sig .tc .smem S4 .f32) (harg3 : arg3.IsWhole) (x0 : Vec Ideal
    S4 .f32) :
    kernelRun0_A.sl.r_9 (F := Ideal) c i arg3 harg3 x0 = slopeIn x0 1 := by
  sl_unfold_words
  exact congrArg (fun t => Scalar.mulf t logTwoE)
    ((congrFun (load_part harg3 x0 _ _ _) _).trans (load_slope x0 1 (off1_eq1 i) (k0_off1_inb i 1) _))

theorem word_slope2 (c : Dev nD) (i : grid0.Coords) (arg3 : Memref sig .tc .smem S4 .f32) (harg3 : arg3.IsWhole) (x0 : Vec Ideal
    S4 .f32) :
    kernelRun0_A.sl.r_19 (F := Ideal) c i arg3 harg3 x0 = slopeIn x0 2 := by
  sl_unfold_words
  exact congrArg (fun t => Scalar.mulf t logTwoE)
    ((congrFun (load_part harg3 x0 _ _ _) _).trans (load_slope x0 2 (off1_eq2 i) (k0_off1_inb i 2) _))

theorem word_slope3 (c : Dev nD) (i : grid0.Coords) (arg3 : Memref sig .tc .smem S4 .f32) (harg3 : arg3.IsWhole) (x0 : Vec Ideal
    S4 .f32) :
    kernelRun0_A.sl.r_27 (F := Ideal) c i arg3 harg3 x0 = slopeIn x0 3 := by
  sl_unfold_words
  exact congrArg (fun t => Scalar.mulf t logTwoE)
    ((congrFun (load_part harg3 x0 _ _ _) _).trans (load_slope x0 3 (off1_eq3 i) (k0_off1_inb i 3) _))

theorem word_queries0 (c : Dev nD) (i : grid0.Coords) (arg3 : Memref sig .tc .smem S4 .f32) (harg3 : arg3.IsWhole) (arg4 : Memref
    sig .tc .vmem S1x512x512 .f32) (harg4 : arg4.IsWhole) (x0 : Vec Ideal S4 .f32) (x1 : Vec Ideal S1x512x512
    .f32) :
    kernelRun0_A.sl.r_8 (F := Ideal) c i arg3 harg3 arg4 harg4 x0 x1 = queries (queryIn x1 0) (slopeIn x0 0) := by
  rw [← word_slope0 c i arg3 harg3 x0, ← load_query x1 0 (off := ![0, 0, 0]) rfl inb_S1x512x512_S1x512x128_0_0_0, ← load_part harg4]
  sl_unfold_words
  rfl

theorem word_queries1 (c : Dev nD) (i : grid0.Coords) (arg3 : Memref sig .tc .smem S4 .f32) (harg3 : arg3.IsWhole) (arg4 : Memref
    sig .tc .vmem S1x512x512 .f32) (harg4 : arg4.IsWhole) (x0 : Vec Ideal S4 .f32) (x1 : Vec Ideal S1x512x512
    .f32) :
    kernelRun0_A.sl.r_18 (F := Ideal) c i arg3 harg3 arg4 harg4 x0 x1 = queries (queryIn x1 1) (slopeIn x0 1) := by
  rw [← word_slope1 c i arg3 harg3 x0, ← load_query x1 1 (off := ![0, 0, 128]) rfl inb_S1x512x512_S1x512x128_0_0_128, ← load_part harg4]
  sl_unfold_words
  rfl

theorem word_queries2 (c : Dev nD) (i : grid0.Coords) (arg3 : Memref sig .tc .smem S4 .f32) (harg3 : arg3.IsWhole) (arg4 : Memref
    sig .tc .vmem S1x512x512 .f32) (harg4 : arg4.IsWhole) (x0 : Vec Ideal S4 .f32) (x1 : Vec Ideal S1x512x512
    .f32) :
    kernelRun0_A.sl.r_26 (F := Ideal) c i arg3 harg3 arg4 harg4 x0 x1 = queries (queryIn x1 2) (slopeIn x0 2) := by
  rw [← word_slope2 c i arg3 harg3 x0, ← load_query x1 2 (off := ![0, 0, 256]) rfl inb_S1x512x512_S1x512x128_0_0_256, ← load_part harg4]
  sl_unfold_words
  rfl

theorem word_wide (c : Dev nD) (i : grid0.Coords) (arg3 : Memref sig .tc .smem S4 .f32) (harg3 : arg3.IsWhole) (x0 : Vec Ideal
    S4 .f32) :
    kernelRun0_A.sl.r_33 (F := Ideal) c i arg3 harg3 x0 = slopeWide (slopeIn x0 3) := by
  rw [← word_slope3 c i arg3 harg3 x0]
  sl_unfold_words
  rfl

theorem word_scaled (c : Dev nD) (arg4 : Memref sig .tc .vmem S1x512x512 .f32) (harg4 : arg4.IsWhole) (x1 : Vec Ideal S1x512x512
    .f32) :
    kernelRun0_A.sl.r_34 (F := Ideal) c arg4 harg4 x1 = scaled (queryIn x1 3) := by
  rw [← load_query x1 3 (off := ![0, 0, 384]) rfl inb_S1x512x512_S1x512x128_0_0_384, ← load_part harg4]
  sl_unfold_words
  rfl

theorem word_below (c : Dev nD) (arg4 : Memref sig .tc .vmem S1x512x512 .f32) (harg4 : arg4.IsWhole) (x1 : Vec Ideal S1x512x512
    .f32) :
    kernelRun0_A.sl.r_35 (F := Ideal) c arg4 harg4 x1 = select lanesBelow (scaled (queryIn x1 3)) zeros := by
  rw [← word_scaled c arg4 harg4 x1]
  sl_unfold_words
  rfl

theorem word_start : (k0_pay107 : FVec Ideal S1x1024 .f32) = startM := rfl
theorem word_startA : (k0_pay108 : FVec Ideal S144x1024 .f32) = startA := rfl
theorem word_zeros : (k0_pay103 : FVec Ideal S512x128 .bf16) = zeros := rfl
theorem word_from : k0_pay105 = lanesFrom := rfl

theorem word_lam (c : Dev nD) (arg7 : Memref sig .tc .vmem S1x64 .f32) (harg7 : arg7.IsWhole) (arg8 : Memref sig .tc .vmem
    S1x64 .f32) (harg8 : arg8.IsWhole) (arg9 : Memref sig .tc .vmem S1x64 .f32) (harg9 : arg9.IsWhole)
    (arg10 : Memref sig .tc .vmem S1x64 .f32) (harg10 : arg10.IsWhole) (x4 x5 x6 x7 : Vec Ideal S1x64 .f32) :
    kernelRun0_A.sl.r (F := Ideal) c arg7 harg7 arg8 harg8 arg9 harg9 arg10 harg10 x4 x5 x6 x7 = lamV x4 x5 x6 x7 := by
  sl_unfold_words
  have hz (x : Vec Ideal S1x64 .f32) :
      View.ld (Val := Elt Ideal) (e' := .f32) x (Rect.unit (s := S1x64) ![0, 0] S1x64.size inb_S1x64_S1x64_0_0) = x :=
    View.ld_unit_zero (by funext a; fin_cases a <;> rfl) _ x
  simp only [load_part]
  erw [hz, hz, hz, hz]
  rfl

/-- What the two loops leave: every head after the earlier tiles. -/
theorem carried (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    (kernelRun0_A.sl.r_37 (F := Ideal) c i arg3 harg3 arg4 harg4 arg5 harg5 arg6 harg6 arg7 harg7 arg8 harg8 arg9 harg9 arg10 harg10 arg11 harg11
        arg12 harg12 x0 x1 x2 x3,
      kernelRun0_A.sl.r_38 (F := Ideal) c i arg3 harg3 arg4 harg4 arg5 harg5 arg6 harg6 arg7 harg7 arg8 harg8 arg9 harg9 arg10 harg10 arg11 harg11
        arg12 harg12 x0 x1 x2 x3,
      kernelRun0_A.sl.r_39 (F := Ideal) c i arg3 harg3 arg4 harg4 arg5 harg5 arg6 harg6 arg7 harg7 arg8 harg8 arg9 harg9 arg10 harg10 arg11 harg11
        arg12 harg12 x0 x1 x2 x3,
      kernelRun0_A.sl.r_40 (F := Ideal) c i arg3 harg3 arg4 harg4 arg5 harg5 arg6 harg6 arg7 harg7 arg8 harg8 arg9 harg9 arg10 harg10 arg11 harg11
        arg12 harg12 x0 x1 x2 x3,
      kernelRun0_A.sl.r_41 (F := Ideal) c i arg3 harg3 arg4 harg4 arg5 harg5 arg6 harg6 arg7 harg7 arg8 harg8 arg9 harg9 arg10 harg10 arg11 harg11
        arg12 harg12 x0 x1 x2 x3,
      kernelRun0_A.sl.r_42 (F := Ideal) c i arg3 harg3 arg4 harg4 arg5 harg5 arg6 harg6 arg7 harg7 arg8 harg8 arg9 harg9 arg10 harg10 arg11 harg11
        arg12 harg12 x0 x1 x2 x3,
      kernelRun0_A.sl.r_43 (F := Ideal) c i arg3 harg3 arg4 harg4 arg5 harg5 arg6 harg6 arg7 harg7 arg8 harg8 arg9 harg9 arg10 harg10 arg11 harg11
        arg12 harg12 x0 x1 x2 x3,
      kernelRun0_A.sl.r_44 (F := Ideal) c i arg3 harg3 arg4 harg4 arg5 harg5 arg6 harg6 arg7 harg7 arg8 harg8 arg9 harg9 arg10 harg10 arg11 harg11
        arg12 harg12 x0 x1 x2 x3) =
      pack (earlier x0 x1 x2 x3 (BitVec.ofNat 32 (i 2).val) 0 (i 2).val)
        (earlier x0 x1 x2 x3 (BitVec.ofNat 32 (i 2).val) 1 (i 2).val)
        (earlier x0 x1 x2 x3 (BitVec.ofNat 32 (i 2).val) 2 (i 2).val)
        (earlier x0 x1 x2 x3 (BitVec.ofNat 32 (i 2).val) 3 (i 2).val) := by
  have hL := loop_eq c i arg3 harg3 arg4 harg4 arg5 harg5 arg6 harg6 arg7 harg7 arg8 harg8 arg9 harg9 arg10 harg10 arg11 harg11
    arg12 harg12 x0 x1 x2 x3 x4 x5 x6 x7 x8 _ (le_refl _)
  unfold kernelRun0_A.sl.r_37 kernelRun0_A.sl.r_38 kernelRun0_A.sl.r_39 kernelRun0_A.sl.r_40 kernelRun0_A.sl.r_41 kernelRun0_A.sl.r_42 kernelRun0_A.sl.r_43 kernelRun0_A.sl.r_44
  rw [trips2, st_k0_t2_zero, word_pos, word_slope0, word_slope1, word_slope2, word_slope3, word_queries0, word_queries1,
    word_queries2, word_wide, word_scaled, word_below, word_start, word_startA, word_zeros, word_from]
  refine Eq.trans ?_ (hL.trans ?_)
  · rfl
  · rw [trips1]

/-- Head 0's accumulator after the diagonal tile. -/
theorem final0 (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    kernelRun0_A.sl.r_46 (F := Ideal) c i arg3 harg3 arg4 harg4 arg5 harg5 arg6 harg6 arg7 harg7 arg8 harg8 arg9 harg9 arg10 harg10 arg11 harg11
      arg12 harg12 x0 x1 x2 x3 =
      (whole x0 x1 x2 x3 (i 2).val 0).2 := by
  have hc := carried c i arg3 harg3 arg4 harg4 arg5 harg5 arg6 harg6 arg7 harg7 arg8 harg8 arg9 harg9 arg10 harg10 arg11 harg11
    arg12 harg12 x0 x1 x2 x3 x4 x5 x6 x7 x8
  have h2 := (i 2).isLt
  change (i 2).val < 4 at h2
  unfold kernelRun0_A.sl.r_46 kernelRun0_A.sl.r_45
  simp only [pack, Prod.mk.injEq] at hc
  obtain ⟨c0, c1, c2, c3, c4, c5, c6, c7⟩ := hc
  rw [c0, c1, word_pos, word_slope0, word_queries0]
  simp only [load_part]
  rw [load_key x2 0 _ h2 (off18_eq i), load_val x3 0 _ h2 (off19_eq i)]
  rfl

/-- Head 1's accumulator after the diagonal tile. -/
theorem final1 (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    kernelRun0_A.sl.r_48 (F := Ideal) c i arg3 harg3 arg4 harg4 arg5 harg5 arg6 harg6 arg7 harg7 arg8 harg8 arg9 harg9 arg10 harg10 arg11 harg11
      arg12 harg12 x0 x1 x2 x3 =
      (whole x0 x1 x2 x3 (i 2).val 1).2 := by
  have hc := carried c i arg3 harg3 arg4 harg4 arg5 harg5 arg6 harg6 arg7 harg7 arg8 harg8 arg9 harg9 arg10 harg10 arg11 harg11
    arg12 harg12 x0 x1 x2 x3 x4 x5 x6 x7 x8
  have h2 := (i 2).isLt
  change (i 2).val < 4 at h2
  unfold kernelRun0_A.sl.r_48 kernelRun0_A.sl.r_47
  simp only [pack, Prod.mk.injEq] at hc
  obtain ⟨c0, c1, c2, c3, c4, c5, c6, c7⟩ := hc
  rw [c2, c3, word_pos, word_slope1, word_queries1]
  simp only [load_part]
  rw [load_key x2 1 _ h2 (off20_eq i), load_val x3 1 _ h2 (off21_eq i)]
  rfl

/-- Head 2's accumulator after the diagonal tile. -/
theorem final2 (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    kernelRun0_A.sl.r_50 (F := Ideal) c i arg3 harg3 arg4 harg4 arg5 harg5 arg6 harg6 arg7 harg7 arg8 harg8 arg9 harg9 arg10 harg10 arg11 harg11
      arg12 harg12 x0 x1 x2 x3 =
      (whole x0 x1 x2 x3 (i 2).val 2).2 := by
  have hc := carried c i arg3 harg3 arg4 harg4 arg5 harg5 arg6 harg6 arg7 harg7 arg8 harg8 arg9 harg9 arg10 harg10 arg11 harg11
    arg12 harg12 x0 x1 x2 x3 x4 x5 x6 x7 x8
  have h2 := (i 2).isLt
  change (i 2).val < 4 at h2
  unfold kernelRun0_A.sl.r_50 kernelRun0_A.sl.r_49
  simp only [pack, Prod.mk.injEq] at hc
  obtain ⟨c0, c1, c2, c3, c4, c5, c6, c7⟩ := hc
  rw [c4, c5, word_pos, word_slope2, word_queries2]
  simp only [load_part]
  rw [load_key x2 2 _ h2 (off22_eq i), load_val x3 2 _ h2 (off23_eq i)]
  rfl

/-- Head 3's accumulator after the diagonal tile. -/
theorem final3 (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    kernelRun0_A.sl.r_52 (F := Ideal) c i arg3 harg3 arg4 harg4 arg5 harg5 arg6 harg6 arg7 harg7 arg8 harg8 arg9 harg9 arg10 harg10 arg11 harg11
      arg12 harg12 x0 x1 x2 x3 =
      (whole x0 x1 x2 x3 (i 2).val 3).2 := by
  have hc := carried c i arg3 harg3 arg4 harg4 arg5 harg5 arg6 harg6 arg7 harg7 arg8 harg8 arg9 harg9 arg10 harg10 arg11 harg11
    arg12 harg12 x0 x1 x2 x3 x4 x5 x6 x7 x8
  have h2 := (i 2).isLt
  change (i 2).val < 4 at h2
  unfold kernelRun0_A.sl.r_52 kernelRun0_A.sl.r_51 kernelRun0_A.sl.r_36
  simp only [pack, Prod.mk.injEq] at hc
  obtain ⟨c0, c1, c2, c3, c4, c5, c6, c7⟩ := hc
  rw [c6, c7, word_pos, word_slope3, word_wide, word_scaled, word_zeros, word_below, word_from]
  simp only [load_part]
  rw [load_key x2 3 _ h2 (off24_eq i), load_val x3 3 _ h2 (off25_eq i)]
  rfl

/-- The pure block, read where head `h`'s rows are stored. -/
theorem blockOut_emb (x0 : Vec Ideal S4 .f32) (x1 : Vec Ideal S1x512x512 .f32) (x2 : Vec Ideal S1x2048x512 .bf16)
    (x3 : Vec Ideal S4x512x512 .bf16) (x4 x5 x6 x7 : Vec Ideal S1x64 .f32) (x8 : Vec Ideal S1x128 .f32)
    (n : ℕ) (h : Fin 4) (inb) (x : S1x512x128.Idx) :
    blockOut x0 x1 x2 x3 x4 x5 x6 x7 x8 n
        ((Rect.unit (s := S1x512x512) ![0, 0, 128 * h.val] S1x512x128.size inb).emb x) =
      headOut x0 x1 x2 x3 x4 x5 x6 x7 x8 n h x := by
  have h0 := (x 0).isLt
  have h2 := (x 2).isLt
  change (x 0).val < 1 at h0
  change (x 2).val < 128 at h2
  have e2 : (((Rect.unit (s := S1x512x512) ![0, 0, 128 * h.val] S1x512x128.size inb).emb x) 2).val
      = 128 * h.val + (x 2).val := by
    show 128 * h.val + 1 * (x 2).val = _
    omega
  unfold blockOut
  congr 1
  · exact Fin.ext (by show _ / 128 = h.val; rw [e2]; omega)
  · refine funext fun b => Fin.ext ?_
    match b with
    | ⟨0, _⟩ => show 0 = (x 0).val; omega
    | ⟨1, _⟩ => show 0 + 1 * (x 1).val = (x 1).val; omega
    | ⟨2, _⟩ => show _ % 128 = (x 2).val; rw [e2]; omega

/-- The block the kernel leaves is the pure block. -/
theorem block_eq (c : Dev nD) (i : grid0.Coords) (arg3 : Memref sig .tc .smem S4 .f32) (harg3 : arg3.IsWhole) (arg4 : Memref
    sig .tc .vmem S1x512x512 .f32) (harg4 : arg4.IsWhole) (arg5 : Memref sig .tc .vmem S1x2048x512 .bf16)
    (harg5 : arg5.IsWhole) (arg6 : Memref sig .tc .vmem S4x512x512 .bf16) (harg6 : arg6.IsWhole) (arg7 : Memref
    sig .tc .vmem S1x64 .f32) (harg7 : arg7.IsWhole) (arg8 : Memref sig .tc .vmem S1x64 .f32)
    (harg8 : arg8.IsWhole) (arg9 : Memref sig .tc .vmem S1x64 .f32) (harg9 : arg9.IsWhole) (arg10 : Memref sig
    .tc .vmem S1x64 .f32) (harg10 : arg10.IsWhole) (arg11 : Memref sig .tc .vmem S1x128 .f32)
    (harg11 : arg11.IsWhole) (arg12 : Memref sig .tc .vmem S1x512x512 .bf16) (harg12 : arg12.IsWhole) (x0 : Vec
    Ideal S4 .f32) (x1 : Vec Ideal S1x512x512 .f32) (x2 : Vec Ideal S1x2048x512 .bf16) (x3 : Vec Ideal
    S4x512x512 .bf16) (x4 : Vec Ideal S1x64 .f32) (x5 : Vec Ideal S1x64 .f32) (x6 : Vec Ideal S1x64 .f32)
    (x7 : Vec Ideal S1x64 .f32) (x8 : Vec Ideal S1x128 .f32) :
    out0_A_9 (F := Ideal) c i arg3 harg3 arg4 harg4 arg5 harg5 arg6 harg6 arg7 harg7 arg8 harg8 arg9 harg9 arg10 harg10 arg11 harg11
      arg12 harg12 x0 x1 x2 x3 x4 x5 x6 x7 x8 =
      blockOut x0 x1 x2 x3 x4 x5 x6 x7 x8 (i 2).val := by
  have hz : View.readAt (Elt Ideal) arg11.view
      (Rect.unit (s := S1x128) ![0, 0] S1x128.size inb_S1x128_S1x128_0_0).toLoadRect (harg11.unread x8) = x8 :=
    (load_part harg11 x8 _ _ _).trans (View.ld_unit_zero (by funext a; fin_cases a <;> rfl) _ x8)
  unfold out0_A_9
  rw [View.read_writes_eq_canon _ _ _ (cover0_A_9 c i arg3 harg3 arg4 harg4 arg5 harg5 arg6 harg6 arg7 harg7 arg8 harg8 arg9 harg9 arg10 harg10 arg11 harg11
    arg12 harg12 x0 x1 x2 x3 x4 x5 x6 x7 x8)]
  funext y
  refine View.canon_apply_of_pieces (blockOut x0 x1 x2 x3 x4 x5 x6 x7 x8 (i 2).val) _ (fun p hp x => ?_) y
    (cover0_A_9 c i arg3 harg3 arg4 harg4 arg5 harg5 arg6 harg6 arg7 harg7 arg8 harg8 arg9 harg9 arg10 harg10 arg11 harg11
    arg12 harg12 x0 x1 x2 x3 x4 x5 x6 x7 x8 y)
  unfold kernelRun0_A at hp
  dsimp only at hp
  simp only [List.mem_cons, List.not_mem_nil, or_false] at hp
  rcases hp with rfl | rfl | rfl | rfl
  · refine Eq.trans (congrFun (?_ : k0_pay1 (k0_pay127 (kernelRun0_A.sl.r (F := Ideal) c arg7 harg7 arg8 harg8 arg9 harg9 arg10 harg10 x4 x5 x6 x7)
          (kernelRun0_A.sl.r_52 c i arg3 harg3 arg4 harg4 arg5 harg5 arg6 harg6 arg7 harg7 arg8 harg8 arg9 harg9 arg10 harg10 arg11 harg11
            arg12 harg12 x0 x1 x2 x3))
          (View.readAt (Elt Ideal) arg11.view
            (Rect.unit (s := S1x128) ![0, 0] S1x128.size inb_S1x128_S1x128_0_0).toLoadRect (harg11.unread x8)) =
        headOut x0 x1 x2 x3 x4 x5 x6 x7 x8 (i 2).val 3) x)
      (blockOut_emb x0 x1 x2 x3 x4 x5 x6 x7 x8 (i 2).val 3 inb_S1x512x512_S1x512x128_0_0_384 x).symm
    rw [final3 c i arg3 harg3 arg4 harg4 arg5 harg5 arg6 harg6 arg7 harg7 arg8 harg8 arg9 harg9 arg10 harg10 arg11
      harg11 arg12 harg12 x0 x1 x2 x3 x4 x5 x6 x7 x8, word_lam, hz]
    rfl
  · refine Eq.trans (congrFun (?_ : k0_pay126 (kernelRun0_A.sl.r (F := Ideal) c arg7 harg7 arg8 harg8 arg9 harg9 arg10 harg10 x4 x5 x6 x7)
          (kernelRun0_A.sl.r_50 c i arg3 harg3 arg4 harg4 arg5 harg5 arg6 harg6 arg7 harg7 arg8 harg8 arg9 harg9 arg10 harg10 arg11 harg11
            arg12 harg12 x0 x1 x2 x3)
          (View.readAt (Elt Ideal) arg11.view
            (Rect.unit (s := S1x128) ![0, 0] S1x128.size inb_S1x128_S1x128_0_0).toLoadRect (harg11.unread x8)) =
        headOut x0 x1 x2 x3 x4 x5 x6 x7 x8 (i 2).val 2) x)
      (blockOut_emb x0 x1 x2 x3 x4 x5 x6 x7 x8 (i 2).val 2 inb_S1x512x512_S1x512x128_0_0_256 x).symm
    rw [final2 c i arg3 harg3 arg4 harg4 arg5 harg5 arg6 harg6 arg7 harg7 arg8 harg8 arg9 harg9 arg10 harg10 arg11
      harg11 arg12 harg12 x0 x1 x2 x3 x4 x5 x6 x7 x8, word_lam, hz]
    rfl
  · refine Eq.trans (congrFun (?_ : k0_pay125 (k0_pay123 (kernelRun0_A.sl.r (F := Ideal) c arg7 harg7 arg8 harg8 arg9 harg9 arg10 harg10 x4 x5 x6 x7)
          (kernelRun0_A.sl.r_48 c i arg3 harg3 arg4 harg4 arg5 harg5 arg6 harg6 arg7 harg7 arg8 harg8 arg9 harg9 arg10 harg10 arg11 harg11
            arg12 harg12 x0 x1 x2 x3)
          (View.readAt (Elt Ideal) arg11.view
            (Rect.unit (s := S1x128) ![0, 0] S1x128.size inb_S1x128_S1x128_0_0).toLoadRect (harg11.unread x8))) k0_pay124 =
        headOut x0 x1 x2 x3 x4 x5 x6 x7 x8 (i 2).val 1) x)
      (blockOut_emb x0 x1 x2 x3 x4 x5 x6 x7 x8 (i 2).val 1 inb_S1x512x512_S1x512x128_0_0_128 x).symm
    rw [final1 c i arg3 harg3 arg4 harg4 arg5 harg5 arg6 harg6 arg7 harg7 arg8 harg8 arg9 harg9 arg10 harg10 arg11
      harg11 arg12 harg12 x0 x1 x2 x3 x4 x5 x6 x7 x8, word_lam, hz]
    rfl
  · refine Eq.trans (congrFun (?_ : k0_pay122 (k0_pay121 (kernelRun0_A.sl.r (F := Ideal) c arg7 harg7 arg8 harg8 arg9 harg9 arg10 harg10 x4 x5 x6 x7)
          (kernelRun0_A.sl.r_46 c i arg3 harg3 arg4 harg4 arg5 harg5 arg6 harg6 arg7 harg7 arg8 harg8 arg9 harg9 arg10 harg10 arg11 harg11
            arg12 harg12 x0 x1 x2 x3))
          (View.readAt (Elt Ideal) arg11.view
            (Rect.unit (s := S1x128) ![0, 0] S1x128.size inb_S1x128_S1x128_0_0).toLoadRect (harg11.unread x8)) =
        headOut x0 x1 x2 x3 x4 x5 x6 x7 x8 (i 2).val 0) x)
      (blockOut_emb x0 x1 x2 x3 x4 x5 x6 x7 x8 (i 2).val 0 inb_S1x512x512_S1x512x128_0_0_0 x).symm
    rw [final0 c i arg3 harg3 arg4 harg4 arg5 harg5 arg6 harg6 arg7 harg7 arg8 harg8 arg9 harg9 arg10 harg10 arg11
      harg11 arg12 harg12 x0 x1 x2 x3 x4 x5 x6 x7 x8, word_lam, hz]
    rfl

end Cert.Attn
-- ==== Proof.Result.lean ====
/- The kernel's result array is the reference's. -/
module
public import proofs.«01_k».proof.Proof.Inputs
public import proofs.«01_k».proof.Proof.Run

@[expose] public section

set_option maxRecDepth 16384

noncomputable section

namespace Cert.AttnRun

open Cert.KernelIdeal Cert.KernelIdeal.Gen Idealize.ShloMosaic Idealize.ShloMosaic.TcCoe Idealize.SL.Sem
open Cert.Attn (flatLane halfLane)

variable (m : (ℓ : Loc nD τ sig) → Buf (Elt Ideal) ℓ)

/-- Every entry is a real number. -/
def Real' {S : Shape} (x : FVec Ideal S .f32) : Prop := ∀ a, x a = (EReal.toReal (x a) : EReal)

/-- The result, from the arguments. -/
def result (q : FVec Ideal S8x2048x4x2x64 .f32) (k v : FVec Ideal S8x2048x4x128 .f32) (x3 x4 x5 x6 : FVec Ideal S1x64 .f32)
    (g : FVec Ideal S1x128 .f32) : FVec Ideal S8x2048x512 .f32 :=
  AttnRef.normR (AttnRef.outR v (AttnRef.probR (AttnRef.expR (AttnRef.scoresR q k))) (AttnRef.lamR x3 x4 x5 x6)) g

theorem tile_coord : ∀ t : Fin cfg0.N, (grid0.coords t 2).val = (tile t).val :=
  (by decide +kernel : ∀ t : Fin grid0.N, (grid0.coords t 2).val = t.val % 4)

/-- A lane of the packed heads is a head and a lane within it. -/
theorem flatLane_split (l : Fin 512) : l = flatLane (⟨l.val / 128, by omega⟩ : Fin 4) (⟨l.val % 128, by omega⟩ : Fin 128) :=
  Fin.ext (by show l.val = 128 * (l.val / 128) + l.val % 128; omega)

/-- The block of values, at an entry. -/
theorem values3 (c : Dev nD) (t : Fin cfg0.N) (v : FVec Ideal S8x2048x4x128 .f32) (hv : m ((c : Thread nD τ).loc main_arg2) = v)
    (j : Fin 4) (h : Fin 4) (l : Fin 128) (s : Fin 512) :
    (iblk m c 3 t : Vec Ideal S4x512x512 .bf16) (ix3 j (flatLane h l) s) = v (ix4 (row t) (AttnRef.place j s) h l) :=
  (read3 m c t j (flatLane h l) s).trans (staged3 m c v hv (row t) j h l s _)

/-- After the run the kernel's result array is the reference's result. -/
theorem final (c : Dev nD) (q : FVec Ideal S8x2048x4x2x64 .f32) (k v : FVec Ideal S8x2048x4x128 .f32)
    (x3 x4 x5 x6 : FVec Ideal S1x64 .f32) (g : FVec Ideal S1x128 .f32)
    (h0 : m ((c : Thread nD τ).loc main_arg0) = q) (h1 : m ((c : Thread nD τ).loc main_arg1) = k)
    (h2 : m ((c : Thread nD τ).loc main_arg2) = v) (h3 : m ((c : Thread nD τ).loc main_arg3) = x3)
    (h4 : m ((c : Thread nD τ).loc main_arg4) = x4) (h5 : m ((c : Thread nD τ).loc main_arg5) = x5)
    (h6 : m ((c : Thread nD τ).loc main_arg6) = x6) (h7 : m ((c : Thread nD τ).loc main_arg7) = g)
    (hv : Real' v) (r3 : Real' x3) (r4 : Real' x4) (r5 : Real' x5) (r6 : Real' x6) :
    (dats m 0 c).arrAt 9 cfg0.N = (result q k v x3 x4 x5 x6 g : Vec Ideal S8x2048x512 .bf16) := by
  refine (dats m 0 c).arrAt_eq_of_covers 9 _ (by decide +kernel) fun t hf y => ?_
  blk_simp
  rw [after0_9]
  unfold outsAt0
  rw [Cert.Attn.block_eq]
  obtain ⟨r, l, hy⟩ : ∃ (r l : Fin 512), (y : S1x512x512.Idx) = ix3 0 r l := ⟨y 1, y 2, by
    funext a
    match a with
    | ⟨0, _⟩ => exact Subsingleton.elim (α := Fin 1) _ _
    | ⟨1, _⟩ => rfl
    | ⟨2, _⟩ => rfl⟩
  subst hy
  unfold Cert.Attn.blockOut
  have real3 : ∀ a, (iblk m c 3 t : Vec Ideal S4x512x512 .bf16) a = (EReal.toReal ((iblk m c 3 t : Vec Ideal S4x512x512 .bf16) a) : EReal) := by
    intro a
    obtain ⟨j, w, s, ha⟩ : ∃ (j : Fin 4) (w s : Fin 512), a = ix3 j w s := ⟨a 0, a 1, a 2, by
      funext b
      match b with
      | ⟨0, _⟩ => rfl
      | ⟨1, _⟩ => rfl
      | ⟨2, _⟩ => rfl⟩
    subst ha
    rw [flatLane_split w, values3 m c t v h2]
    exact hv _
  have key := AttnRef.entry_eq (iblk m c 0 t) (iblk m c 1 t) (iblk m c 2 t) (iblk m c 3 t) x3 x4 x5 x6 g q k v (row t) (tile t)
    ⟨l.val / 128, by omega⟩ (slope0 m c t _)
    (fun r p d => (read1 m c t r _).trans (staged1 m c q h0 (row t) _ _ p d))
    (fun s w => (read2 m c t s _).trans (staged2 m c k h1 (row t) s _ w))
    (fun j w s => values3 m c t v h2 j _ w s) real3 r3 r4 r5 r6 r ⟨l.val % 128, by omega⟩
  rw [← flatLane_split l] at key
  rw [tile_coord t, row4 m c t, row5 m c t, row6 m c t, row7 m c t, row8 m c t, h3, h4, h5, h6, h7]
  refine key.trans (Eq.symm ?_)
  show result q k v x3 x4 x5 x6 g _ = result q k v x3 x4 x5 x6 g _
  blk_ext [idx9 t, row, tile, AttnRef.place]

end Cert.AttnRun
-- ==== Proof.Finite.lean ====
/- What the precondition says: the values and the four rows of weights are real numbers. -/
module
public import proofs.«01_k».proof.Defs
public import proofs.«01_k».proof.Proof.Result
public import Idealize.ShloMosaic.Lib.ReduceAll

@[expose] public section

set_option maxRecDepth 16384

noncomputable section

namespace Cert.AttnRun

open Idealize.ShloMosaic Idealize.ShloMosaic.TcCoe Idealize.SL.Sem
open Cert.Pre_finite_values (S_ S1x64 S1x128 S8x2048x4x128 S8x2048x4x2x64)

theorem facts : Cert.Pre_finite_values.Facts where
  bcast_S_S8x2048x4x128 := by decide
  reducesTo_S8x2048x4x128_S_d0_1_2_3 := by decide
  h_S_ := by decide
  bcast_S_S1x64 := by decide
  reducesTo_S1x64_S_d0_1 := by decide

theorem word_top : Ideal.ofBits .f32 0x7F800000#32 = (⊤ : EReal) := by simp [Ideal.ofBits, Ideal.ieee]

/-- A conjunction of bits is one only where both are. -/
theorem andi_one (x y : IVec S_ 1) (h : andi x y ix0 = 1#1) : x ix0 = 1#1 ∧ y ix0 = 1#1 := by
  have h' : x ix0 &&& y ix0 = 1#1 := h
  generalize x ix0 = a at h' ⊢
  generalize y ix0 = b at h' ⊢
  revert a b
  decide

/-- An array whose magnitudes all lie below infinity holds real numbers. -/
theorem real_of_finite {S : Shape} (x : FVec Ideal S .f32) {axes : List (Fin S.rank)} (d) (hb : S_.BroadcastsInDim S d) (hr : S.ReducesTo axes S_)
    (hu : 0 < S_.numel) (init : IVec S_ 1)
    (h : Host.reduce IntOp.andi (cmpf .olt (Host.absf x) (broadcastInDim S d hb (constant S_ .f32 0x7F800000#32))) init hr hu ix0 = 1#1) :
    Real' x := by
  intro a
  haveI : Subsingleton S_.Idx := ⟨fun i j => funext fun b => b.elim0⟩
  have ha := Host.reduce_andi_all _ init hr hu ix0 h a
  have ha' : (max (x a) (-(x a)) : EReal) < ⊤ := by
    have hc : Ideal.cmp .olt (max (x a) (-(x a))) (Ideal.ofBits .f32 0x7F800000#32) = 1#1 := ha
    rw [word_top] at hc
    by_contra hn
    simp [Ideal.cmp, hn] at hc
  refine (EReal.coe_toReal ?_ ?_).symm
  · rintro hx
    rw [hx] at ha'
    simp at ha'
  · rintro hx
    rw [hx] at ha'
    simp at ha'

/-- The precondition, read. -/
theorem real_inputs (q : FVec Ideal S8x2048x4x2x64 .f32) (k v : FVec Ideal S8x2048x4x128 .f32) (x3 x4 x5 x6 : FVec Ideal S1x64 .f32)
    (g : FVec Ideal S1x128 .f32) (h : letI := facts; Cert.Pre_finite_values.fn (F := Ideal) q k v x3 x4 x5 x6 g ix0 = 1#1) :
    Real' v ∧ Real' x3 ∧ Real' x4 ∧ Real' x5 ∧ Real' x6 := by
  letI := facts
  unfold Cert.Pre_finite_values.fn Cert.Pre_finite_values.fn_part1 at h
  obtain ⟨h, h6⟩ := andi_one _ _ h
  obtain ⟨h, h5⟩ := andi_one _ _ h
  obtain ⟨h, h4⟩ := andi_one _ _ h
  obtain ⟨h2, h3⟩ := andi_one _ _ h
  exact ⟨real_of_finite v _ _ _ _ _ h2, real_of_finite x3 _ _ _ _ _ h3, real_of_finite x4 _ _ _ _ _ h4, real_of_finite x5 _ _ _ _ _ h5,
    real_of_finite x6 _ _ _ _ _ h6⟩

end Cert.AttnRun
-- ==== Proof.ExpertsKit.lean ====
/- The experts' call: its tables, its windows at any contents of the tables, and the frame from a run. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The call at a point -/

/-- Window 7 (result 0 (%21)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S120 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ExpertsIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩) h

/-! ## The kernel body on any staging memrefs: a subtype the run finds -/

/-- One staging buffer of output window 7, through which its contents are stated (`View.read_writes_of_cover`: the
    choice does not matter). -/
abbrev VO0_7 : View sig .tc .vmem S6144x128 .f32 := (Memref.whole cc0_stg7_0 : Memref sig .tc .vmem S6144x128 .f32).view
/-- Each window's current staging memref at point `t`, spelled as the pipeline passes it (`bodyAt0`), and its wholeness. -/
abbrev ms0_0 (hO : Ok m) (t : Fin (cfgM m hO).N) : Memref sig .tc .vmem S6144x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S6144x128 .f32 := spec0_7.stage ((cfgM m hO).slots t 7)
abbrev hs0_7 (hO : Ok m) (t : Fin (cfgM m hO).N) : (ms0_7 m hO t).IsWhole := hstage0_7 (((cfgM m hO).slots t 7).cast nbuf0_7)

end Cert.ExpertsIdeal.Gen

end
-- ==== Proof.ExpertsRun.lean ====
/- One run of the experts' body. -/
module

public import proofs.«01_k».proof.Proof.ExpertsKit

@[expose] public section

-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body leaves in the output's buffer, as a function of what it finds there, WITH the proof that on whole
    buffers the body runs to the continuation holding the inputs' as they were and the output's at that: both branches
    of its two conditions on the count of used blocks at once. -/
noncomputable def kernelRun0 (c : Dev nD) (i : grid0.Coords) (arg3 : Memref sig .tc .vmem S6144x128 .f32) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1024x1024 .f32) (harg8 : arg8.IsWhole) (arg9 : Memref sig .tc .vmem S1x1x1024 .f32) (harg9 : arg9.IsWhole) (arg10 : Memref sig .tc .vmem S6144x128 .f32) (harg10 : arg10.IsWhole)
    (x0 : Vec F S6144x128 .f32) (x1 : Vec F S1x1024x1024 .bf16) (x2 : Vec F S1x1024x1024 .bf16) (x3 : Vec F S1x1x1024 .f32) (x4 : Vec F S1x1x1024 .f32) (x5 : Vec F S1x1024x1024 .f32) (x6 : Vec F S1x1x1024 .f32) (xt0 : TbBuf0 (F := F) c tbM0_0) (xt1 : TbBuf0 (F := F) c tbM0_1) :
    { W : arg10.view.ty.Contents (Elt F) → arg10.view.ty.Contents (Elt F) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} W f) ∗ tbPt0 c tbM0_0 xt0 ∗ tbPt0 c tbM0_1 xt1) -∗ K ⟨⟩))
          ⊢ wp frame (wpE (defs₀ (F := F)) Variants.none c none) E (cc0_experts i tbM0_0 htbM0_0 tbM0_1 htbM0_1 arg3 harg3 arg4 harg4 arg5 harg5 arg6 harg6 arg7 harg7 arg8 harg8 arg9 harg9 arg10 harg10) K } := by
  refine ⟨?_, fun E K => ?run⟩
  case run =>
    simp only [cc0_experts_eq_skeleton]; unfold cc0_experts_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists f7; iexact H7
    isplitl [HT0]; · iexact HT0
    iexact HT1

end Cert.ExpertsIdeal.Gen

end
-- ==== Proof.ExpertsBlock.lean ====
/- What the experts' body leaves in a block of its result. -/
module

public import proofs.«01_k».proof.Proof.ExpertsRun
public import Idealize.ShloMosaic.Lib.WholeRead
public import Idealize.ShloMosaic.Lib.Pipeline.ValueKit

@[expose] public section

noncomputable section

namespace Cert.ExpertsIdeal.Gen

open Idealize.ShloMosaic Idealize.ShloMosaic.TcCoe

variable {F : FTy → Type} [FloatOps F]

/-- The rows of a block's piece `s`: every eighth row from the `s`-th on. -/
def strip (x0 : Vec F S6144x128 .f32) (s : Nat) (hs : s < 8) : Vec F S768x128 .f32 := fun x =>
  x0 (ix2 ⟨s + 8 * (x 0).val, by have h : (x 0).val < 768 := (x 0).isLt; show _ < 6144; omega⟩ ⟨(x 1).val, (x 1).isLt⟩)

/-- What a strided load reads of a block. -/
theorem strip_read {M : Memref sig .tc .vmem S6144x128 .f32} (hM : M.IsWhole) (x0 : Vec F S6144x128 .f32) (s : Nat) (hs : s < 8)
    (inb) : View.readAt (Elt F) M.view (⟨![s, 0], S768x128.size, ![8, 1], inb⟩ : LoadRect S6144x128) (hM.unread x0)
      = strip x0 s hs := by
  funext x
  rw [hM.readAt_unread]
  refine congrArg x0 ?_
  funext a
  fin_cases a
  · rfl
  · refine Fin.ext ?_
    show 0 + 1 * (x 1).val = _
    simp

/-- A load of a whole input reads it. -/
theorem whole_read {S : Shape} {e : EltTy} {M : Memref sig .tc .vmem S e} (hM : M.IsWhole) (x : Vec F S e)
    (off : Fin S.rank → Nat) (ho : off = fun _ => 0) (inb) :
    View.readAt (Elt F) M.view (Rect.unit (s := S) off S.size inb).toLoadRect (hM.unread x) = x := by
  rw [View.readAt_eq_ld, hM.read_unread]
  exact View.ld_unit_zero ho _ x

/-- A block's rows after both layers, as the body computes them from its loads. -/
def layers (x0 : Vec F S6144x128 .f32) (x1 : Vec F S1x1024x1024 .bf16)
    (x2 : Vec F S1x1024x1024 .bf16) (x3 : Vec F S1x1x1024 .f32) (x4 : Vec F S1x1x1024 .f32) (x5 : Vec F S1x1024x1024 .f32)
    (x6 : Vec F S1x1x1024 .f32) : FVec F S768x1024 .f32 :=
  k0_pay8 (k0_pay6 (strip x0 0 (by decide)) (strip x0 1 (by decide)) (strip x0 2 (by decide)) (strip x0 3 (by decide))
      (strip x0 4 (by decide)) (strip x0 5 (by decide)) (strip x0 6 (by decide)) (strip x0 7 (by decide)) x1 x3)
    (k0_pay7 (strip x0 0 (by decide)) (strip x0 1 (by decide)) (strip x0 2 (by decide)) (strip x0 3 (by decide))
      (strip x0 4 (by decide)) (strip x0 5 (by decide)) (strip x0 6 (by decide)) (strip x0 7 (by decide)) x2) x4 x5 x6

/-- The same rows as a block of the result holds them: row `r`'s piece `s` at row `8 r + s`. -/
def packed (Y : FVec F S768x1024 .f32) : Vec F S6144x128 .f32 := fun y =>
  Y (ix2 ⟨(y 0).val / 8, by have h : (y 0).val < 6144 := (y 0).isLt; show _ < 768; omega⟩
    ⟨128 * ((y 0).val % 8) + (y 1).val, by have h : (y 1).val < 128 := (y 1).isLt; show _ < 1024; omega⟩)

/-- The count of used blocks, as the body reads it. -/
def usedWord (xt1 : TbBuf0 (F := F) (0 : Dev nD) tbM0_1) : BitVec 32 := kernelRun0.sl.r (F := F) (0 : Dev nD) xt1

/-- A block of the result: the rows where the block is used, and zeros elsewhere. -/
def blockOut (i : grid0.Coords) (w : BitVec 32) (x0 : Vec F S6144x128 .f32) (x1 : Vec F S1x1024x1024 .bf16)
    (x2 : Vec F S1x1024x1024 .bf16) (x3 : Vec F S1x1x1024 .f32) (x4 : Vec F S1x1x1024 .f32) (x5 : Vec F S1x1024x1024 .f32)
    (x6 : Vec F S1x1x1024 .f32) : Vec F S6144x128 .f32 :=
  if k0_cond1 i w = 1#1 then packed (layers x0 x1 x2 x3 x4 x5 x6) else k0_pay4

/-- The body's second branch is taken just where its first is not. -/
theorem cond2_iff (i : grid0.Coords) (w : BitVec 32) : k0_cond2 i w = 1#1 ↔ ¬ k0_cond1 i w = 1#1 := by
  unfold k0_cond1 k0_cond2
  simp only [Scalar.cmpi, Scalar.extui, IntOp.cmpi]
  by_cases h : (BitVec.ofNat 32 (i 0).val).toInt < w.toInt
  · simp [BitVec.slt, BitVec.sle, h, not_le.mpr h]
  · simp [BitVec.slt, BitVec.sle, h, not_lt.mp h]

/-- A strip of a result block is a strip of columns of the rows. -/
theorem packed_strip (Y : FVec F S768x1024 .f32) (s : Nat) (hs : s < 8) (n : Nat) (hn : n = 128 * s)
    (hsl : S768x1024.Slices ![0, n] S768x128) (inb) (sp) (x : S768x128.Idx) :
    extractStridedSlice S768x128 ![0, n] Y hsl x
      = packed Y ((⟨(⟨![s, 0], S768x128.size, ![8, 1], inb⟩ : LoadRect S6144x128), sp⟩ : Rect S6144x128).emb x) := by
  subst hn
  unfold extractStridedSlice packed
  refine congrArg Y ?_
  funext a
  have h0 : (x 0).val < 768 := (x 0).isLt
  have h1 : (x 1).val < 128 := (x 1).isLt
  fin_cases a
  · refine Fin.ext ?_
    show 0 + (x 0).val = (s + 8 * (x 0).val) / 8
    omega
  · refine Fin.ext ?_
    show 128 * s + (x 1).val = 128 * ((s + 8 * (x 0).val) % 8) + (0 + 1 * (x 1).val)
    omega

/-- A row of a block lies in the strip of its remainder. -/
theorem strip_mem (y : S6144x128.Idx) (s : Nat) (e : (y 0).val % 8 = s) (inb) (sp) :
    y ∈ ((⟨(⟨![s, 0], S768x128.size, ![8, 1], inb⟩ : LoadRect S6144x128), sp⟩ : Rect S6144x128)).set := by
  have h0 : (y 0).val < 6144 := (y 0).isLt
  have h1 : (y 1).val < 128 := (y 1).isLt
  refine (LoadRect.mem_set _).mpr fun a => ?_
  fin_cases a
  · exact ⟨(y 0).val / 8, by show _ < 768; omega, by show (y 0).val = s + 8 * ((y 0).val / 8); omega⟩
  · exact ⟨(y 1).val, h1, by show (y 1).val = 0 + 1 * (y 1).val; omega⟩

/-- One store of the whole of a buffer leaves its payload. -/
theorem full_store {S : Shape} {e : EltTy} {M : Memref sig .tc .vmem S e} (f : M.view.ty.Contents (Elt F))
    (off : Fin S.rank → Nat) (ho : off = fun _ => 0) (inb) (w : Vec F S e) :
    M.view.read (Elt F) (M.view.writes (Elt F) f [⟨Rect.unit (s := S) off S.size inb, w⟩]) = w := by
  rw [View.read_writes_eq_canon _ _ _ (fun y => ⟨_, List.mem_cons_self, View.mem_set_unit_zero ho inb y⟩)]
  exact View.canon_unit_zero ho _ _

/-- Eight strided stores of the strips of a block leave the whole block. -/
theorem strips_store {M : Memref sig .tc .vmem S6144x128 .f32} (f : M.view.ty.Contents (Elt F)) (Y : FVec F S768x1024 .f32)
    (p0 p1 p2 p3 p4 p5 p6 p7 : FVec F S768x128 .f32)
    (i0) (s0) (i1) (s1) (i2) (s2) (i3) (s3) (i4) (s4) (i5) (s5) (i6) (s6) (i7) (s7)
    (h0 : ∀ x, p0 x = packed Y ((⟨(⟨![0, 0], S768x128.size, ![8, 1], i0⟩ : LoadRect S6144x128), s0⟩ : Rect S6144x128).emb x))
    (h1 : ∀ x, p1 x = packed Y ((⟨(⟨![1, 0], S768x128.size, ![8, 1], i1⟩ : LoadRect S6144x128), s1⟩ : Rect S6144x128).emb x))
    (h2 : ∀ x, p2 x = packed Y ((⟨(⟨![2, 0], S768x128.size, ![8, 1], i2⟩ : LoadRect S6144x128), s2⟩ : Rect S6144x128).emb x))
    (h3 : ∀ x, p3 x = packed Y ((⟨(⟨![3, 0], S768x128.size, ![8, 1], i3⟩ : LoadRect S6144x128), s3⟩ : Rect S6144x128).emb x))
    (h4 : ∀ x, p4 x = packed Y ((⟨(⟨![4, 0], S768x128.size, ![8, 1], i4⟩ : LoadRect S6144x128), s4⟩ : Rect S6144x128).emb x))
    (h5 : ∀ x, p5 x = packed Y ((⟨(⟨![5, 0], S768x128.size, ![8, 1], i5⟩ : LoadRect S6144x128), s5⟩ : Rect S6144x128).emb x))
    (h6 : ∀ x, p6 x = packed Y ((⟨(⟨![6, 0], S768x128.size, ![8, 1], i6⟩ : LoadRect S6144x128), s6⟩ : Rect S6144x128).emb x))
    (h7 : ∀ x, p7 x = packed Y ((⟨(⟨![7, 0], S768x128.size, ![8, 1], i7⟩ : LoadRect S6144x128), s7⟩ : Rect S6144x128).emb x)) :
    M.view.read (Elt F) (M.view.writes (Elt F) f [⟨⟨(⟨![7, 0], S768x128.size, ![8, 1], i7⟩ : LoadRect S6144x128), s7⟩, p7⟩,
      ⟨⟨(⟨![6, 0], S768x128.size, ![8, 1], i6⟩ : LoadRect S6144x128), s6⟩, p6⟩,
      ⟨⟨(⟨![5, 0], S768x128.size, ![8, 1], i5⟩ : LoadRect S6144x128), s5⟩, p5⟩,
      ⟨⟨(⟨![4, 0], S768x128.size, ![8, 1], i4⟩ : LoadRect S6144x128), s4⟩, p4⟩,
      ⟨⟨(⟨![3, 0], S768x128.size, ![8, 1], i3⟩ : LoadRect S6144x128), s3⟩, p3⟩,
      ⟨⟨(⟨![2, 0], S768x128.size, ![8, 1], i2⟩ : LoadRect S6144x128), s2⟩, p2⟩,
      ⟨⟨(⟨![1, 0], S768x128.size, ![8, 1], i1⟩ : LoadRect S6144x128), s1⟩, p1⟩,
      ⟨⟨(⟨![0, 0], S768x128.size, ![8, 1], i0⟩ : LoadRect S6144x128), s0⟩, p0⟩]) = packed Y := by
  rw [View.read_writes_eq_canon]
  · funext y
    refine View.canon_apply_of_pieces (packed Y) _ ?_ y ?_
    · intro p hp
      simp only [List.mem_cons, List.not_mem_nil, or_false] at hp
      rcases hp with rfl | rfl | rfl | rfl | rfl | rfl | rfl | rfl
      exacts [h7, h6, h5, h4, h3, h2, h1, h0]
    · have hy : (y 0).val % 8 < 8 := Nat.mod_lt _ (by decide)
      generalize e : (y 0).val % 8 = s at hy
      interval_cases s
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), strip_mem y 0 e _ _⟩
      · exact ⟨_, List.mem_cons_of_mem _ (List.mem_cons_of_mem _ (List.mem_cons_of_mem _ (List.mem_cons_of_mem _ (List.mem_cons_of_mem _ (List.mem_cons_of_mem _ (List.mem_cons_self)))))), strip_mem y 1 e _ _⟩
      · exact ⟨_, List.mem_cons_of_mem _ (List.mem_cons_of_mem _ (List.mem_cons_of_mem _ (List.mem_cons_of_mem _ (List.mem_cons_of_mem _ (List.mem_cons_self))))), strip_mem y 2 e _ _⟩
      · exact ⟨_, List.mem_cons_of_mem _ (List.mem_cons_of_mem _ (List.mem_cons_of_mem _ (List.mem_cons_of_mem _ (List.mem_cons_self)))), strip_mem y 3 e _ _⟩
      · exact ⟨_, List.mem_cons_of_mem _ (List.mem_cons_of_mem _ (List.mem_cons_of_mem _ (List.mem_cons_self))), strip_mem y 4 e _ _⟩
      · exact ⟨_, List.mem_cons_of_mem _ (List.mem_cons_of_mem _ (List.mem_cons_self)), strip_mem y 5 e _ _⟩
      · exact ⟨_, List.mem_cons_of_mem _ (List.mem_cons_self), strip_mem y 6 e _ _⟩
      · exact ⟨_, List.mem_cons_self, strip_mem y 7 e _ _⟩
  · intro y
    have hy : (y 0).val % 8 < 8 := Nat.mod_lt _ (by decide)
    generalize e : (y 0).val % 8 = s at hy
    interval_cases s
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), strip_mem y 0 e _ _⟩
    · exact ⟨_, List.mem_cons_of_mem _ (List.mem_cons_of_mem _ (List.mem_cons_of_mem _ (List.mem_cons_of_mem _ (List.mem_cons_of_mem _ (List.mem_cons_of_mem _ (List.mem_cons_self)))))), strip_mem y 1 e _ _⟩
    · exact ⟨_, List.mem_cons_of_mem _ (List.mem_cons_of_mem _ (List.mem_cons_of_mem _ (List.mem_cons_of_mem _ (List.mem_cons_of_mem _ (List.mem_cons_self))))), strip_mem y 2 e _ _⟩
    · exact ⟨_, List.mem_cons_of_mem _ (List.mem_cons_of_mem _ (List.mem_cons_of_mem _ (List.mem_cons_of_mem _ (List.mem_cons_self)))), strip_mem y 3 e _ _⟩
    · exact ⟨_, List.mem_cons_of_mem _ (List.mem_cons_of_mem _ (List.mem_cons_of_mem _ (List.mem_cons_self))), strip_mem y 4 e _ _⟩
    · exact ⟨_, List.mem_cons_of_mem _ (List.mem_cons_of_mem _ (List.mem_cons_self)), strip_mem y 5 e _ _⟩
    · exact ⟨_, List.mem_cons_of_mem _ (List.mem_cons_self), strip_mem y 6 e _ _⟩
    · exact ⟨_, List.mem_cons_self, strip_mem y 7 e _ _⟩

/-- What the body leaves in the output's buffer, whatever it finds there. -/
theorem run_read (c : Dev nD) (i : grid0.Coords) (arg3 : Memref sig .tc .vmem S6144x128 .f32) (harg3 : arg3.IsWhole)
    (arg4 : Memref sig .tc .vmem S1x1024x1024 .bf16) (harg4 : arg4.IsWhole) (arg5 : Memref sig .tc .vmem S1x1024x1024 .bf16)
    (harg5 : arg5.IsWhole) (arg6 : Memref sig .tc .vmem S1x1x1024 .f32) (harg6 : arg6.IsWhole)
    (arg7 : Memref sig .tc .vmem S1x1x1024 .f32) (harg7 : arg7.IsWhole) (arg8 : Memref sig .tc .vmem S1x1024x1024 .f32)
    (harg8 : arg8.IsWhole) (arg9 : Memref sig .tc .vmem S1x1x1024 .f32) (harg9 : arg9.IsWhole)
    (arg10 : Memref sig .tc .vmem S6144x128 .f32) (harg10 : arg10.IsWhole)
    (x0 : Vec F S6144x128 .f32) (x1 : Vec F S1x1024x1024 .bf16)
    (x2 : Vec F S1x1024x1024 .bf16) (x3 : Vec F S1x1x1024 .f32) (x4 : Vec F S1x1x1024 .f32) (x5 : Vec F S1x1024x1024 .f32)
    (x6 : Vec F S1x1x1024 .f32)
    (xt0 : TbBuf0 (F := F) c tbM0_0) (xt1 : TbBuf0 (F := F) c tbM0_1) (f : arg10.view.ty.Contents (Elt F)) :
    arg10.view.read (Elt F) ((kernelRun0 c i arg3 harg3 arg4 harg4 arg5 harg5 arg6 harg6 arg7 harg7 arg8 harg8 arg9 harg9
      arg10 harg10 x0 x1 x2 x3 x4 x5 x6 xt0 xt1).1 f) = blockOut i (kernelRun0.sl.r c xt1) x0 x1 x2 x3 x4 x5 x6 := by
  have e1 : kernelRun0.sl.r_1 (F := F) c arg3 harg3 arg4 harg4 arg6 harg6 x0 x1 x3 = k0_pay6 (strip x0 0 (by decide)) (strip x0 1 (by decide)) (strip x0 2 (by decide)) (strip x0 3 (by decide))
      (strip x0 4 (by decide)) (strip x0 5 (by decide)) (strip x0 6 (by decide)) (strip x0 7 (by decide)) x1 x3 := by
    unfold kernelRun0.sl.r_1
    rw [strip_read harg3 x0 0 (by decide), strip_read harg3 x0 1 (by decide), strip_read harg3 x0 2 (by decide), strip_read harg3 x0 3 (by decide),
      strip_read harg3 x0 4 (by decide), strip_read harg3 x0 5 (by decide), strip_read harg3 x0 6 (by decide), strip_read harg3 x0 7 (by decide),
      whole_read harg4 x1 _ (by decide), whole_read harg6 x3 _ (by decide)]
  have e2 : kernelRun0.sl.r_2 (F := F) c arg3 harg3 arg5 harg5 x0 x2 = k0_pay7 (strip x0 0 (by decide)) (strip x0 1 (by decide)) (strip x0 2 (by decide)) (strip x0 3 (by decide))
      (strip x0 4 (by decide)) (strip x0 5 (by decide)) (strip x0 6 (by decide)) (strip x0 7 (by decide)) x2 := by
    unfold kernelRun0.sl.r_2
    rw [strip_read harg3 x0 0 (by decide), strip_read harg3 x0 1 (by decide), strip_read harg3 x0 2 (by decide), strip_read harg3 x0 3 (by decide),
      strip_read harg3 x0 4 (by decide), strip_read harg3 x0 5 (by decide), strip_read harg3 x0 6 (by decide), strip_read harg3 x0 7 (by decide),
      whole_read harg5 x2 _ (by decide)]
  have e4 := whole_read harg7 x4 ![0, 0, 0] (by decide) inb_S1x1x1024_S1x1x1024_0_0_0
  have e5 := whole_read harg8 x5 ![0, 0, 0] (by decide) inb_S1x1024x1024_S1x1024x1024_0_0_0
  have e6 := whole_read harg9 x6 ![0, 0, 0] (by decide) inb_S1x1x1024_S1x1x1024_0_0_0
  have e3 : kernelRun0.sl.r_3 (F := F) c arg3 harg3 arg4 harg4 arg5 harg5 arg6 harg6 arg7 harg7 arg8 harg8 arg9 harg9 x0 x1 x2 x3 x4 x5 x6 = layers x0 x1 x2 x3 x4 x5 x6 := by
    unfold kernelRun0.sl.r_3 layers
    rw [e1, e2, e4, e5, e6]
  unfold kernelRun0
  dsimp only
  unfold blockOut
  by_cases h1 : k0_cond1 i (kernelRun0.sl.r (F := F) c xt1) = 1#1
  · have h2 : ¬ k0_cond2 i (kernelRun0.sl.r (F := F) c xt1) = 1#1 := fun h => (cond2_iff i _).mp h h1
    rw [dif_neg h2, dif_pos h1, if_pos h1]
    refine strips_store _ (layers x0 x1 x2 x3 x4 x5 x6) _ _ _ _ _ _ _ _ _ _ _ _ _ _ _ _ _ _ _ _ _ _ _ _ ?_ ?_ ?_ ?_ ?_ ?_ ?_ ?_
    · rw [e1, e2, e4, e5, e6]
      exact fun x => packed_strip (layers x0 x1 x2 x3 x4 x5 x6) 0 (by decide) 0 rfl (by decide) _ _ x
    · rw [e1, e2, e4, e5, e6]
      exact fun x => packed_strip (layers x0 x1 x2 x3 x4 x5 x6) 1 (by decide) 128 rfl (by decide) _ _ x
    · rw [e1, e2, e4, e5, e6]
      exact fun x => packed_strip (layers x0 x1 x2 x3 x4 x5 x6) 2 (by decide) 256 rfl (by decide) _ _ x
    · rw [e1, e2, e4, e5, e6]
      exact fun x => packed_strip (layers x0 x1 x2 x3 x4 x5 x6) 3 (by decide) 384 rfl (by decide) _ _ x
    · unfold kernelRun0.sl.r_4
      rw [e1, e2, e4, e5, e6]
      exact fun x => packed_strip (layers x0 x1 x2 x3 x4 x5 x6) 4 (by decide) 512 rfl (by decide) _ _ x
    · rw [e3]
      exact fun x => packed_strip (layers x0 x1 x2 x3 x4 x5 x6) 5 (by decide) 640 rfl (by decide) _ _ x
    · rw [e3]
      exact fun x => packed_strip (layers x0 x1 x2 x3 x4 x5 x6) 6 (by decide) 768 rfl (by decide) _ _ x
    · rw [e3]
      exact fun x => packed_strip (layers x0 x1 x2 x3 x4 x5 x6) 7 (by decide) 896 rfl (by decide) _ _ x
  · have h2 : k0_cond2 i (kernelRun0.sl.r (F := F) c xt1) = 1#1 := (cond2_iff i _).mpr h1
    rw [dif_pos h2, if_neg h1]
    exact full_store _ _ (by decide) _ _

end Cert.ExpertsIdeal.Gen
-- ==== Proof.ExpertsFrame.lean ====
/- The expert call's frame: the proof data point by point, the body's obligation, the run, and what it leaves alone. -/
module
public import proofs.«01_k».proof.Proof.ExpertsBlock
public import Idealize.ShloMosaic.Lib.Claim
@[expose] public section
-- membership in a rectangle of production extents (`View.cover_of_tiled`): the elaborator's structural look
-- recurses once per coordinate of the long axes
set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What the outputs' staging buffers hold after the body at point `t`: the run's contents at
    the point's memrefs and input blocks. -/
def outsAt0 (hO : Ok m) (c : Dev nD) (t : Fin (cfgM m hO).N) : Vec F S6144x128 .f32 :=
  blockOut (grid0.coords t) (kernelRun0.sl.r c (tbl m 1)) (iblk m hO c 0 t) (iblk m hO c 1 t) (iblk m hO c 2 t) (iblk m hO c 3 t)
    (iblk m hO c 4 t) (iblk m hO c 5 t) (iblk m hO c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0 c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HT0]; · iexact HT0
  isplitl [HT1]; · iexact HT1
  iintro ⟨H0, H1, H2, H3, H4, H5, H6, ⟨%e7, H7⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact run_read c _ _ _ _ _ _ _ _ _ _ _ _ _ _ _ _ _ _ _ _ _ _ _ _ _ _ _

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

-- the conditions are decided nowhere below
attribute [local irreducible] k0_cond1 k0_cond2

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  unfold bodyPost
  refine sep_mono .rfl (sep_mono .rfl (sep_mono .rfl (sep_mono .rfl (sep_mono .rfl (sep_mono .rfl (sep_mono .rfl (sep_mono .rfl (sep_mono .rfl ?_))))))))
  have h7 := flush0_7 (adm m hO) t
  dsimp only at h7 ⊢
  split
  · split
    · next h => exact absurd (h.symm.trans h7) (by decide)
    · exact .rfl
  · exact .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO)

/-- THE FRAME: `Cert.quiescent_ExpertsIdeal`'s statement (Defs.lean) at any `F` — Proof.lean cites it at `Bits`:
    `theorem Cert.Proof.claim : Cert.Claim := ⟨Cert.ExpertsIdeal.Gen.facts, fun m ρ _ => Cert.ExpertsIdeal.Gen.frame m ρ⟩`; here for every contents of the PREFETCHED TABLES, UNDER `Gen.Ok m` (the pipeline's side condition of
    them), which Proof.lean proves from the precondition: `⟨…, fun m ρ h => Cert.ExpertsIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO) ((θ_run defs _ _).mono (fun _ h => h.2) (run_main_quiescent m ρ hO))

end Cert.ExpertsIdeal.Gen

end
-- ==== Proof.ExpertsPre.lean ====
/- What the expert call's precondition says of its two tables, and that the pipeline's blocks then lie inside their arrays. -/
module
public import proofs.«01_k».proof.Defs
public import proofs.«01_k».proof.Proof.ExpertsKit
public import proofs.«01_k».proof.Proof.Gen.Pre_experts_in_range
public import Idealize.ShloMosaic.Lib.ReduceAll
public import Idealize.ShloMosaic.Lib.Pointwise.Index
public import Idealize.ShloMosaic.Lib.WordArith

@[expose] public section

set_option maxRecDepth 16384

noncomputable section

namespace Cert.ExpertsIdeal.Gen

open Idealize.ShloMosaic Idealize.ShloMosaic.TcCoe Idealize.SL.Sem

variable {F : FTy → Type} [FloatOps F]

/-- The word of the first table a grid point reads: its block's expert. -/
def bw (pf : pre0.Contents (Elt F)) (i : grid0.Coords) : BitVec 32 :=
  pf.at 0 (Rect.unit (s := S120) ![(Scalar.indexCast (BitVec.ofNat 32 (i 0).val)).toNat] S1.size (k0_off1_inb i)) numel1_S1

/-- The one word of the second table: how many blocks are used. -/
def nw (pf : pre0.Contents (Elt F)) : BitVec 32 :=
  pf.at 1 (Rect.unit (s := S1) ![0] S1.size inb_S1_S1_0) numel1_S1

/-- A point's expert is the table's word at the point's number. -/
theorem bw_eq (pf : pre0.Contents (Elt F)) (i : grid0.Coords) :
    bw pf i = pf 0 (ix1 (n0 := 120) ⟨(i 0).val, (i 0).isLt⟩) := by
  unfold bw
  refine congrArg (pf 0) ?_
  funext a
  fin_cases a
  refine Fin.ext ?_
  have h : (i 0).val < 120 := (i 0).isLt
  show (BitVec.ofNat 32 (i 0).val).toNat + 1 * 0 = (i 0).val
  rw [BitVec.toNat_ofNat]
  omega

theorem nw_eq (pf : pre0.Contents (Elt F)) : nw pf = pf 1 (ix1 (n0 := 1) 0) := by
  unfold nw
  refine congrArg (pf 1) ?_
  funext a
  fin_cases a
  rfl

/-- The least of a point's number and the last used block, as the first window computes it. -/
def lw (pf : pre0.Contents (Elt F)) (i : grid0.Coords) : BitVec 32 :=
  Scalar.minsi (BitVec.ofNat 32 (i 0).val) (Scalar.subi (nw pf) 1#32)

/-- A word that is at least one, read signed, is below half the words, and one less than it is one less. -/
theorem word_pred (n : BitVec 32) (h : 1 ≤ n.toInt) : (n.toNat : Int) = n.toInt ∧ n.toNat < 2 ^ 31 ∧ (n - 1#32).toNat = n.toNat - 1 := by
  have e := BitVec.toInt_eq_toNat_cond n
  have l := n.isLt
  have s : (n - 1#32).toNat = (2 ^ 32 - 1 + n.toNat) % 2 ^ 32 := by rw [BitVec.toNat_sub]; rfl
  split at e <;> omega

/-- Where at least one block is used, that is a natural number no greater than the point's. -/
theorem lw_le (pf : pre0.Contents (Elt F)) (i : grid0.Coords) (hn : 1 ≤ (nw pf).toInt) : (lw pf i).toNat ≤ (i 0).val := by
  have h : (i 0).val < 120 := (i 0).isLt
  obtain ⟨h1, h2, h3⟩ := word_pred _ hn
  have hi : (BitVec.ofNat 32 (i 0).val).toNat = (i 0).val := by rw [BitVec.toNat_ofNat]; omega
  have e := Idealize.ShloMosaic.WordArith.toNat_minsi_of_lt (BitVec.ofNat 32 (i 0).val) (nw pf - 1#32) (by omega) (by omega)
  rw [hi, h3] at e
  refine e.trans_le ?_
  omega

/-- Where the point is a used block, it is the point's. -/
theorem lw_used (pf : pre0.Contents (Elt F)) (i : grid0.Coords) (hn : ((i 0).val : Int) < (nw pf).toInt) : (lw pf i).toNat = (i 0).val := by
  have h : (i 0).val < 120 := (i 0).isLt
  obtain ⟨h1, h2, h3⟩ := word_pred (nw pf) (by omega)
  have hi : (BitVec.ofNat 32 (i 0).val).toNat = (i 0).val := by rw [BitVec.toNat_ofNat]; omega
  have e := Idealize.ShloMosaic.WordArith.toNat_minsi_of_lt (BitVec.ofNat 32 (i 0).val) (nw pf - 1#32) (by omega) (by omega)
  rw [hi, h3] at e
  refine e.trans ?_
  omega

/-- Words in range keep every block inside its array, and its transfers whole. -/
theorem ok_of_ranges (pf : pre0.Contents (Elt F)) (hb : ∀ i : grid0.Coords, (bw pf i).toNat < 32) (hn : 1 ≤ (nw pf).toInt) : ok0 pf := by
  have hw : ∀ i : grid0.Coords, ∀ a : Fin 3, (![(bw pf i).toNat, 0, 0] a + 1) * S1x1024x1024.size a ≤ S32x1024x1024.size a := by
    intro i a
    have h := hb i
    fin_cases a
    · show ((bw pf i).toNat + 1) * 1 ≤ 32
      omega
    · show (0 + 1) * 1024 ≤ 1024
      omega
    · show (0 + 1) * 1024 ≤ 1024
      omega
  have hv : ∀ i : grid0.Coords, ∀ a : Fin 3, (![(bw pf i).toNat, 0, 0] a + 1) * S1x1x1024.size a ≤ S32x1x1024.size a := by
    intro i a
    have h := hb i
    fin_cases a
    · show ((bw pf i).toNat + 1) * 1 ≤ 32
      omega
    · show (0 + 1) * 1 ≤ 1
      omega
    · show (0 + 1) * 1024 ≤ 1024
      omega
  refine ⟨fun i => ⟨?_, .inl rfl⟩, fun i => ⟨hw i, .inr (.inr ⟨by decide, rfl, rfl, rfl⟩)⟩, fun i => ⟨hw i, .inr (.inr ⟨by decide, rfl, rfl, rfl⟩)⟩,
    fun i => ⟨hv i, .inl rfl⟩, fun i => ⟨hv i, .inl rfl⟩, fun i => ⟨hw i, .inl rfl⟩, fun i => ⟨hv i, .inl rfl⟩⟩
  intro a
  have h := lw_le pf i hn
  have hi : (i 0).val < 120 := (i 0).isLt
  fin_cases a
  · show ((lw pf i).toNat + 1) * 6144 ≤ 737280
    omega
  · show (0 + 1) * 128 ≤ 128
    omega

/-- A conjunction of bits is one only where both are. -/
theorem bit_and (a b : BitVec 1) (h : a &&& b = 1#1) : a = 1#1 ∧ b = 1#1 := by
  revert a b
  decide

theorem of_bit (b : Bool) (h : BitVec.ofBool b = 1#1) : b = true := by
  revert h
  cases b <;> decide

/-- The precondition, read: every expert's number is one, and at least one block is used. -/
theorem ranges_of_pre (a0 : IVec S120 32) (a1 : IVec S1 32) (a2 : FVec F S92160x1024 .f32) (a3 a4 a5 a6)
    (h : Cert.Pre_experts_in_range.fn (F := F) a0 a1 a2 a3 a4 a5 a6 Idealize.ShloMosaic.ix0 = 1#1) :
    (∀ x, (a0 x).toNat < 32) ∧ ∀ x, 1 ≤ (a1 x).toInt := by
  haveI : Subsingleton (⟨0, ![]⟩ : Shape).Idx := ⟨fun i j => funext fun b => b.elim0⟩
  unfold Cert.Pre_experts_in_range.fn at h
  obtain ⟨h1, h2⟩ := bit_and _ _ h
  constructor
  · intro x
    have hx := Host.reduce_andi_all _ _ _ _ Idealize.ShloMosaic.ix0 h1 x
    obtain ⟨p, q⟩ := bit_and _ _ hx
    have p' : (0#32).toInt ≤ (a0 x).toInt := of_decide_eq_true (of_bit _ p)
    have q' : (a0 x).toInt < (32#32).toInt := of_decide_eq_true (of_bit _ q)
    rw [show (0#32 : BitVec 32).toInt = 0 from rfl] at p'
    rw [show (32#32 : BitVec 32).toInt = 32 from rfl] at q'
    have e := BitVec.toInt_eq_toNat_cond (a0 x)
    split at e <;> omega
  · intro x
    have p' : (1#32).toInt ≤ (a1 x).toInt := of_decide_eq_true (of_bit _ (Host.reduce_andi_all _ _ _ _ Idealize.ShloMosaic.ix0 h2 x))
    exact p'

/-- So the pipeline's side condition holds of the launch memory's tables wherever the precondition does. -/
theorem ok_of_pre (m : (ℓ : Loc nD τ sig) → Buf (Elt F) ℓ)
    (h : ∀ c : Dev nD, Cert.Pre_experts_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : Ok (F := F) m := by
  obtain ⟨h0, h1⟩ := ranges_of_pre _ _ _ _ _ _ _ (congrFun (h 0) Idealize.ShloMosaic.ix0)
  have e0 : tbl m 0 = m (((0 : Dev nD).tc : Thread nD τ).loc main_arg0) := V_main_arg0 m 0
  have e1 : tbl m 1 = m (((0 : Dev nD).tc : Thread nD τ).loc main_arg1) := V_main_arg1 m 0
  refine ok_of_ranges (tbl m) (fun i => ?_) ?_
  · rw [bw_eq, e0]
    exact h0 _
  · rw [nw_eq, e1]
    exact h1 _

end Cert.ExpertsIdeal.Gen
-- ==== Proof.Experts.lean ====
/- The expert call's frames, from the one run over any floating-point values. -/
module
public import proofs.«01_k».proof.Defs
public import proofs.«01_k».proof.Proof.Gen.Experts
public import proofs.«01_k».proof.Proof.Gen.ExpertsReferenceIdeal.Run
public import proofs.«01_k».proof.Proof.ExpertsFrame
public import proofs.«01_k».proof.Proof.ExpertsPre

@[expose] public section

set_option maxRecDepth 16384

noncomputable section

namespace Cert.ExpertsRun

open Idealize.ShloMosaic Idealize.ShloMosaic.TcCoe Idealize.SL.Sem

/-- The idealized program's frame, where the precondition holds. -/
theorem frame_ideal : Cert.quiescent_ExpertsIdeal (hExpertsIdeal := Cert.ExpertsIdeal.Gen.facts)
    (hPre_experts_in_range := Cert.Pre_experts_in_range.Gen.facts) := fun m ρ h =>
  Cert.ExpertsIdeal.Gen.frame m ρ (Cert.ExpertsIdeal.Gen.ok_of_pre m h)

section
open Cert.ExpertsIdeal

/-- The idealized program's frame, over the words. -/
def frameBits : Prop := ∀ (m : (ℓ : Loc nD τ sig) → Buf (Elt Bits) ℓ) (g : Dev nD → PrngReg),
    (∀ c : Dev nD, Cert.Pre_experts_in_range.fn (F := Bits) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0)

end

/-- The two programs have the same text, so the run over the words is the other program's frame. -/
theorem frame_kernel : Cert.quiescent_Experts (hExperts := Cert.Experts.Gen.facts)
    (hPre_experts_in_range := Cert.Pre_experts_in_range.Gen.facts) := by
  have h : frameBits := fun m ρ h => Cert.ExpertsIdeal.Gen.frame (F := Bits) m ρ (Cert.ExpertsIdeal.Gen.ok_of_pre (F := Bits) m h)
  have e : Cert.quiescent_Experts (hExperts := Cert.Experts.Gen.facts)
    (hPre_experts_in_range := Cert.Pre_experts_in_range.Gen.facts) = frameBits := by sl_kernel_rfl
  rw [e]
  exact h

/-- The reference runs and leaves its arguments, and no counter, since it has none. -/
theorem frame_reference : Cert.quiescent_ExpertsReferenceIdeal (hExpertsReferenceIdeal := Cert.ExpertsReferenceIdeal.Gen.facts) := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

end Cert.ExpertsRun
-- ==== Proof.ExpertsLayers.lean ====
/- A block's two layers, entry by entry. -/
module
public import proofs.«01_k».proof.Proof.ExpertsBlock
public import Idealize.ShloMosaic.Lib.Pointwise

@[expose] public section

set_option maxRecDepth 16384

noncomputable section

namespace Cert.ExpertsIdeal.Gen

open Idealize.ShloMosaic Idealize.ShloMosaic.TcCoe

/-- Column `128 * s + l` of a row of 1024. -/
def lane (s : Fin 8) (l : Fin 128) : Fin 1024 := ⟨128 * s.val + l.val, by omega⟩

/-- Row `8 * r + s` of a block. -/
def rowOf (r : Fin 768) (s : Fin 8) : Fin 6144 := ⟨8 * r.val + s.val, by omega⟩

theorem lane_split (d : Fin 1024) : d = lane ⟨d.val / 128, by omega⟩ ⟨d.val % 128, by omega⟩ := by
  unfold lane; refine Fin.ext ?_; show _ = 128 * (d.val / 128) + d.val % 128; omega

/-- The gate times its logistic, times the other half, clipped, and one. -/
def act (g l : EReal) : EReal :=
  g * Ideal.logistic (Ideal.ofBits .f32 0x3FD9DB23#32 * g)
    * (min (Ideal.ofBits .f32 0x40E00000#32) (max (Ideal.ofBits .f32 0xC0E00000#32) l) + 1)

/-- An expert's first layer's gate, clipped: of a row, the gates' weights and their biases. -/
def gate (x : Fin 1024 → EReal) (w : Fin 1024 → Fin 1024 → EReal) (b : Fin 1024 → EReal) (j : Fin 1024) : EReal :=
  min (∑ d : Fin 1024, x d * w d j + b j) (Ideal.ofBits .f32 0x40E00000#32)

/-- An expert's first layer's other half. -/
def lin (x : Fin 1024 → EReal) (w : Fin 1024 → Fin 1024 → EReal) (b : Fin 1024 → EReal) (j : Fin 1024) : EReal :=
  ∑ d : Fin 1024, x d * w d j + b j

/-- An expert's two layers, of one row. -/
def expert (x : Fin 1024 → EReal) (wg wl : Fin 1024 → Fin 1024 → EReal) (bg bl : Fin 1024 → EReal)
    (w2 : Fin 1024 → Fin 1024 → EReal) (b2 : Fin 1024 → EReal) (c : Fin 1024) : EReal :=
  ∑ j : Fin 1024, act (gate x wg bg j) (lin x wl bl j) * w2 j c + b2 c

/-- The rows as the body joins them from its eight strips. -/
theorem pay5_at (x0 : Vec Ideal S6144x128 .f32) (r : Fin 768) (s : Fin 8) (l : Fin 128) :
    (k0_pay5 (strip x0 0 (by decide)) (strip x0 1 (by decide)) (strip x0 2 (by decide)) (strip x0 3 (by decide))
      (strip x0 4 (by decide)) (strip x0 5 (by decide)) (strip x0 6 (by decide)) (strip x0 7 (by decide)) : FVec Ideal S768x1024 .bf16)
      (ix2 r (lane s l)) = x0 (ix2 (rowOf r s) l) := by
  pointwise [k0_pay5, strip, lane, rowOf]
  have hl := l.isLt
  have hs := s.isLt
  split_ifs <;> first
    | (exfalso; omega)
    | exact congrArg x0 (congrArg₂ ix2 (Fin.ext (by simp only []; omega)) (Fin.ext (by simp only []; omega)))

/-- A row of a block, read off its strips. -/
def rowAt (x0 : Vec Ideal S6144x128 .f32) (r : Fin 768) (d : Fin 1024) : EReal :=
  x0 (ix2 (rowOf r ⟨d.val / 128, by omega⟩) ⟨d.val % 128, by omega⟩)

theorem pay5_row (x0 : Vec Ideal S6144x128 .f32) (r : Fin 768) (d : Fin 1024) :
    (k0_pay5 (strip x0 0 (by decide)) (strip x0 1 (by decide)) (strip x0 2 (by decide)) (strip x0 3 (by decide))
      (strip x0 4 (by decide)) (strip x0 5 (by decide)) (strip x0 6 (by decide)) (strip x0 7 (by decide)) : FVec Ideal S768x1024 .bf16)
      (ix2 r d) = rowAt x0 r d := by
  conv_lhs => rw [lane_split d]
  exact pay5_at x0 r _ _

/-- The clipped gate of the body. -/
theorem pay6_at (x0 : Vec Ideal S6144x128 .f32) (x1 : Vec Ideal S1x1024x1024 .bf16) (x3 : Vec Ideal S1x1x1024 .f32) (r : Fin 768) (j : Fin 1024) :
    (k0_pay6 (strip x0 0 (by decide)) (strip x0 1 (by decide)) (strip x0 2 (by decide)) (strip x0 3 (by decide))
      (strip x0 4 (by decide)) (strip x0 5 (by decide)) (strip x0 6 (by decide)) (strip x0 7 (by decide)) x1 x3 : FVec Ideal S768x1024 .f32) (ix2 r j)
      = gate (rowAt x0 r) (fun d j => x1 (ix3 0 d j)) (fun j => x3 (ix3 0 0 j)) j := by
  pointwise [k0_pay6]
  unfold gate
  simp only [pay5_row]

/-- The other half's product of the body. -/
theorem pay7_at (x0 : Vec Ideal S6144x128 .f32) (x2 : Vec Ideal S1x1024x1024 .bf16) (r : Fin 768) (j : Fin 1024) :
    (k0_pay7 (strip x0 0 (by decide)) (strip x0 1 (by decide)) (strip x0 2 (by decide)) (strip x0 3 (by decide))
      (strip x0 4 (by decide)) (strip x0 5 (by decide)) (strip x0 6 (by decide)) (strip x0 7 (by decide)) x2 : FVec Ideal S768x1024 .f32) (ix2 r j)
      = ∑ d : Fin 1024, rowAt x0 r d * x2 (ix3 0 d j) := by
  pointwise [k0_pay7]
  simp only [pay5_row]

/-- The second layer of the body. -/
theorem pay8_at (g l : FVec Ideal S768x1024 .f32) (x4 : Vec Ideal S1x1x1024 .f32) (x5 : Vec Ideal S1x1024x1024 .f32) (x6 : Vec Ideal S1x1x1024 .f32)
    (r : Fin 768) (c : Fin 1024) :
    (k0_pay8 g l x4 x5 x6 : FVec Ideal S768x1024 .f32) (ix2 r c) =
      ∑ j : Fin 1024, act (g (ix2 r j)) (l (ix2 r j) + x4 (ix3 0 0 j)) * x5 (ix3 0 j c) + x6 (ix3 0 0 c) := by
  pointwise [k0_pay8, act]

/-- A block's rows after both layers. -/
theorem layers_at (x0 : Vec Ideal S6144x128 .f32) (x1 : Vec Ideal S1x1024x1024 .bf16)
    (x2 : Vec Ideal S1x1024x1024 .bf16) (x3 : Vec Ideal S1x1x1024 .f32) (x4 : Vec Ideal S1x1x1024 .f32) (x5 : Vec Ideal S1x1024x1024 .f32)
    (x6 : Vec Ideal S1x1x1024 .f32) (r : Fin 768) (c : Fin 1024) :
    (layers x0 x1 x2 x3 x4 x5 x6 : FVec Ideal S768x1024 .f32) (ix2 r c) =
      expert (rowAt x0 r) (fun d j => x1 (ix3 0 d j)) (fun d j => x2 (ix3 0 d j)) (fun j => x3 (ix3 0 0 j)) (fun j => x4 (ix3 0 0 j))
        (fun j c => x5 (ix3 0 j c)) (fun c => x6 (ix3 0 0 c)) c := by
  unfold layers
  rw [pay8_at]
  simp only [pay6_at, pay7_at]
  rfl

/-- A block of the result, entry by entry. -/
theorem blockOut_at (i : grid0.Coords) (w : BitVec 32) (x0 : Vec Ideal S6144x128 .f32) (x1 : Vec Ideal S1x1024x1024 .bf16)
    (x2 : Vec Ideal S1x1024x1024 .bf16) (x3 : Vec Ideal S1x1x1024 .f32) (x4 : Vec Ideal S1x1x1024 .f32) (x5 : Vec Ideal S1x1024x1024 .f32)
    (x6 : Vec Ideal S1x1x1024 .f32) (r : Fin 768) (s : Fin 8) (l : Fin 128) :
    (blockOut i w x0 x1 x2 x3 x4 x5 x6 : Vec Ideal S6144x128 .f32) (ix2 (rowOf r s) l) =
      if ((i 0).val : Int) < w.toInt then
        expert (rowAt x0 r) (fun d j => x1 (ix3 0 d j)) (fun d j => x2 (ix3 0 d j)) (fun j => x3 (ix3 0 0 j)) (fun j => x4 (ix3 0 0 j))
          (fun j c => x5 (ix3 0 j c)) (fun c => x6 (ix3 0 0 c)) (lane s l)
      else 0 := by
  have hc : k0_cond1 i w = 1#1 ↔ ((i 0).val : Int) < w.toInt := by
    have hi : (i 0).val < 120 := (i 0).isLt
    have e : (BitVec.ofNat 32 (i 0).val).toInt = (i 0).val := by
      have := BitVec.toInt_eq_toNat_cond (BitVec.ofNat 32 (i 0).val)
      rw [BitVec.toNat_ofNat] at this
      split at this <;> omega
    unfold k0_cond1
    simp only [Scalar.cmpi, Scalar.extui, IntOp.cmpi, BitVec.slt, e]
    by_cases h : ((i 0).val : Int) < w.toInt
    · simp [h]
    · simp [h]
  unfold blockOut
  by_cases h : ((i 0).val : Int) < w.toInt
  · rw [if_pos (hc.mpr h), if_pos h, ← layers_at]
    unfold packed
    refine congrArg _ (congrArg₂ ix2 (Fin.ext ?_) (Fin.ext ?_))
    · show (8 * r.val + s.val) / 8 = r.val
      omega
    · show 128 * ((8 * r.val + s.val) % 8) + l.val = 128 * s.val + l.val
      omega
  · rw [if_neg (fun h' => h (hc.mp h')), if_neg h]
    pointwise [k0_pay4]

end Cert.ExpertsIdeal.Gen
-- ==== Proof.ExpertsInputs.lean ====
/- What the expert call's body finds in its buffers: the host's arrays read back, and the blocks the windows hold. -/
module
public import proofs.«01_k».proof.Proof.ExpertsFrame
public import proofs.«01_k».proof.Proof.ExpertsPre
public import proofs.«01_k».proof.Proof.ExpertsLayers
public import Idealize.ShloMosaic.Lib.Pipeline.ValueKit

@[expose] public section

set_option maxRecDepth 16384

noncomputable section

namespace Cert.ExpertsIdeal.Gen

open Idealize.ShloMosaic Idealize.ShloMosaic.TcCoe Idealize.SL.Sem

variable (m : (ℓ : Loc nD τ sig) → Buf (Elt Ideal) ℓ)

/-- The staged tokens: the argument, a token's row on eight rows of 128. -/
theorem stage_x (c : Dev nD) (x : FVec Ideal S92160x1024 .f32) (hx : m ((c : Thread nD τ).loc main_arg2) = x)
    (n : Fin 92160) (s : Fin 8) (l : Fin 128) (hb) :
    (V m c main_v0 : Vec Ideal S737280x128 .f32) (ix2 ⟨8 * n.val + s.val, hb⟩ l) = x (ix2 n (lane s l)) := by
  entry_read
  pointwise
  subst hx
  blk_ext [lane]

/-- The staged gates' weights: the even columns. -/
theorem stage_wg (c : Dev nD) (w1 : FVec Ideal S1x32x1024x2048 .f32) (hw : m ((c : Thread nD τ).loc main_arg3) = w1)
    (e : Fin 32) (d j : Fin 1024) :
    (V m c main_v3 : Vec Ideal S32x1024x1024 .bf16) (ix3 e d j) = w1 (ix4 0 e d ⟨2 * j.val, by omega⟩) := by
  entry_read
  pointwise
  subst hw
  blk_ext []

/-- The staged weights of the other half: the odd columns. -/
theorem stage_wl (c : Dev nD) (w1 : FVec Ideal S1x32x1024x2048 .f32) (hw : m ((c : Thread nD τ).loc main_arg3) = w1)
    (e : Fin 32) (d j : Fin 1024) :
    (V m c main_v6 : Vec Ideal S32x1024x1024 .bf16) (ix3 e d j) = w1 (ix4 0 e d ⟨2 * j.val + 1, by omega⟩) := by
  entry_read
  pointwise
  subst hw
  blk_ext []

/-- The staged gates' biases. -/
theorem stage_bg (c : Dev nD) (b1 : FVec Ideal S1x32x2048 .f32) (hb : m ((c : Thread nD τ).loc main_arg4) = b1)
    (e : Fin 32) (j : Fin 1024) :
    (V m c main_v13 : Vec Ideal S32x1x1024 .f32) (ix3 e 0 j) = b1 (ix3 0 e ⟨2 * j.val, by omega⟩) := by
  entry_read
  pointwise
  subst hb
  blk_ext []

/-- The staged biases of the other half. -/
theorem stage_bl (c : Dev nD) (b1 : FVec Ideal S1x32x2048 .f32) (hb : m ((c : Thread nD τ).loc main_arg4) = b1)
    (e : Fin 32) (j : Fin 1024) :
    (V m c main_v17 : Vec Ideal S32x1x1024 .f32) (ix3 e 0 j) = b1 (ix3 0 e ⟨2 * j.val + 1, by omega⟩) := by
  entry_read
  pointwise
  subst hb
  blk_ext []

/-- The staged second weights. -/
theorem stage_w2 (c : Dev nD) (w2 : FVec Ideal S1x32x1024x1024 .f32) (hw : m ((c : Thread nD τ).loc main_arg5) = w2)
    (e : Fin 32) (j k : Fin 1024) :
    (V m c main_v18 : Vec Ideal S32x1024x1024 .f32) (ix3 e j k) = w2 (ix4 0 e j k) := by
  entry_read
  pointwise
  subst hw
  blk_ext []

/-- The staged second biases. -/
theorem stage_b2 (c : Dev nD) (b2 : FVec Ideal S1x32x1024 .f32) (hb : m ((c : Thread nD τ).loc main_arg6) = b2)
    (e : Fin 32) (k : Fin 1024) :
    (V m c main_v20 : Vec Ideal S32x1x1024 .f32) (ix3 e 0 k) = b2 (ix3 0 e k) := by
  entry_read
  pointwise
  subst hb
  blk_ext []

/-- The tokens' window's map: the point's block, or the last used one. -/
theorem map0_eq (pf : pre0.Contents (Elt Ideal)) (i : grid0.Coords) : cc0_transform_0 inb_S1_S1_0 numel1_S1 pf i = ![(lw pf i).toNat, 0] := by
  rfl

/-- The block of the gates' weights: the point's expert's. -/
theorem block1 (hO : Ok m) (c : Dev nD) (t : Fin (cfgM m hO).N) (he : (bw (tbl m) (grid0.coords t)).toNat < 32) (d j : Fin 1024) :
    (iblk m hO c 1 t : Vec Ideal S1x1024x1024 .bf16) (ix3 0 d j) =
      (V m c main_v3 : Vec Ideal S32x1024x1024 .bf16) (ix3 ⟨(bw (tbl m) (grid0.coords t)).toNat, he⟩ d j) := by
  refine congrArg (V m c main_v3 : Vec Ideal S32x1024x1024 .bf16) ?_
  funext a
  fin_cases a <;> refine Fin.ext ?_
  · show (bw (tbl m) (grid0.coords t)).toNat * 1 + 1 * 0 = (bw (tbl m) (grid0.coords t)).toNat
    omega
  · show 0 * 1024 + 1 * d.val = d.val
    omega
  · show 0 * 1024 + 1 * j.val = j.val
    omega

/-- The block of the other half's weights: the point's expert's. -/
theorem block2 (hO : Ok m) (c : Dev nD) (t : Fin (cfgM m hO).N) (he : (bw (tbl m) (grid0.coords t)).toNat < 32) (d j : Fin 1024) :
    (iblk m hO c 2 t : Vec Ideal S1x1024x1024 .bf16) (ix3 0 d j) =
      (V m c main_v6 : Vec Ideal S32x1024x1024 .bf16) (ix3 ⟨(bw (tbl m) (grid0.coords t)).toNat, he⟩ d j) := by
  refine congrArg (V m c main_v6 : Vec Ideal S32x1024x1024 .bf16) ?_
  funext a
  fin_cases a <;> refine Fin.ext ?_
  · show (bw (tbl m) (grid0.coords t)).toNat * 1 + 1 * 0 = (bw (tbl m) (grid0.coords t)).toNat
    omega
  · show 0 * 1024 + 1 * d.val = d.val
    omega
  · show 0 * 1024 + 1 * j.val = j.val
    omega

/-- The block of the gates' biases: the point's expert's. -/
theorem block3 (hO : Ok m) (c : Dev nD) (t : Fin (cfgM m hO).N) (he : (bw (tbl m) (grid0.coords t)).toNat < 32) (j : Fin 1024) :
    (iblk m hO c 3 t : Vec Ideal S1x1x1024 .f32) (ix3 0 0 j) =
      (V m c main_v13 : Vec Ideal S32x1x1024 .f32) (ix3 ⟨(bw (tbl m) (grid0.coords t)).toNat, he⟩ 0 j) := by
  refine congrArg (V m c main_v13 : Vec Ideal S32x1x1024 .f32) ?_
  funext a
  fin_cases a <;> refine Fin.ext ?_
  · show (bw (tbl m) (grid0.coords t)).toNat * 1 + 1 * 0 = (bw (tbl m) (grid0.coords t)).toNat
    omega
  · show 0 * 1 + 1 * 0 = 0
    omega
  · show 0 * 1024 + 1 * j.val = j.val
    omega

/-- The block of the other half's biases: the point's expert's. -/
theorem block4 (hO : Ok m) (c : Dev nD) (t : Fin (cfgM m hO).N) (he : (bw (tbl m) (grid0.coords t)).toNat < 32) (j : Fin 1024) :
    (iblk m hO c 4 t : Vec Ideal S1x1x1024 .f32) (ix3 0 0 j) =
      (V m c main_v17 : Vec Ideal S32x1x1024 .f32) (ix3 ⟨(bw (tbl m) (grid0.coords t)).toNat, he⟩ 0 j) := by
  refine congrArg (V m c main_v17 : Vec Ideal S32x1x1024 .f32) ?_
  funext a
  fin_cases a <;> refine Fin.ext ?_
  · show (bw (tbl m) (grid0.coords t)).toNat * 1 + 1 * 0 = (bw (tbl m) (grid0.coords t)).toNat
    omega
  · show 0 * 1 + 1 * 0 = 0
    omega
  · show 0 * 1024 + 1 * j.val = j.val
    omega

/-- The block of the second weights: the point's expert's. -/
theorem block5 (hO : Ok m) (c : Dev nD) (t : Fin (cfgM m hO).N) (he : (bw (tbl m) (grid0.coords t)).toNat < 32) (d j : Fin 1024) :
    (iblk m hO c 5 t : Vec Ideal S1x1024x1024 .f32) (ix3 0 d j) =
      (V m c main_v18 : Vec Ideal S32x1024x1024 .f32) (ix3 ⟨(bw (tbl m) (grid0.coords t)).toNat, he⟩ d j) := by
  refine congrArg (V m c main_v18 : Vec Ideal S32x1024x1024 .f32) ?_
  funext a
  fin_cases a <;> refine Fin.ext ?_
  · show (bw (tbl m) (grid0.coords t)).toNat * 1 + 1 * 0 = (bw (tbl m) (grid0.coords t)).toNat
    omega
  · show 0 * 1024 + 1 * d.val = d.val
    omega
  · show 0 * 1024 + 1 * j.val = j.val
    omega

/-- The block of the second biases: the point's expert's. -/
theorem block6 (hO : Ok m) (c : Dev nD) (t : Fin (cfgM m hO).N) (he : (bw (tbl m) (grid0.coords t)).toNat < 32) (j : Fin 1024) :
    (iblk m hO c 6 t : Vec Ideal S1x1x1024 .f32) (ix3 0 0 j) =
      (V m c main_v20 : Vec Ideal S32x1x1024 .f32) (ix3 ⟨(bw (tbl m) (grid0.coords t)).toNat, he⟩ 0 j) := by
  refine congrArg (V m c main_v20 : Vec Ideal S32x1x1024 .f32) ?_
  funext a
  fin_cases a <;> refine Fin.ext ?_
  · show (bw (tbl m) (grid0.coords t)).toNat * 1 + 1 * 0 = (bw (tbl m) (grid0.coords t)).toNat
    omega
  · show 0 * 1 + 1 * 0 = 0
    omega
  · show 0 * 1024 + 1 * j.val = j.val
    omega

/-- A read of the tokens' window is a read of the array at the window's place. -/
theorem read0 (a : (pcfg0 (F := Ideal)).Adm) (t : Fin (cfg0 a).N) (f : Vec Ideal S737280x128 .f32) (q : Nat)
    (hq : (lw a.1 (grid0.coords t)).toNat = q) (R : Fin 6144) (l : Fin 128) (hR : q * 6144 + R.val < 737280) :
    ((((cfg0 a).win 0).blk t).view.read (Elt Ideal) f : Vec Ideal S6144x128 .f32) (ix2 R l) = f (ix2 ⟨q * 6144 + R.val, hR⟩ l) := by
  subst hq
  refine congrArg f ?_
  funext b
  fin_cases b <;> refine Fin.ext ?_
  · show (lw a.1 (grid0.coords t)).toNat * 6144 + 1 * R.val = (lw a.1 (grid0.coords t)).toNat * 6144 + R.val
    rw [Nat.one_mul]
  · show 0 * 128 + 1 * l.val = l.val
    rw [Nat.one_mul, Nat.zero_mul, Nat.zero_add]

/-- The tokens' block: the last used one's, when the point is past it. -/
theorem block0 (hO : Ok m) (c : Dev nD) (t : Fin (cfgM m hO).N) (q : Nat) (hq : (lw (tbl m) (grid0.coords t)).toNat = q)
    (R : Fin 6144) (l : Fin 128) (hR : q * 6144 + R.val < 737280) :
    (iblk m hO c 0 t : Vec Ideal S6144x128 .f32) (ix2 R l) =
      (V m c main_v0 : Vec Ideal S737280x128 .f32) (ix2 ⟨q * 6144 + R.val, hR⟩ l) :=
  read0 (adm m hO) t (V m c main_v0) q hq R l hR

/-- The word the body reads of the second table: the number of used blocks. -/
theorem word_eq (c : Dev nD) : kernelRun0.sl.r (F := Ideal) c (tbl m 1) = nw (tbl m) := by
  rfl

/-- The blocks' experts: the first argument. -/
theorem tbl0 (x : S120.Idx) : (tbl m 0 : IVec S120 32) x = m (((0 : Dev nD).tc : Thread nD τ).loc main_arg0) x :=
  congrFun (V_main_arg0 m 0) x

/-- The number of used blocks: the second argument. -/
theorem tbl1 (x : S1.Idx) : (tbl m 1 : IVec S1 32) x = m (((0 : Dev nD).tc : Thread nD τ).loc main_arg1) x :=
  congrFun (V_main_arg1 m 0) x

end Cert.ExpertsIdeal.Gen
-- ==== Proof.ExpertsValue.lean ====
/- The expert call's result array, whole: every row an expert's two layers of its token, or zero past the used blocks. -/
module
public import proofs.«01_k».proof.Proof.ExpertsInputs

@[expose] public section

set_option maxRecDepth 16384

noncomputable section

namespace Cert.ExpertsIdeal.Gen

open Idealize.ShloMosaic Idealize.ShloMosaic.TcCoe Idealize.SL.Sem

/-- A point's one coordinate is its number. -/
theorem coord_eq : ∀ t : Fin grid0.N, (grid0.coords t 0).val = t.val := by decide +kernel

/-- The result's window's map: a point's block is the point's. -/
theorem map7_eq : ∀ t : Fin grid0.N, (BitVec.ofNat 32 (grid0.coords t 0).val).toNat = t.val := by decide +kernel

/-- The blocks written back cover the result's array. -/
theorem covers7 (a : (pcfg0 (F := Ideal)).Adm) : ((cfg0 a).win 7).Covers := by
  refine ⟨fun b => ?_, fun β => ?_⟩
  · fin_cases b
    · show 0 < 6144
      omega
    · show 0 < 128
      omega
  have h0 : (β (0 : Fin 2)).val < 120 := lt_of_lt_of_eq (β (0 : Fin 2)).isLt (by show (737280 + 6144 - 1) / 6144 = 120; omega)
  have h1 : (β (1 : Fin 2)).val < 1 := lt_of_lt_of_eq (β (1 : Fin 2)).isLt (by show (128 + 128 - 1) / 128 = 1; omega)
  refine ⟨(⟨(β (0 : Fin 2)).val, h0⟩ : Fin grid0.N), flush0_7 a _, fun b => ⟨?_, .inl rfl⟩⟩
  fin_cases b
  · exact map7_eq _
  · show 0 = (β (1 : Fin 2)).val
    omega
/-- What expert `e` makes of token `n`, from the call's arguments. -/
def tokenOut (x : FVec Ideal S92160x1024 .f32) (w1 : FVec Ideal S1x32x1024x2048 .f32) (b1 : FVec Ideal S1x32x2048 .f32)
    (w2 : FVec Ideal S1x32x1024x1024 .f32) (b2 : FVec Ideal S1x32x1024 .f32) (e : Fin 32) (n : Fin 92160) : Fin 1024 → EReal :=
  expert (fun d => x (ix2 n d)) (fun d j => w1 (ix4 0 e d ⟨2 * j.val, by omega⟩)) (fun d j => w1 (ix4 0 e d ⟨2 * j.val + 1, by omega⟩))
    (fun j => b1 (ix3 0 e ⟨2 * j.val, by omega⟩)) (fun j => b1 (ix3 0 e ⟨2 * j.val + 1, by omega⟩))
    (fun j k => w2 (ix4 0 e j k)) (fun k => b2 (ix3 0 e k))

/-- The result, from the arguments: a row is an eighth of a token's. -/
def result (a0 : IVec S120 32) (a1 : IVec S1 32) (x : FVec Ideal S92160x1024 .f32) (w1 : FVec Ideal S1x32x1024x2048 .f32)
    (b1 : FVec Ideal S1x32x2048 .f32) (w2 : FVec Ideal S1x32x1024x1024 .f32) (b2 : FVec Ideal S1x32x1024 .f32) :
    FVec Ideal S737280x128 .f32 := fun i =>
  have hi : (i 0).val < 737280 := (i 0).isLt
  if (((i 0).val / 6144 : Nat) : Int) < (a1 (ix1 (n0 := 1) 0)).toInt then
    tokenOut x w1 b1 w2 b2 ⟨(a0 (ix1 (n0 := 120) ⟨(i 0).val / 6144, by omega⟩)).toNat % 32, Nat.mod_lt _ (by omega)⟩
      ⟨(i 0).val / 8, by omega⟩ (lane ⟨(i 0).val % 8, by omega⟩ (i 1))
  else 0

/-- The result at an entry of a block. -/
theorem result_at (a0 : IVec S120 32) (a1 : IVec S1 32) (x : FVec Ideal S92160x1024 .f32) (w1 : FVec Ideal S1x32x1024x2048 .f32)
    (b1 : FVec Ideal S1x32x2048 .f32) (w2 : FVec Ideal S1x32x1024x1024 .f32) (b2 : FVec Ideal S1x32x1024 .f32)
    (t : Fin 120) (r : Fin 768) (s : Fin 8) (l : Fin 128) (he : (a0 (ix1 (n0 := 120) t)).toNat < 32)
    (hb : t.val * 6144 + (8 * r.val + s.val) < 737280) :
    result a0 a1 x w1 b1 w2 b2 (ix2 ⟨t.val * 6144 + (8 * r.val + s.val), hb⟩ l) =
      if (t.val : Int) < (a1 (ix1 (n0 := 1) 0)).toInt then
        tokenOut x w1 b1 w2 b2 ⟨(a0 (ix1 (n0 := 120) t)).toNat, he⟩ ⟨t.val * 768 + r.val, by omega⟩ (lane s l)
      else 0 := by
  have e1 : (t.val * 6144 + (8 * r.val + s.val)) / 6144 = t.val := by omega
  have e2 : (t.val * 6144 + (8 * r.val + s.val)) / 8 = t.val * 768 + r.val := by omega
  have e3 : (t.val * 6144 + (8 * r.val + s.val)) % 8 = s.val := by omega
  have ht : (⟨(t.val * 6144 + (8 * r.val + s.val)) / 6144, by omega⟩ : Fin 120) = t := Fin.ext e1
  have hn : (⟨(t.val * 6144 + (8 * r.val + s.val)) / 8, by omega⟩ : Fin 92160) = ⟨t.val * 768 + r.val, by omega⟩ := Fin.ext e2
  have hs : (⟨(t.val * 6144 + (8 * r.val + s.val)) % 8, by omega⟩ : Fin 8) = s := Fin.ext e3
  have hm : (⟨(a0 (ix1 (n0 := 120) t)).toNat % 32, Nat.mod_lt _ (by omega)⟩ : Fin 32) = ⟨(a0 (ix1 (n0 := 120) t)).toNat, he⟩ :=
    Fin.ext (Nat.mod_eq_of_lt he)
  show (if (((t.val * 6144 + (8 * r.val + s.val)) / 6144 : Nat) : Int) < (a1 (ix1 (n0 := 1) 0)).toInt then
      tokenOut x w1 b1 w2 b2 ⟨(a0 (ix1 (n0 := 120) ⟨(t.val * 6144 + (8 * r.val + s.val)) / 6144, by omega⟩)).toNat % 32, Nat.mod_lt _ (by omega)⟩
        ⟨(t.val * 6144 + (8 * r.val + s.val)) / 8, by omega⟩ (lane ⟨(t.val * 6144 + (8 * r.val + s.val)) % 8, by omega⟩ l)
      else (0 : EReal)) = _
  rw [hn, hs, ht, hm, e1]

variable (m : (ℓ : Loc nD τ sig) → Buf (Elt Ideal) ℓ)

/-- A used block's tokens, as the body reads a row: the token's. -/
theorem row_eq (hO : Ok m) (c : Dev nD) (t : Fin (cfgM m hO).N) (ht : t.val < 120) (x : FVec Ideal S92160x1024 .f32)
    (hx : m ((c : Thread nD τ).loc main_arg2) = x) (hq : (lw (tbl m) (grid0.coords t)).toNat = t.val) (r : Fin 768) :
    rowAt (iblk m hO c 0 t) r = fun d => x (ix2 ⟨t.val * 768 + r.val, by omega⟩ d) := by
  funext d
  refine (block0 m hO c t t.val hq _ _ (by
    show t.val * 6144 + (8 * r.val + d.val / 128) < 737280
    omega)).trans ?_
  have key := stage_x m c x hx ⟨t.val * 768 + r.val, by omega⟩ ⟨d.val / 128, by omega⟩ ⟨d.val % 128, by omega⟩ (by
    show 8 * (t.val * 768 + r.val) + d.val / 128 < 737280
    omega)
  rw [← lane_split d] at key
  refine Eq.trans (congrArg (V m c main_v0 : Vec Ideal S737280x128 .f32) ?_) key
  refine congrArg (fun k => ix2 k _) (Fin.ext ?_)
  show t.val * 6144 + (8 * r.val + d.val / 128) = 8 * (t.val * 768 + r.val) + d.val / 128
  omega

/-- A point's block of the result, at an entry. -/
theorem out_at (hO : Ok m) (c : Dev nD) (t : Fin (cfgM m hO).N) (ht : t.val < 120) (a0 : IVec S120 32) (a1 : IVec S1 32)
    (x : FVec Ideal S92160x1024 .f32) (w1 : FVec Ideal S1x32x1024x2048 .f32) (b1 : FVec Ideal S1x32x2048 .f32)
    (w2 : FVec Ideal S1x32x1024x1024 .f32) (b2 : FVec Ideal S1x32x1024 .f32)
    (h0 : m ((c : Thread nD τ).loc main_arg0) = a0) (h1 : m ((c : Thread nD τ).loc main_arg1) = a1)
    (h2 : m ((c : Thread nD τ).loc main_arg2) = x) (h3 : m ((c : Thread nD τ).loc main_arg3) = w1)
    (h4 : m ((c : Thread nD τ).loc main_arg4) = b1) (h5 : m ((c : Thread nD τ).loc main_arg5) = w2)
    (h6 : m ((c : Thread nD τ).loc main_arg6) = b2)
    (he : (a0 (ix1 (n0 := 120) ⟨t.val, ht⟩)).toNat < 32) (r : Fin 768) (s : Fin 8) (l : Fin 128) :
    outsAt0 m hO c t (ix2 (rowOf r s) l) =
      if (t.val : Int) < (a1 (ix1 (n0 := 1) 0)).toInt then
        tokenOut x w1 b1 w2 b2 ⟨(a0 (ix1 (n0 := 120) ⟨t.val, ht⟩)).toNat, he⟩ ⟨t.val * 768 + r.val, by omega⟩ (lane s l)
      else 0 := by
  obtain rfl : c = 0 := Subsingleton.elim _ _
  have hi : (grid0.coords t 0).val = t.val := coord_eq t
  have hnw : nw (tbl m) = a1 (ix1 (n0 := 1) 0) := by rw [nw_eq, tbl1 m, h1]
  have hbw : bw (tbl m) (grid0.coords t) = a0 (ix1 (n0 := 120) ⟨t.val, ht⟩) := by
    rw [bw_eq, tbl0 m, h0]
    exact congrArg (fun k => a0 (ix1 (n0 := 120) k)) (Fin.ext hi)
  unfold outsAt0
  refine (blockOut_at _ _ _ _ _ _ _ _ _ r s l).trans ?_
  rw [word_eq, hnw, hi]
  by_cases hu : (t.val : Int) < (a1 (ix1 (n0 := 1) 0)).toInt
  · rw [if_pos hu, if_pos hu]
    have hq : (lw (tbl m) (grid0.coords t)).toNat = t.val := (lw_used (tbl m) (grid0.coords t) (by rw [hi, hnw]; exact hu)).trans hi
    have hE : (bw (tbl m) (grid0.coords t)).toNat < 32 := by rw [hbw]; exact he
    have hee : (⟨(bw (tbl m) (grid0.coords t)).toNat, hE⟩ : Fin 32) = ⟨(a0 (ix1 (n0 := 120) ⟨t.val, ht⟩)).toNat, he⟩ :=
      Fin.ext (congrArg BitVec.toNat hbw)
    rw [row_eq m hO 0 t ht x h2 hq r]
    unfold tokenOut
    refine congr (congr (congr (congr (congr (congr (congrArg _ ?_) ?_) ?_) ?_) ?_) ?_) rfl
    · funext d j
      rw [block1 m hO 0 t hE d j, stage_wg m 0 w1 h3, hee]
    · funext d j
      rw [block2 m hO 0 t hE d j, stage_wl m 0 w1 h3, hee]
    · funext j
      rw [block3 m hO 0 t hE j, stage_bg m 0 b1 h4, hee]
    · funext j
      rw [block4 m hO 0 t hE j, stage_bl m 0 b1 h4, hee]
    · funext d j
      rw [block5 m hO 0 t hE d j, stage_w2 m 0 w2 h5, hee]
    · funext j
      rw [block6 m hO 0 t hE j, stage_b2 m 0 b2 h6, hee]
  · rw [if_neg hu, if_neg hu]

/-- A row of a block is an eighth of one of its tokens'. -/
theorem rowOf_split (R : Fin 6144) : R = rowOf ⟨R.val / 8, by omega⟩ ⟨R.val % 8, by omega⟩ := by
  refine Fin.ext ?_
  show R.val = 8 * (R.val / 8) + R.val % 8
  omega

theorem block_split (y : S6144x128.Idx) : ∃ (r : Fin 768) (s : Fin 8) (l : Fin 128), y = ix2 (rowOf r s) l := by
  refine ⟨⟨(y 0).val / 8, ?_⟩, ⟨(y 0).val % 8, Nat.mod_lt _ (by omega)⟩, y 1, ?_⟩
  · have h : (y 0).val < 6144 := (y 0).isLt
    omega
  · funext a
    match a with
    | ⟨0, _⟩ => exact rowOf_split (y 0)
    | ⟨1, _⟩ => rfl

/-- Where a point's block of the result lies in the array. -/
theorem emb7 (a : (pcfg0 (F := Ideal)).Adm) (t : Fin (cfg0 a).N) (ht : t.val < 120) (r : Fin 768) (s : Fin 8) (l : Fin 128) :
    ((((cfg0 a).win 7).blk t).view.emb (ix2 (rowOf r s) l) : S737280x128.Idx) =
      ix2 ⟨t.val * 6144 + (8 * r.val + s.val), by omega⟩ l := by
  funext b
  fin_cases b <;> refine Fin.ext ?_
  · show (BitVec.ofNat 32 (grid0.coords t 0).val).toNat * 6144 + 1 * (8 * r.val + s.val) = t.val * 6144 + (8 * r.val + s.val)
    rw [map7_eq t, Nat.one_mul]
  · show 0 * 128 + 1 * l.val = l.val
    rw [Nat.one_mul, Nat.zero_mul, Nat.zero_add]

/-- After the run the kernel's result array is the result of the arguments. -/
theorem final (hO : Ok m) (c : Dev nD) (a0 : IVec S120 32) (a1 : IVec S1 32)
    (x : FVec Ideal S92160x1024 .f32) (w1 : FVec Ideal S1x32x1024x2048 .f32) (b1 : FVec Ideal S1x32x2048 .f32)
    (w2 : FVec Ideal S1x32x1024x1024 .f32) (b2 : FVec Ideal S1x32x1024 .f32)
    (h0 : m ((c : Thread nD τ).loc main_arg0) = a0) (h1 : m ((c : Thread nD τ).loc main_arg1) = a1)
    (h2 : m ((c : Thread nD τ).loc main_arg2) = x) (h3 : m ((c : Thread nD τ).loc main_arg3) = w1)
    (h4 : m ((c : Thread nD τ).loc main_arg4) = b1) (h5 : m ((c : Thread nD τ).loc main_arg5) = w2)
    (h6 : m ((c : Thread nD τ).loc main_arg6) = b2) (he : ∀ i, (a0 i).toNat < 32) :
    (dats m hO 0 c).arrAt 7 (cfgM m hO).N = (result a0 a1 x w1 b1 w2 b2 : Vec Ideal S737280x128 .f32) := by
  refine (dats m hO 0 c).arrAt_eq_of_covers 7 _ (covers7 (adm m hO)) fun t hf y => ?_
  have ht : t.val < 120 := t.isLt
  show (dats m hO 0 c).after 7 t y = result a0 a1 x w1 b1 w2 b2 ((((cfgM m hO).win 7).blk t).view.emb y)
  rw [after0_7]
  obtain ⟨r, s, l, hy⟩ := block_split y
  subst hy
  rw [out_at m hO c t ht a0 a1 x w1 b1 w2 b2 h0 h1 h2 h3 h4 h5 h6 (he _) r s l]
  refine Eq.trans (result_at a0 a1 x w1 b1 w2 b2 ⟨t.val, ht⟩ r s l (he _) (by show t.val * 6144 + (8 * r.val + s.val) < 737280; omega)).symm ?_
  refine congrArg (result a0 a1 x w1 b1 w2 b2) ?_
  exact (emb7 (adm m hO) t ht r s l).symm

end Cert.ExpertsIdeal.Gen
-- ==== Proof.ExpertsReference.lean ====
/- The expert call's reference, read at an entry: an expert's two layers of a token. -/
module
public import proofs.«01_k».proof.Proof.ExpertsLayers
public import proofs.«01_k».proof.Proof.ExpertsValue
public import proofs.«01_k».proof.Proof.Gen.ExpertsReferenceIdeal.Run
public import Idealize.ShloMosaic.Lib.Pointwise

@[expose] public section

set_option maxRecDepth 16384

noncomputable section

namespace Cert.ExpertsRef

open Idealize.ShloMosaic Idealize.ShloMosaic.TcCoe Idealize.SL.Sem

section Rows
variable {α : Type}

/-- Rows of a matrix taken at given numbers: the printed gather's dimensions. -/
abbrev rows2 (N B C : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- A taken row is the row at its number, clamped into range. -/
theorem rows2_at {N B C w : Nat} (hN : 0 < N) (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (j : Fin C) :
    Host.gather (rows2 N B C wf) x idx (ix2 b j) = x (ix2 ⟨min (idx (ix2 b 0)).toInt.toNat (N - 1), by omega⟩ j) := by
  unfold Host.gather
  congr 1
  funext a
  refine Fin.ext ?_
  show (rows2 N B C wf).start (ix2 b j) idx a + (rows2 N B C wf).batchCoord (ix2 b j) a + (rows2 N B C wf).offCoord (ix2 b j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows2 N B C wf).startIndexMap from List.mem_singleton.mpr rfl)]
    have hsi : (rows2 N B C wf).siIdx (ix2 b j) ⟨List.idxOf (0 : Fin 2) (rows2 N B C wf).startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · have h : ¬ (1 : Fin 2) ∈ (rows2 N B C wf).startIndexMap := fun h => absurd (congrArg Fin.val (List.mem_singleton.mp h)) (show ¬ (1 : Nat) = 0 by decide)
    unfold GatherDims.start
    rw [dif_neg h]
    simp only [Nat.zero_add]
    rfl

/-- Matrices of a stack taken at given numbers: the printed gather's dimensions. -/
abbrev rows3 (N B C D : Nat) (wf : GatherDims.WF ⟨3, ![N, C, D]⟩ ⟨2, ![B, 1]⟩ ⟨3, ![B, C, D]⟩ [1, 2] [0] [] [0] [] 1 ![1, C, D]) :
    GatherDims ⟨3, ![N, C, D]⟩ ⟨2, ![B, 1]⟩ ⟨3, ![B, C, D]⟩ where
  offsetDims := [1, 2]
  collapsedSliceDims := [0]
  operandBatchingDims := []
  startIndicesBatchingDims := []
  startIndexMap := [0]
  indexVectorDim := 1
  sliceSizes := ![1, C, D]
  wf := wf

/-- A taken matrix is the one at its number, clamped into range. -/
theorem rows3_at {N B C D w : Nat} (hN : 0 < N)
    (wf : GatherDims.WF ⟨3, ![N, C, D]⟩ ⟨2, ![B, 1]⟩ ⟨3, ![B, C, D]⟩ [1, 2] [0] [] [0] [] 1 ![1, C, D])
    (x : (⟨3, ![N, C, D]⟩ : Shape).Idx → α) (idx : IVec ⟨2, ![B, 1]⟩ w) (b : Fin B) (i : Fin C) (j : Fin D) :
    Host.gather (rows3 N B C D wf) x idx (ix3 b i j) = x (ix3 ⟨min (idx (ix2 b 0)).toInt.toNat (N - 1), by omega⟩ i j) := by
  unfold Host.gather
  congr 1
  funext a
  refine Fin.ext ?_
  show (rows3 N B C D wf).start (ix3 b i j) idx a + (rows3 N B C D wf).batchCoord (ix3 b i j) a + (rows3 N B C D wf).offCoord (ix3 b i j) a = _
  rw [GatherDims.batchCoord_eq_zero _ _ _ List.not_mem_nil]
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (rows3 N B C D wf).startIndexMap from List.mem_singleton.mpr rfl)]
    have hsi : (rows3 N B C D wf).siIdx (ix3 b i j) ⟨List.idxOf (0 : Fin 3) (rows3 N B C D wf).startIndexMap,
        List.idxOf_lt_length_iff.2 (List.mem_singleton.mpr rfl)⟩ = ix2 b 0 := by
      funext k; refine Fin.ext ?_
      match k with
      | ⟨0, _⟩ => rfl
      | ⟨1, _⟩ => rfl
    rw [hsi]
    rfl
  · have h : ¬ (1 : Fin 3) ∈ (rows3 N B C D wf).startIndexMap := fun h => absurd (congrArg Fin.val (List.mem_singleton.mp h)) (show ¬ (1 : Nat) = 0 by decide)
    unfold GatherDims.start
    rw [dif_neg h]
    simp only [Nat.zero_add]
    rfl
  · have h : ¬ (2 : Fin 3) ∈ (rows3 N B C D wf).startIndexMap := fun h => absurd (congrArg Fin.val (List.mem_singleton.mp h)) (show ¬ (2 : Nat) = 0 by decide)
    unfold GatherDims.start
    rw [dif_neg h]
    simp only [Nat.zero_add]
    rfl

end Rows

section Terms
open Cert.ExpertsReferenceIdeal Cert.ExpertsReferenceIdeal.Gen

/-- The first layer before its activation, of the gathered weights and biases. -/
def pre (x : FVec Ideal S92160x1024 .f32) (g1 : FVec Ideal S120x1024x2048 .f32) (h1 : FVec Ideal S120x2048 .f32) :
    FVec Ideal S120x768x2048 .f32 :=
  addf (Host.dotGeneral dot_S120x768x1024_S120x1024x2048_S120x768x2048_2_1_1_2_0_0 none (shapeCast _ x shapeCasts_S92160x1024_S120x768x1024) g1) (broadcastInDim S120x768x2048 ![0, 1, 2] bcast_S120x1x2048_S120x768x2048_0_1_2 (broadcastInDim S120x1x2048 ![0, 2] bcast_S120x2048_S120x1x2048_0_2 h1))

/-- The activation. -/
def hid (a : FVec Ideal S120x768x2048 .f32) : FVec Ideal S120x768x1024 .f32 :=
  mulf (mulf (minimumf (Host.slice S120x768x1024 ![0, 0, 0] ![1, 1, 2] a slicesBy_S120x768x2048_S120x768x1024_0s1_0s1_0s2) (broadcastInDim S120x768x1024 ![] bcast_S_S120x768x1024 (constant S_ .f32 0x40E00000#32))) (Host.divf (broadcastInDim S120x768x1024 ![] bcast_S_S120x768x1024 (constant S_ .f32 0x3F800000#32)) (addf (broadcastInDim S120x768x1024 ![] bcast_S_S120x768x1024 (constant S_ .f32 0x3F800000#32)) (Host.exp (Host.negf (mulf (broadcastInDim S120x768x1024 ![] bcast_S_S120x768x1024 (constant S_ .f32 0x3FD9DB23#32)) (minimumf (Host.slice S120x768x1024 ![0, 0, 0] ![1, 1, 2] a slicesBy_S120x768x2048_S120x768x1024_0s1_0s1_0s2) (broadcastInDim S120x768x1024 ![] bcast_S_S120x768x1024 (constant S_ .f32 0x40E00000#32))))))))) (addf (minimumf (broadcastInDim S120x768x1024 ![] bcast_S_S120x768x1024 (id (constant S_ .f32 0x40E00000#32))) (maximumf (broadcastInDim S120x768x1024 ![] bcast_S_S120x768x1024 (id (constant S_ .f32 0xC0E00000#32))) (Host.slice S120x768x1024 ![0, 0, 1] ![1, 1, 2] a slicesBy_S120x768x2048_S120x768x1024_0s1_0s1_1s2))) (broadcastInDim S120x768x1024 ![] bcast_S_S120x768x1024 (constant S_ .f32 0x3F800000#32)))

/-- The result, of the gathered weights and biases. -/
def out (a1 : IVec S1 32) (x : FVec Ideal S92160x1024 .f32) (g1 : FVec Ideal S120x1024x2048 .f32) (h1 : FVec Ideal S120x2048 .f32)
    (g2 : FVec Ideal S120x1024x1024 .f32) (h2 : FVec Ideal S120x1024 .f32) : FVec Ideal S737280x128 .f32 :=
  shapeCast _ (select (broadcastInDim S120x768x1024 ![0, 1, 2] bcast_S120x1x1_S120x768x1024_0_1_2 (broadcastInDim S120x1x1 ![0] bcast_S120_S120x1x1_0 (cmpi .slt (iotaInDim S120 32 0) (broadcastInDim S120 ![] bcast_S_S120 (shapeCast _ a1 shapeCasts_S1_S_))))) (addf (Host.dotGeneral dot_S120x768x1024_S120x1024x1024_S120x768x1024_2_1_1_2_0_0 none (hid (pre x g1 h1)) g2) (broadcastInDim S120x768x1024 ![0, 1, 2] bcast_S120x1x1024_S120x768x1024_0_1_2 (broadcastInDim S120x1x1024 ![0, 2] bcast_S120x1024_S120x1x1024_0_2 h2))) (broadcastInDim S120x768x1024 ![] bcast_S_S120x768x1024 (id (constant S_ .f32 0x00000000#32)))) shapeCasts_S120x768x1024_S737280x128

/-- The first layer before its activation, at an entry. -/
theorem pre_at (x : FVec Ideal S92160x1024 .f32) (g1 : FVec Ideal S120x1024x2048 .f32) (h1 : FVec Ideal S120x2048 .f32)
    (b : Fin 120) (r : Fin 768) (f : Fin 2048) :
    pre x g1 h1 (ix3 b r f) = ∑ d : Fin 1024, x (ix2 ⟨b.val * 768 + r.val, by omega⟩ d) * g1 (ix3 b d f) + h1 (ix2 b f) := by
  pointwise [pre]

/-- The activation, at an entry. -/
theorem hid_at (a : FVec Ideal S120x768x2048 .f32) (b : Fin 120) (r : Fin 768) (j : Fin 1024) :
    hid a (ix3 b r j) = Cert.ExpertsIdeal.Gen.act (min (a (ix3 b r ⟨2 * j.val, by omega⟩)) (Ideal.ofBits .f32 0x40E00000#32))
      (a (ix3 b r ⟨2 * j.val + 1, by omega⟩)) := by
  pointwise [hid]
  have e : (⟨1 + 2 * j.val, by omega⟩ : Fin 2048) = ⟨2 * j.val + 1, by omega⟩ := Fin.ext (Nat.add_comm _ _)
  rw [e]
  rfl

/-- The result, at an entry of a block: the block's row if the block is used, else zero. -/
theorem out_at (a1 : IVec S1 32) (x : FVec Ideal S92160x1024 .f32) (g1 : FVec Ideal S120x1024x2048 .f32) (h1 : FVec Ideal S120x2048 .f32)
    (g2 : FVec Ideal S120x1024x1024 .f32) (h2 : FVec Ideal S120x1024 .f32) (b : Fin 120) (r : Fin 768) (s : Fin 8) (l : Fin 128) :
    out a1 x g1 h1 g2 h2 (ix2 ⟨b.val * 6144 + (8 * r.val + s.val), by omega⟩ l) =
      if (b.val : Int) < (a1 (ix1 (n0 := 1) 0)).toInt then
        ∑ j : Fin 1024, hid (pre x g1 h1) (ix3 b r j) * g2 (ix3 b j (Cert.ExpertsIdeal.Gen.lane s l)) + h2 (ix2 b (Cert.ExpertsIdeal.Gen.lane s l))
      else 0 := by
  pointwise [out]
  have e : (⟨(b.val * 6144 + (8 * r.val + s.val)) % 8 * 128 + l.val, by omega⟩ : Fin 1024) = Cert.ExpertsIdeal.Gen.lane s l := by
    refine Fin.ext ?_
    show (b.val * 6144 + (8 * r.val + s.val)) % 8 * 128 + l.val = 128 * s.val + l.val
    omega
  rw [e]
  have hb : (BitVec.ofNat 32 b.val).toInt = b.val := by
    have := BitVec.toInt_eq_toNat_cond (BitVec.ofNat 32 b.val)
    rw [BitVec.toNat_ofNat] at this
    split at this <;> omega
  unfold Scalar.select
  refine ite_congr (propext ?_) (fun _ => rfl) (fun _ => ?_)
  · refine Iff.trans ?_ (Iff.of_eq (congrArg (· < (a1 (ix1 (n0 := 1) 0)).toInt) hb))
    show BitVec.ofBool (BitVec.slt _ _) = 1#1 ↔ _
    rw [BitVec.slt]
    by_cases h : (BitVec.ofNat 32 b.val).toInt < (a1 (ix1 (n0 := 1) 0)).toInt
    · simp [h]
    · simp [h]
  · exact Ideal.ofBits_zero_f32

/-- A block's expert's number, read signed and clamped, is itself. -/
theorem clamp_eq (a0 : IVec S120 32) (he : ∀ i, (a0 i).toNat < 32) (b : Fin 120) :
    min ((broadcastInDim S120x1 ![0] bcast_S120_S120x1_0 a0 : IVec S120x1 32) (ix2 b 0)).toInt.toNat (32 - 1) = (a0 (ix1 (n0 := 120) b)).toNat := by
  have e : (broadcastInDim S120x1 ![0] bcast_S120_S120x1_0 a0 : IVec S120x1 32) (ix2 b 0) = a0 (ix1 (n0 := 120) b) := by
    pointwise
  rw [e]
  have h := he (ix1 (n0 := 120) b)
  have h' := BitVec.toInt_eq_toNat_cond (a0 (ix1 (n0 := 120) b))
  split at h' <;> omega

variable (a0 : IVec S120 32) (he : ∀ i, (a0 i).toNat < 32)

theorem take_w1 (w1 : FVec Ideal S1x32x1024x2048 .f32) (b : Fin 120) (d : Fin 1024) (f : Fin 2048) :
    (Host.gather gather_S32x1024x2048_S120x1_S120x1024x2048_12_0_n_n_0_1_110242048
      (shapeCast _ w1 shapeCasts_S1x32x1024x2048_S32x1024x2048) (broadcastInDim S120x1 ![0] bcast_S120_S120x1_0 a0) : FVec Ideal S120x1024x2048 .f32)
      (ix3 b d f) = w1 (ix4 0 ⟨(a0 (ix1 (n0 := 120) b)).toNat, he _⟩ d f) := by
  refine (rows3_at (by decide) _ _ _ b d f).trans ?_
  rw [show (⟨_, _⟩ : Fin 32) = ⟨(a0 (ix1 (n0 := 120) b)).toNat, he _⟩ from Fin.ext (clamp_eq a0 he b)]
  pointwise

theorem take_w2 (w2 : FVec Ideal S1x32x1024x1024 .f32) (b : Fin 120) (d f : Fin 1024) :
    (Host.gather gather_S32x1024x1024_S120x1_S120x1024x1024_12_0_n_n_0_1_110241024
      (shapeCast _ w2 shapeCasts_S1x32x1024x1024_S32x1024x1024) (broadcastInDim S120x1 ![0] bcast_S120_S120x1_0 a0) : FVec Ideal S120x1024x1024 .f32)
      (ix3 b d f) = w2 (ix4 0 ⟨(a0 (ix1 (n0 := 120) b)).toNat, he _⟩ d f) := by
  refine (rows3_at (by decide) _ _ _ b d f).trans ?_
  rw [show (⟨_, _⟩ : Fin 32) = ⟨(a0 (ix1 (n0 := 120) b)).toNat, he _⟩ from Fin.ext (clamp_eq a0 he b)]
  pointwise

theorem take_b1 (b1 : FVec Ideal S1x32x2048 .f32) (b : Fin 120) (f : Fin 2048) :
    (Host.gather gather_S32x2048_S120x1_S120x2048_1_0_n_n_0_1_12048
      (shapeCast _ b1 shapeCasts_S1x32x2048_S32x2048) (broadcastInDim S120x1 ![0] bcast_S120_S120x1_0 a0) : FVec Ideal S120x2048 .f32)
      (ix2 b f) = b1 (ix3 0 ⟨(a0 (ix1 (n0 := 120) b)).toNat, he _⟩ f) := by
  refine (rows2_at (by decide) _ _ _ b f).trans ?_
  rw [show (⟨_, _⟩ : Fin 32) = ⟨(a0 (ix1 (n0 := 120) b)).toNat, he _⟩ from Fin.ext (clamp_eq a0 he b)]
  pointwise

theorem take_b2 (b2 : FVec Ideal S1x32x1024 .f32) (b : Fin 120) (f : Fin 1024) :
    (Host.gather gather_S32x1024_S120x1_S120x1024_1_0_n_n_0_1_11024
      (shapeCast _ b2 shapeCasts_S1x32x1024_S32x1024) (broadcastInDim S120x1 ![0] bcast_S120_S120x1_0 a0) : FVec Ideal S120x1024 .f32)
      (ix2 b f) = b2 (ix3 0 ⟨(a0 (ix1 (n0 := 120) b)).toNat, he _⟩ f) := by
  refine (rows2_at (by decide) _ _ _ b f).trans ?_
  rw [show (⟨_, _⟩ : Fin 32) = ⟨(a0 (ix1 (n0 := 120) b)).toNat, he _⟩ from Fin.ext (clamp_eq a0 he b)]
  pointwise

/-- An entry of the result lies in a block, in an eighth of a row. -/
theorem entry_split (i : S737280x128.Idx) : ∃ (b : Fin 120) (r : Fin 768) (s : Fin 8) (l : Fin 128),
    i = ix2 ⟨b.val * 6144 + (8 * r.val + s.val), by omega⟩ l := by
  have h : (i 0).val < 737280 := (i 0).isLt
  refine ⟨⟨(i 0).val / 6144, by omega⟩, ⟨(i 0).val % 6144 / 8, by omega⟩, ⟨(i 0).val % 8, by omega⟩, i 1, ?_⟩
  funext a
  match a with
  | ⟨0, _⟩ =>
    refine Fin.ext ?_
    show (i 0).val = (i 0).val / 6144 * 6144 + (8 * ((i 0).val % 6144 / 8) + (i 0).val % 8)
    omega
  | ⟨1, _⟩ => rfl

/-- Where the experts' numbers are in range, the reference's result is the result of its arguments. -/
theorem res_eq (m : (ℓ : Loc nD τ sig) → Buf (Elt Ideal) ℓ) (c : Dev nD) (he : ∀ i, ((m ((c.tc : Thread nD τ).loc main_arg0) : IVec S120 32) i).toNat < 32) :
    Value.res_main_v40 m c = Cert.ExpertsIdeal.Gen.result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  funext i
  obtain ⟨b, r, s, l, rfl⟩ := entry_split i
  refine Eq.trans ?_ (Cert.ExpertsIdeal.Gen.result_at _ _ _ _ _ _ _ b r s l (he _) _).symm
  refine Eq.trans (b := out _ _ _ _ _ _ _) (by unfold Value.res_main_v40; rfl) ((out_at _ _ _ _ _ _ b r s l).trans ?_)
  refine ite_congr rfl (fun _ => ?_) (fun _ => rfl)
  unfold Cert.ExpertsIdeal.Gen.tokenOut Cert.ExpertsIdeal.Gen.expert
  refine congrArg₂ (· + ·) (Finset.sum_congr rfl fun j _ => ?_) (take_b2 _ he _ b _)
  refine congrArg₂ (· * ·) ((hid_at _ b r j).trans ?_) (take_w2 _ he _ b j _)
  unfold Cert.ExpertsIdeal.Gen.gate Cert.ExpertsIdeal.Gen.lin
  rw [pre_at, pre_at, take_b1 _ he, take_b1 _ he]
  refine congrArg₂ Cert.ExpertsIdeal.Gen.act (congrArg₂ min (congrArg₂ (· + ·) (Finset.sum_congr rfl fun d _ => ?_) rfl) rfl)
    (congrArg₂ (· + ·) (Finset.sum_congr rfl fun d _ => ?_) rfl)
  · rw [take_w1 _ he]
  · rw [take_w1 _ he]

end Terms

end Cert.ExpertsRef

end
-- ==== Proof.ExpertsAlgebraic.lean ====
/- The expert call and its reference end with the same array, where the precondition holds. -/
module
public import proofs.«01_k».proof.Defs
public import proofs.«01_k».proof.Proof.Experts
public import proofs.«01_k».proof.Proof.ExpertsValue
public import proofs.«01_k».proof.Proof.ExpertsReference

@[expose] public section

set_option maxRecDepth 16384

noncomputable section

namespace Cert.ExpertsRun

open Idealize.ShloMosaic Idealize.ShloMosaic.TcCoe Idealize.SL.Sem

section
open Cert.ExpertsIdeal Cert.ExpertsIdeal.Gen

variable (m : (ℓ : Loc nD τ sig) → Buf (Elt Ideal) ℓ) (ρ : Dev nD → PrngReg)

/-- The run leaves the result's array with every block written back. -/
theorem run_array (hO : Ok m) : θ_run defs (onTc (τ := τ) (main (F := Ideal))) ⟨m, fun _ => 0, ρ⟩ (fun r => ∀ c : Dev nD,
    r.2.mem ((c.tc : Thread nD τ).loc main_v21) = (dats m hO 0 c).arrAt 7 (cfgM m hO).N) :=
  (θ_run defs _ _).mono (fun _ h c => (h c).1 7) (run_main m ρ hO)

end

/-- The kernel and the reference end with the same array, where the precondition holds. -/
theorem algebraic : algebraic_ExpertsIdeal_ExpertsReferenceIdeal (hExpertsIdeal := Cert.ExpertsIdeal.Gen.facts)
    (hExpertsReferenceIdeal := Cert.ExpertsReferenceIdeal.Gen.facts) (hPre_experts_in_range := Cert.Pre_experts_in_range.Gen.facts) := by
  intro m ρ m' ρ' hpre hag
  have hO := Cert.ExpertsIdeal.Gen.ok_of_pre m hpre
  have he := fun c => (Cert.ExpertsIdeal.Gen.ranges_of_pre _ _ _ _ _ _ _ (congrFun (hpre c) ix0)).1
  refine ⟨fun c => Cert.ExpertsIdeal.Gen.result
    (m ((c.tc : Thread Cert.ExpertsIdeal.nD Cert.ExpertsIdeal.τ).loc Cert.ExpertsIdeal.main_arg0))
    (m ((c.tc : Thread Cert.ExpertsIdeal.nD Cert.ExpertsIdeal.τ).loc Cert.ExpertsIdeal.main_arg1))
    (m ((c.tc : Thread Cert.ExpertsIdeal.nD Cert.ExpertsIdeal.τ).loc Cert.ExpertsIdeal.main_arg2))
    (m ((c.tc : Thread Cert.ExpertsIdeal.nD Cert.ExpertsIdeal.τ).loc Cert.ExpertsIdeal.main_arg3))
    (m ((c.tc : Thread Cert.ExpertsIdeal.nD Cert.ExpertsIdeal.τ).loc Cert.ExpertsIdeal.main_arg4))
    (m ((c.tc : Thread Cert.ExpertsIdeal.nD Cert.ExpertsIdeal.τ).loc Cert.ExpertsIdeal.main_arg5))
    (m ((c.tc : Thread Cert.ExpertsIdeal.nD Cert.ExpertsIdeal.τ).loc Cert.ExpertsIdeal.main_arg6)),
    (θ_run _ _ _).mono (fun _ h c => ⟨(h.1 c).trans ?_, h.2 c⟩) (θ_run_and (run_array m ρ hO) (Cert.ExpertsIdeal.Gen.unchanged m ρ hO)),
    (θ_run _ _ _).mono (fun _ h c => ⟨(h c).1.trans ?_, (h c).2⟩) (Cert.ExpertsReferenceIdeal.Value.run m' ρ')⟩
  · exact Cert.ExpertsIdeal.Gen.final m hO c _ _ _ _ _ _ _ rfl rfl rfl rfl rfl rfl rfl (he c)
  · obtain ⟨e0, e1, e2, e3, e4, e5, e6⟩ := hag c
    refine (Cert.ExpertsRef.res_eq m' c ?_).trans ?_
    · rw [e0]
      exact he c
    · rw [e0, e1, e2, e3, e4, e5, e6]

end Cert.ExpertsRun

end
-- ==== Proof.ProjRuns.lean ====
module

public import proofs.«01_k».proof.Proof.Gen.ProjIdeal.Launch
public import proofs.«01_k».proof.Proof.Gen.ProjIdeal.Skeleton
public import proofs.«01_k».proof.Proof.Gen.ProjIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_ProjIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32)) 0#32) = 1#1
/-- It holds at the points ≡ 0 (mod 2) — decided over the grid. -/
theorem hcond0_0 : ∀ t : Fin cfg0.N, cond0_0 (grid0.coords t) ↔ t.val % 2 = 0 :=
  (by decide +kernel : ∀ t : Fin grid0.N, cond0_0 (grid0.coords t) ↔ t.val % 2 = 0)

/-! ## The kernel body on any staging memrefs: a subtype the run finds -/

/-- One staging buffer of output window 6, through which its contents are stated (`View.read_writes_of_cover`: the
    choice does not matter). -/
abbrev VO0_6 : View sig .tc .vmem S1024x512 .bf16 := (Memref.whole cc0_stg6_0 : Memref sig .tc .vmem S1024x512 .bf16).view
/-- One staging buffer of output window 7, through which its contents are stated (`View.read_writes_of_cover`: the
    choice does not matter). -/
abbrev VO0_7 : View sig .tc .vmem S1x16x512 .f32 := (Memref.whole cc0_stg7_0 : Memref sig .tc .vmem S1x16x512 .f32).view
/-- One staging buffer of output window 8, through which its contents are stated (`View.read_writes_of_cover`: the
    choice does not matter). -/
abbrev VO0_8 : View sig .tc .vmem S1024x512 .f32 := (Memref.whole cc0_stg8_0 : Memref sig .tc .vmem S1024x512 .f32).view
/-- One staging buffer of output window 9, through which its contents are stated (`View.read_writes_of_cover`: the
    choice does not matter). -/
abbrev VO0_9 : View sig .tc .vmem S4096x128 .f32 := (Memref.whole cc0_stg9_0 : Memref sig .tc .vmem S4096x128 .f32).view
/-- One staging buffer of output window 10, through which its contents are stated (`View.read_writes_of_cover`: the
    choice does not matter). -/
abbrev VO0_10 : View sig .tc .vmem S4096x128 .f32 := (Memref.whole cc0_stg10_0 : Memref sig .tc .vmem S4096x128 .f32).view
/-- One staging buffer of output window 11, through which its contents are stated (`View.read_writes_of_cover`: the
    choice does not matter). -/
abbrev VO0_11 : View sig .tc .vmem S1024x512 .bf16 := (Memref.whole cc0_stg11_0 : Memref sig .tc .vmem S1024x512 .bf16).view
/-- One staging buffer of output window 12, through which its contents are stated (`View.read_writes_of_cover`: the
    choice does not matter). -/
abbrev VO0_12 : View sig .tc .vmem S2x512x512 .bf16 := (Memref.whole cc0_stg12_0 : Memref sig .tc .vmem S2x512x512 .bf16).view
/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4096x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4096x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x512x512 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S16x512 .f32 := Memref.whole cc0_scratch0
/-- The scratch `arg14` the kernel carries between points, as a view: what it holds is stated through it. -/
abbrev VS0_0 : View sig .tc .vmem S16x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.ProjIdeal.Gen

end
-- ==== Proof.ProjRunA.lean ====
module

public import proofs.«01_k».proof.Proof.ProjRuns

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0, 2, … 14: 8 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) :
    Σ' (L6 : List (View.Piece (Elt F) S1024x512 .bf16)), Σ' (L7 : List (View.Piece (Elt F) S1x16x512 .f32)), Σ' (L8 : List (View.Piece (Elt F) S1024x512 .f32)), Σ' (L9 : List (View.Piece (Elt F) S4096x128 .f32)), Σ' (L10 : List (View.Piece (Elt F) S4096x128 .f32)), Σ' (L11 : List (View.Piece (Elt F) S1024x512 .bf16)), Σ' (L12 : List (View.Piece (Elt F) S2x512x512 .bf16)), { LS0 : List (View.Piece (Elt F) S16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_inproj_pool_prompt i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_inproj_pool_prompt_eq_skeleton]; unfold cc0_inproj_pool_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.ProjIdeal.Gen

end
-- ==== Proof.ProjRunB.lean ====
module

public import proofs.«01_k».proof.Proof.ProjRunA

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 3, … 15: 8 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) :
    Σ' (L6 : List (View.Piece (Elt F) S1024x512 .bf16)), Σ' (L7 : List (View.Piece (Elt F) S1x16x512 .f32)), Σ' (L8 : List (View.Piece (Elt F) S1024x512 .f32)), Σ' (L9 : List (View.Piece (Elt F) S4096x128 .f32)), Σ' (L10 : List (View.Piece (Elt F) S4096x128 .f32)), Σ' (L11 : List (View.Piece (Elt F) S1024x512 .bf16)), Σ' (L12 : List (View.Piece (Elt F) S2x512x512 .bf16)), { LS0 : List (View.Piece (Elt F) S16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f LS0)) -∗ K ⟨⟩))
          ⊢ wp frame (wpE (defs₀ (F := F)) Variants.none c none) E (cc0_inproj_pool_prompt i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_inproj_pool_prompt_eq_skeleton]; unfold cc0_inproj_pool_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg14.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact HS0

end Cert.ProjIdeal.Gen

end
-- ==== Proof.ProjFrame.lean ====
module

public import proofs.«01_k».proof.Proof.ProjRunB
public import Idealize.ShloMosaic.Lib.Claim
public import Mathlib.Tactic.IntervalCases

@[expose] public section

-- membership in a rectangle of production extents (`View.cover_of_tiled`): the elaborator's structural look
-- recurses once per coordinate of the long axes
set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- A row of a block of keys or values lies in the strided store of its remainder by four. -/
theorem stride_mem (y : S4096x128.Idx) (s : Nat) (e : (y 0).val % 4 = s) (inb) (sp) :
    y ∈ ((⟨(⟨![s, 0], S1024x128.size, ![4, 1], inb⟩ : LoadRect S4096x128), sp⟩ : Rect S4096x128)).set := by
  have h0 : (y 0).val < 4096 := (y 0).isLt
  have h1 : (y 1).val < 128 := (y 1).isLt
  refine (LoadRect.mem_set _).mpr fun a => ?_
  fin_cases a
  · exact ⟨(y 0).val / 4, by show _ < 1024; omega, by show (y 0).val = s + 4 * ((y 0).val / 4); omega⟩
  · exact ⟨(y 1).val, h1, by show (y 1).val = 0 + 1 * (y 1).val; omega⟩

/-- Four strided stores, one for each remainder by four, cover a block of keys or values. -/
theorem cover_of_strides {E : EltTy → Type} (L : List (View.Piece E S4096x128 .f32))
    (h : ∃ i0 s0 i1 s1 i2 s2 i3 s3, L.map Sigma.fst = [(⟨(⟨![3, 0], S1024x128.size, ![4, 1], i3⟩ : LoadRect S4096x128), s3⟩ : Rect S4096x128),
      ⟨⟨![2, 0], S1024x128.size, ![4, 1], i2⟩, s2⟩, ⟨⟨![1, 0], S1024x128.size, ![4, 1], i1⟩, s1⟩,
      ⟨⟨![0, 0], S1024x128.size, ![4, 1], i0⟩, s0⟩]) (y : S4096x128.Idx) : ∃ pc ∈ L, y ∈ pc.1.set := by
  obtain ⟨i0, s0, i1, s1, i2, s2, i3, s3, h⟩ := h
  have hy : (y 0).val % 4 < 4 := Nat.mod_lt _ (by decide)
  have key : ∃ r ∈ L.map Sigma.fst, y ∈ r.set := by
    rw [h]
    generalize e : (y 0).val % 4 = s at hy
    interval_cases s
    · exact ⟨_, List.mem_cons_of_mem _ (List.mem_cons_of_mem _ (List.mem_cons_of_mem _ List.mem_cons_self)), stride_mem y 0 e _ _⟩
    · exact ⟨_, List.mem_cons_of_mem _ (List.mem_cons_of_mem _ List.mem_cons_self), stride_mem y 1 e _ _⟩
    · exact ⟨_, List.mem_cons_of_mem _ List.mem_cons_self, stride_mem y 2 e _ _⟩
    · exact ⟨_, List.mem_cons_self, stride_mem y 3 e _ _⟩
  obtain ⟨r, hr, hy⟩ := key
  obtain ⟨pc, hp, rfl⟩ := List.mem_map.mp hr
  exact ⟨pc, hp, hy⟩

/-- Case A's pieces for output 6 tile its block (4 stores of `S1024x128`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 S1024x128.size (by sl_kernel_rfl) y

/-- What case A leaves in output 6's staging buffer: its pieces read back over junk. -/
def out0_A_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S1024x512 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1)

/-- Case A's pieces for output 7 tile its block (1 store of `S1x16x512`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S1x16x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 S1x16x512.size (by sl_kernel_rfl) y

/-- What case A leaves in output 7's staging buffer: its pieces read back over junk. -/
def out0_A_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S1x16x512 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1)

/-- Case A's pieces for output 8 tile its block (1 store of `S1024x512`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 S1024x512.size (by sl_kernel_rfl) y

/-- What case A leaves in output 8's staging buffer: its pieces read back over junk. -/
def out0_A_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S1024x512 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1)

/-- Case A's pieces for output 9 cover its block: every fourth row from each of the first four on. -/
theorem cover0_A_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1, y ∈ pc.1.set :=
  cover_of_strides (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 ⟨by decide, by decide, by decide, by decide, by decide, by decide, by decide, by decide, by sl_kernel_rfl⟩ y

/-- What case A leaves in output 9's staging buffer: its pieces read back over junk. -/
def out0_A_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S4096x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1)

/-- Case A's pieces for output 10 cover its block: every fourth row from each of the first four on. -/
theorem cover0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1, y ∈ pc.1.set :=
  cover_of_strides (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 ⟨by decide, by decide, by decide, by decide, by decide, by decide, by decide, by decide, by sl_kernel_rfl⟩ y

/-- What case A leaves in output 10's staging buffer: its pieces read back over junk. -/
def out0_A_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S4096x128 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1)

/-- Case A's pieces for output 11 tile its block (1 store of `S1024x512`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1 S1024x512.size (by sl_kernel_rfl) y

/-- What case A leaves in output 11's staging buffer: its pieces read back over junk. -/
def out0_A_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S1024x512 .bf16 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1)

/-- Case A's pieces for output 12 tile its block (2 stores of `S1x512x512`, checked by the kernel's evaluation: Lib/Ring.lean `Piece.tiledL`, linear in the pieces, through a loop's `@[irreducible]` trip theorem too), so they cover it. -/
theorem cover0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S2x512x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1 S1x512x512.size (by sl_kernel_rfl) y

/-- What case A leaves in output 12's staging buffer: its pieces read back over junk. -/
def out0_A_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S2x512x512 .bf16 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.1)

/-- Case A's pieces for scratch `arg14`, which the kernel carries between points, cover it: 2 pieces of `S16x512` tiling it (Lib/Ring.lean `Piece.tiledL`). -/
theorem scover0_A_0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (y : S16x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1 S16x512.size (by sl_kernel_rfl) y

/-- What case A leaves in scratch `arg14`: its pieces read back over junk. -/
def sout0_A_0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) : Vec F S16x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.2.2.1)

/-- Case B's pieces for output 6 tile its block (4 stores of `S1024x128`, checked by the kernel's evaluation: Lib/Ring.lean `Piece.tiledL`, linear in the pieces, through a loop's `@[irreducible]` trip theorem too), so they cover it. -/
theorem cover0_B_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).1 S1024x128.size (by sl_kernel_rfl) y

/-- What case B leaves in output 6's staging buffer: its pieces read back over junk. -/
def out0_B_6 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S1024x512 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).1)

/-- Case B's pieces for output 7 tile its block (1 store of `S1x16x512`, checked by the kernel's evaluation: Lib/Ring.lean `Piece.tiledL`, linear in the pieces, through a loop's `@[irreducible]` trip theorem too), so they cover it. -/
theorem cover0_B_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S1x16x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.1 S1x16x512.size (by sl_kernel_rfl) y

/-- What case B leaves in output 7's staging buffer: its pieces read back over junk. -/
def out0_B_7 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S1x16x512 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.1)

/-- Case B's pieces for output 8 tile its block (1 store of `S1024x512`, checked by the kernel's evaluation: Lib/Ring.lean `Piece.tiledL`, linear in the pieces, through a loop's `@[irreducible]` trip theorem too), so they cover it. -/
theorem cover0_B_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.1 S1024x512.size (by sl_kernel_rfl) y

/-- What case B leaves in output 8's staging buffer: its pieces read back over junk. -/
def out0_B_8 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S1024x512 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.1)

/-- Case B's pieces for output 9 cover its block: every fourth row from each of the first four on. -/
theorem cover0_B_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S4096x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.1, y ∈ pc.1.set :=
  cover_of_strides (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.1 ⟨by decide, by decide, by decide, by decide, by decide, by decide, by decide, by decide, by sl_kernel_rfl⟩ y

/-- What case B leaves in output 9's staging buffer: its pieces read back over junk. -/
def out0_B_9 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S4096x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.1)

/-- Case B's pieces for output 10 cover its block: every fourth row from each of the first four on. -/
theorem cover0_B_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S4096x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.1, y ∈ pc.1.set :=
  cover_of_strides (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.1 ⟨by decide, by decide, by decide, by decide, by decide, by decide, by decide, by decide, by sl_kernel_rfl⟩ y

/-- What case B leaves in output 10's staging buffer: its pieces read back over junk. -/
def out0_B_10 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S4096x128 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.1)

/-- Case B's pieces for output 11 tile its block (1 store of `S1024x512`, checked by the kernel's evaluation: Lib/Ring.lean `Piece.tiledL`, linear in the pieces, through a loop's `@[irreducible]` trip theorem too), so they cover it. -/
theorem cover0_B_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.1 S1024x512.size (by sl_kernel_rfl) y

/-- What case B leaves in output 11's staging buffer: its pieces read back over junk. -/
def out0_B_11 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S1024x512 .bf16 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.1)

/-- Case B's pieces for output 12 tile its block (2 stores of `S1x512x512`, checked by the kernel's evaluation: Lib/Ring.lean `Piece.tiledL`, linear in the pieces, through a loop's `@[irreducible]` trip theorem too), so they cover it. -/
theorem cover0_B_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S2x512x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.1 S1x512x512.size (by sl_kernel_rfl) y

/-- What case B leaves in output 12's staging buffer: its pieces read back over junk. -/
def out0_B_12 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S2x512x512 .bf16 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.1)

/-- Case B's pieces for scratch `arg14`, which the kernel carries between points, cover it: 1 piece of `S16x512` tiling it (Lib/Ring.lean `Piece.tiledL`). -/
theorem scover0_B_0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) (y : S16x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.2.1 S16x512.size (by sl_kernel_rfl) y

/-- What case B leaves in scratch `arg14`: its pieces read back over junk. -/
def sout0_B_0 (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole) (hc0 : ¬cond0_0 i)
    (x0 : Vec F S1024x1024 .f32) (x1 : Vec F S1x1024 .f32) (x2 : Vec F S1024x2048 .bf16) (x3 : Vec F S512x1024 .bf16) (x4 : Vec F S4x128x128 .bf16) (x5 : Vec F S1x512 .f32) (xs0 : Vec F S16x512 .f32) : Vec F S16x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0).2.2.2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x512 .bf16 × Vec F S1x16x512 .f32 × Vec F S1024x512 .f32 × Vec F S4096x128 .f32 × Vec F S4096x128 .f32 × Vec F S1024x512 .bf16 × Vec F S2x512x512 .bf16 × Vec F S16x512 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 2 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.2.2.2.2.2)

/-- `outsAt0` at a point of case A: that case's contents. -/
theorem outsAt0_A (c : Dev nD) (t : Fin cfg0.N) (h0 : t.val % 2 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 2 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
    | ⟨9, _⟩ => (outsAt0 m c t.val t.isLt).2.2.2.1
    | ⟨10, _⟩ => (outsAt0 m c t.val t.isLt).2.2.2.2.1
    | ⟨11, _⟩ => (outsAt0 m c t.val t.isLt).2.2.2.2.2.1
    | ⟨12, _⟩ => (outsAt0 m c t.val t.isLt).2.2.2.2.2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]
theorem after0_9 (c : Dev nD) (t : Fin cfg0.N) : (dats m 0 c).after 9 t = (outsAt0 m c t.val t.isLt).2.2.2.1 := by dsimp only [dats]
theorem after0_10 (c : Dev nD) (t : Fin cfg0.N) : (dats m 0 c).after 10 t = (outsAt0 m c t.val t.isLt).2.2.2.2.1 := by dsimp only [dats]
theorem after0_11 (c : Dev nD) (t : Fin cfg0.N) : (dats m 0 c).after 11 t = (outsAt0 m c t.val t.isLt).2.2.2.2.2.1 := by dsimp only [dats]
theorem after0_12 (c : Dev nD) (t : Fin cfg0.N) : (dats m 0 c).after 12 t = (outsAt0 m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  have hN : t.val < 16 := lt_of_lt_of_eq t.isLt (show cfg0.N = 16 from N_0)
  by_cases h0 : t.val % 2 = 0
  · by_cases hz : t.val = 0
    · rw [PhiS_castSucc m c t, PhiS_zero m c _ _ hz, PhiA0_eq]
      rw [outsAt0_A m c t h0]
      unfold out0_A_6 out0_A_7 out0_A_8 out0_A_9 out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_6 out0_A_7 out0_A_8 out0_A_9 out0_A_10 out0_A_11 out0_A_12 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _)
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_6 out0_B_7 out0_B_8 out0_B_9 out0_B_10 out0_B_11 out0_B_12 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_ProjIdeal`'s statement (Defs.lean) at any `F` — Proof.lean cites it at `Bits`:
    `theorem Cert.Proof.claim : Cert.Claim := ⟨Cert.ProjIdeal.Gen.facts, fun m ρ _ => Cert.ProjIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ProjIdeal.Gen

end
-- ==== Proof.ProjLayers.lean ====
/- What the projection's tile computes, at an entry. -/
module
public import proofs.«01_k».proof.Proof.Gen.ProjIdeal.Skeleton
public import Idealize.ShloMosaic.Lib.Pointwise

@[expose] public section

set_option maxRecDepth 16384

noncomputable section

namespace Cert.Proj

open Idealize.ShloMosaic Idealize.ShloMosaic.TcCoe

/-- A token's row over the root of its mean square, times the gains. -/
def nrm (x g : Fin 1024 → EReal) (k : Fin 1024) : EReal :=
  x k * Ideal.rsqrt (Ideal.div (∑ d, x d * x d) (Ideal.ofBits .f32 1149239296#32) + Ideal.ofBits .f32 897988541#32) * g k

/-- A token's normalized row times one column of the weights. -/
def prj (x g w : Fin 1024 → EReal) : EReal := ∑ d, nrm x g d * w d

/-- The pooling of one entry: the window's total over the count, less the token, projected and scaled. -/
def mix (tot u w : Fin 128 → EReal) (cnt s : EReal) : EReal := (∑ x, (Ideal.div (tot x) cnt - u x) * w x) * s

/-- The doubling of a trailing window's total: the totals of two adjacent windows added. -/
theorem dbl (u s : Nat → EReal) (w : Nat) (hs : ∀ r, w - 1 ≤ r → r < 1040 → s r = ∑ b ∈ Finset.range w, u (r - b))
    (r : Nat) (h : w + w - 1 ≤ r) (h0 : 0 < w) (hr : r < 1040) :
    s r + s ((r + 1040 - w) % 1040) = ∑ b ∈ Finset.range (w + w), u (r - b) := by
  have e : (r + 1040 - w) % 1040 = r - w := by omega
  rw [e, hs r (by omega) hr, hs (r - w) (by omega) (by omega), Finset.sum_range_add]
  refine congrArg (_ + ·) (Finset.sum_congr rfl fun b _ => congrArg u ?_)
  omega

/-- A token's projection on one column, by their numbers. -/
def P (x : Fin 8 → Fin 2048 → Fin 1024 → EReal) (g : Fin 1024 → EReal) (w : Fin 1024 → Fin 2048 → EReal) (n f : Nat) : EReal :=
  if h : n < 16384 ∧ f < 2048 then prj (x ⟨n / 2048, by omega⟩ ⟨n % 2048, by omega⟩) g (fun d => w d ⟨f, h.2⟩) else 0

/-- The projection at a token and a column in range. -/
theorem P_of (x : Fin 8 → Fin 2048 → Fin 1024 → EReal) (g : Fin 1024 → EReal) (w : Fin 1024 → Fin 2048 → EReal) (n f : Nat)
    (hn : n < 16384) (hf : f < 2048) (h1 : n / 2048 < 8) (h2 : n % 2048 < 2048) :
    prj (x ⟨n / 2048, h1⟩ ⟨n % 2048, h2⟩) g (fun d => w d ⟨f, hf⟩) = P x g w n f := by
  unfold P
  rw [dif_pos ⟨hn, hf⟩]

/-- How many tokens a window of group `e` holds at token `t` of a batch. -/
def cnt (e : Fin 4) (t : Nat) : EReal :=
  min ((2 ^ (e.val + 1) : ℝ) : EReal) (FloatOps.sitofp (F := Ideal) .f32 (BitVec.ofNat 32 t) + 1)

/-- A token's pooled entry: group `e`'s column `l`. -/
def poolEntry (p : Nat → Nat → EReal) (pw : Fin 4 → Fin 128 → Fin 128 → EReal) (s : EReal) (n : Nat) (e : Fin 4) (l : Fin 128) : EReal :=
  mix (fun x => ∑ b ∈ Finset.range (2 ^ (e.val + 1)), if b ≤ n % 2048 then p (n - b) (128 * e.val + x.val) else 0)
    (fun x => p n (128 * e.val + x.val)) (fun x => pw e x l) (cnt e (n % 2048)) s

/-- The sum over a window's mask is the sum over the window. -/
theorem window_sum (U : Nat → EReal) (t w : Nat) (ht : t < 2048) :
    ∑ x : Fin 2048, (U x.val * if x.val ≤ t ∧ t < x.val + w then 1 else 0) = ∑ b ∈ Finset.range w, if b ≤ t then U (t - b) else 0 := by
  rw [Fin.sum_univ_eq_sum_range (fun x => U x * if x ≤ t ∧ t < x + w then 1 else 0) 2048]
  simp only [mul_ite, mul_one, mul_zero]
  rw [← Finset.sum_filter, ← Finset.sum_filter]
  refine Finset.sum_nbij' (fun x => t - x) (fun b => t - b) ?_ ?_ ?_ ?_ ?_
  · intro x hx
    simp only [Finset.mem_filter, Finset.mem_range] at hx ⊢
    omega
  · intro x hx
    simp only [Finset.mem_filter, Finset.mem_range] at hx ⊢
    omega
  · intro x hx
    simp only [Finset.mem_filter, Finset.mem_range] at hx
    omega
  · intro x hx
    simp only [Finset.mem_filter, Finset.mem_range] at hx
    omega
  · intro x hx
    simp only [Finset.mem_filter, Finset.mem_range] at hx
    refine congrArg U ?_
    omega

/-- The word of two. -/
theorem two : Ideal.ofBits .f32 0x40000000#32 = ((2 : ℝ) : EReal) := by
  simp [Ideal.ofBits, Ideal.ieee, -EReal.coe_mul]; norm_num
/-- The word of four. -/
theorem fourr : Ideal.ofBits .f32 0x40800000#32 = ((4 : ℝ) : EReal) := by
  simp [Ideal.ofBits, Ideal.ieee, -EReal.coe_mul]; norm_num
/-- The word of eight. -/
theorem eight : Ideal.ofBits .f32 0x41000000#32 = ((8 : ℝ) : EReal) := by
  simp [Ideal.ofBits, Ideal.ieee, -EReal.coe_mul]; norm_num
/-- The word of sixteen. -/
theorem sixteen : Ideal.ofBits .f32 0x41800000#32 = ((16 : ℝ) : EReal) := by
  simp [Ideal.ofBits, Ideal.ieee, -EReal.coe_mul]; norm_num

end Cert.Proj

namespace Cert.ProjIdeal.Gen

open Idealize.ShloMosaic Idealize.ShloMosaic.TcCoe Cert.Proj

/-- Columns `o` to `o + 511` of the weights. -/
def cols (x2 : Vec Ideal S1024x2048 .bf16) (o : Nat) (ho : o + 512 ≤ 2048) : Vec Ideal S1024x512 .bf16 := fun y =>
  x2 (ix2 ⟨(y 0).val, (y 0).isLt⟩ ⟨o + (y 1).val, by have h : (y 1).val < 512 := (y 1).isLt; omega⟩)

/-- The normalized tile, at an entry. -/
theorem pay4_at (x0 : Vec Ideal S1024x1024 .f32) (x1 : Vec Ideal S1x1024 .f32) (r k : Fin 1024) :
    k0_pay4 x0 x1 (ix2 r k) = nrm (fun d => x0 (ix2 r d)) (fun d => x1 (ix2 0 d)) k := by
  pointwise [k0_pay4]
  rfl

/-- The pooling columns, at an entry. -/
theorem pay5_at (x0 : Vec Ideal S1024x1024 .f32) (x1 : Vec Ideal S1x1024 .f32) (x2 : Vec Ideal S1024x2048 .bf16) (o) (ho) (r : Fin 1024) (k : Fin 512) :
    k0_pay5 x0 x1 (cols x2 o ho) (ix2 r k) = prj (fun d => x0 (ix2 r d)) (fun d => x1 (ix2 0 d)) (fun d => x2 (ix2 d ⟨o + k.val, by omega⟩)) := by
  pointwise [k0_pay5]
  simp only [pay4_at]
  rfl

/-- The keys' columns, at an entry. -/
theorem pay7_at (x0 : Vec Ideal S1024x1024 .f32) (x1 : Vec Ideal S1x1024 .f32) (x2 : Vec Ideal S1024x2048 .bf16) (o) (ho) (r : Fin 1024) (k : Fin 512) :
    k0_pay7 x0 x1 (cols x2 o ho) (ix2 r k) = prj (fun d => x0 (ix2 r d)) (fun d => x1 (ix2 0 d)) (fun d => x2 (ix2 d ⟨o + k.val, by omega⟩)) := by
  pointwise [k0_pay7]
  simp only [pay4_at]
  rfl

/-- The values' columns, at an entry. -/
theorem pay8_at (x0 : Vec Ideal S1024x1024 .f32) (x1 : Vec Ideal S1x1024 .f32) (x2 : Vec Ideal S1024x2048 .bf16) (o) (ho) (r : Fin 1024) (k : Fin 512) :
    k0_pay8 x0 x1 (cols x2 o ho) (ix2 r k) = prj (fun d => x0 (ix2 r d)) (fun d => x1 (ix2 0 d)) (fun d => x2 (ix2 d ⟨o + k.val, by omega⟩)) := by
  pointwise [k0_pay8]
  simp only [pay4_at]
  rfl

/-- The scaled queries, at an entry. -/
theorem pay6_at (x0 : Vec Ideal S1024x1024 .f32) (x1 : Vec Ideal S1x1024 .f32) (x2 : Vec Ideal S1024x2048 .bf16) (o) (ho) (r : Fin 1024) (k : Fin 512) :
    k0_pay6 x0 x1 (cols x2 o ho) (ix2 r k) = prj (fun d => x0 (ix2 r d)) (fun d => x1 (ix2 0 d)) (fun d => x2 (ix2 d ⟨o + k.val, by omega⟩))
      * Ideal.ofBits .f32 1040187392#32 := by
  pointwise [k0_pay6]
  simp only [pay4_at]
  rfl

/-- The second half of the turned values, at an entry. -/
theorem pay3_at (xb : FVec Ideal S1024x1024 .bf16) (x3 : Vec Ideal S512x1024 .bf16) (r k : Fin 512) :
    k0_pay3 xb x3 (ix3 0 r k) = ∑ d, xb (ix2 ⟨512 + k.val, by omega⟩ d) * x3 (ix2 r d) := by
  pointwise [k0_pay3, k0_pay1]
  simp only [mul_comm]

/-- The first half of the turned values, at an entry. -/
theorem pay2_at (xb : FVec Ideal S1024x1024 .bf16) (x3 : Vec Ideal S512x1024 .bf16) (r k : Fin 512) :
    k0_pay2 xb x3 (ix3 0 r k) = ∑ d, xb (ix2 ⟨k.val, by omega⟩ d) * x3 (ix2 r d) := by
  pointwise [k0_pay2, k0_pay1]
  simp only [mul_comm]

/-- The carried rows are the tile's last sixteen. -/
theorem pay19_at (u : FVec Ideal S1024x512 .f32) (j : Fin 16) (l : Fin 512) :
    k0_pay19 u (ix2 j l) = u (ix2 ⟨1008 + j.val, by omega⟩ l) := by
  pointwise [k0_pay19]

/-- The last rows' block, at an entry. -/
theorem pay30_at (u : FVec Ideal S1024x512 .f32) (j : Fin 16) (l : Fin 512) :
    k0_pay30 u (ix3 0 j l) = u (ix2 ⟨1008 + j.val, by omega⟩ l) := by
  pointwise [k0_pay30]

/-- The first tile's carried rows are zero. -/
theorem pay17_at (j : Fin 16) (l : Fin 512) : (k0_pay17 : FVec Ideal S16x512 .f32) (ix2 j l) = 0 := by
  pointwise [k0_pay17]

/-- The keys by tokens, at an entry. -/
theorem pay31_at (u : FVec Ideal S1024x512 .f32) (r : Fin 1024) (l : Fin 512) :
    k0_pay31 u (ix2 r l) = u (ix2 r l) := by
  pointwise [k0_pay31]

/-- An array of extended rows added to itself one row down. -/
def add1 (E : FVec Ideal S1040x128 .f32) : FVec Ideal S1040x128 .f32 := addf E (dynamicRotate 0 1#32 none E rotates_S1040x128_d0)
/-- An array of extended rows added to itself two rows down. -/
def add2 (E : FVec Ideal S1040x128 .f32) : FVec Ideal S1040x128 .f32 := addf E (dynamicRotate 0 2#32 none E rotates_S1040x128_d0)
/-- An array of extended rows added to itself four rows down. -/
def add4 (E : FVec Ideal S1040x128 .f32) : FVec Ideal S1040x128 .f32 := addf E (dynamicRotate 0 4#32 none E rotates_S1040x128_d0)
/-- An array of extended rows added to itself eight rows down. -/
def add8 (E : FVec Ideal S1040x128 .f32) : FVec Ideal S1040x128 .f32 := addf E (dynamicRotate 0 8#32 none E rotates_S1040x128_d0)

/-- An extended row's entry by its number. -/
def nat (E : FVec Ideal S1040x128 .f32) (l : Fin 128) (n : Nat) : EReal := if h : n < 1040 then E (ix2 ⟨n, h⟩ l) else 0

/-- An extended row in range. -/
theorem nat_of (E : FVec Ideal S1040x128 .f32) (l : Fin 128) (n : Nat) (h : n < 1040) : nat E l n = E (ix2 ⟨n, h⟩ l) := dif_pos h

/-- The rows added to themselves 1 down, at an entry. -/
theorem add1_at (E : FVec Ideal S1040x128 .f32) (l : Fin 128) (n : Nat) (h : n < 1040) :
    nat (add1 E) l n = nat E l n + nat E l ((n + 1040 - 1) % 1040) := by
  rw [nat_of _ _ _ h, nat_of _ _ _ h, nat_of _ _ _ (Nat.mod_lt _ (by decide))]
  generalize hr : (⟨n, h⟩ : Fin 1040) = r
  obtain rfl : n = r.val := congrArg Fin.val hr
  pointwise [add1]

/-- The rows added to themselves 2 down, at an entry. -/
theorem add2_at (E : FVec Ideal S1040x128 .f32) (l : Fin 128) (n : Nat) (h : n < 1040) :
    nat (add2 E) l n = nat E l n + nat E l ((n + 1040 - 2) % 1040) := by
  rw [nat_of _ _ _ h, nat_of _ _ _ h, nat_of _ _ _ (Nat.mod_lt _ (by decide))]
  generalize hr : (⟨n, h⟩ : Fin 1040) = r
  obtain rfl : n = r.val := congrArg Fin.val hr
  pointwise [add2]

/-- The rows added to themselves 4 down, at an entry. -/
theorem add4_at (E : FVec Ideal S1040x128 .f32) (l : Fin 128) (n : Nat) (h : n < 1040) :
    nat (add4 E) l n = nat E l n + nat E l ((n + 1040 - 4) % 1040) := by
  rw [nat_of _ _ _ h, nat_of _ _ _ h, nat_of _ _ _ (Nat.mod_lt _ (by decide))]
  generalize hr : (⟨n, h⟩ : Fin 1040) = r
  obtain rfl : n = r.val := congrArg Fin.val hr
  pointwise [add4]

/-- The rows added to themselves 8 down, at an entry. -/
theorem add8_at (E : FVec Ideal S1040x128 .f32) (l : Fin 128) (n : Nat) (h : n < 1040) :
    nat (add8 E) l n = nat E l n + nat E l ((n + 1040 - 8) % 1040) := by
  rw [nat_of _ _ _ h, nat_of _ _ _ h, nat_of _ _ _ (Nat.mod_lt _ (by decide))]
  generalize hr : (⟨n, h⟩ : Fin 1040) = r
  obtain rfl : n = r.val := congrArg Fin.val hr
  pointwise [add8]

/-- A row is the total of its last 2. -/
theorem win1 (E : FVec Ideal S1040x128 .f32) (l : Fin 128) (n : Nat) (h1 : 1 ≤ n) (h : n < 1040) :
    nat (add1 E) l n = ∑ b ∈ Finset.range 2, nat E l (n - b) :=
  (add1_at E l n h).trans (dbl (nat E l) (nat E l) 1 (fun r _ _ => by simp) n h1 (by decide) h)

/-- A row is the total of its last 4. -/
theorem win2 (E : FVec Ideal S1040x128 .f32) (l : Fin 128) (n : Nat) (h1 : 3 ≤ n) (h : n < 1040) :
    nat (add2 (add1 E)) l n = ∑ b ∈ Finset.range 4, nat E l (n - b) :=
  (add2_at _ l n h).trans (dbl (nat E l) _ 2 (fun r h hr => win1 E l r h hr) n h1 (by decide) h)

/-- A row is the total of its last 8. -/
theorem win4 (E : FVec Ideal S1040x128 .f32) (l : Fin 128) (n : Nat) (h1 : 7 ≤ n) (h : n < 1040) :
    nat (add4 (add2 (add1 E))) l n = ∑ b ∈ Finset.range 8, nat E l (n - b) :=
  (add4_at _ l n h).trans (dbl (nat E l) _ 4 (fun r h hr => win2 E l r h hr) n h1 (by decide) h)

/-- A row is the total of its last 16. -/
theorem win8 (E : FVec Ideal S1040x128 .f32) (l : Fin 128) (n : Nat) (h1 : 15 ≤ n) (h : n < 1040) :
    nat (add8 (add4 (add2 (add1 E)))) l n = ∑ b ∈ Finset.range 16, nat E l (n - b) :=
  (add8_at _ l n h).trans (dbl (nat E l) _ 8 (fun r h hr => win4 E l r h hr) n h1 (by decide) h)

/-- One group's pooled entry. -/
theorem pay25_at (u v : FVec Ideal S1040x128 .f32) (w : FVec Ideal S1024x1 .f32) (cst) (pw : Vec Ideal S1x128x128 .bf16) (ps : Vec Ideal S1x128 .f32)
    (r : Fin 1024) (l : Fin 128) :
    k0_pay25 u v w cst pw ps (ix2 r l) = mix (fun x => nat v x (16 + r.val)) (fun x => nat u x (16 + r.val)) (fun x => pw (ix3 0 x l))
      (min cst (w (ix2 r 0))) (ps (ix2 0 l)) := by
  pointwise [k0_pay25]
  unfold mix
  simp only [nat_of _ _ _ (show 16 + r.val < 1040 by omega)]

/-- The extended rows of a group of the pooling heads. -/
def grp0 (ext : FVec Ideal S1040x512 .f32) : FVec Ideal S1040x128 .f32 := extractStridedSlice S1040x128 ![0, 0] ext slices_S1040x512_o0_0_S1040x128
/-- Group 1's columns of the extended rows. -/
def grp1 (ext : FVec Ideal S1040x512 .f32) : FVec Ideal S1040x128 .f32 := extractStridedSlice S1040x128 ![0, 128] ext slices_S1040x512_o0_128_S1040x128
/-- Group 2's columns of the extended rows. -/
def grp2 (ext : FVec Ideal S1040x512 .f32) : FVec Ideal S1040x128 .f32 := extractStridedSlice S1040x128 ![0, 256] ext slices_S1040x512_o0_256_S1040x128
/-- Group 3's columns of the extended rows. -/
def grp3 (ext : FVec Ideal S1040x512 .f32) : FVec Ideal S1040x128 .f32 := extractStridedSlice S1040x128 ![0, 384] ext slices_S1040x512_o0_384_S1040x128

/-- Group 0's columns, at an entry. -/
theorem grp0_at (ext : FVec Ideal S1040x512 .f32) (r : Fin 1040) (l : Fin 128) : grp0 ext (ix2 r l) = ext (ix2 r ⟨l.val, by omega⟩) := by
  pointwise [grp0]
/-- Group 1's columns, at an entry. -/
theorem grp1_at (ext : FVec Ideal S1040x512 .f32) (r : Fin 1040) (l : Fin 128) : grp1 ext (ix2 r l) = ext (ix2 r ⟨128 + l.val, by omega⟩) := by
  pointwise [grp1]
/-- Group 2's columns, at an entry. -/
theorem grp2_at (ext : FVec Ideal S1040x512 .f32) (r : Fin 1040) (l : Fin 128) : grp2 ext (ix2 r l) = ext (ix2 r ⟨256 + l.val, by omega⟩) := by
  pointwise [grp2]
/-- Group 3's columns, at an entry. -/
theorem grp3_at (ext : FVec Ideal S1040x512 .f32) (r : Fin 1040) (l : Fin 128) : grp3 ext (ix2 r l) = ext (ix2 r ⟨384 + l.val, by omega⟩) := by
  pointwise [grp3]

/-- A row's place in its batch, plus one. -/
theorem pay24_at (w : BitVec 32) (r : Fin 1024) :
    (k0_pay24 w : FVec Ideal S1024x1 .f32) (ix2 r 0) = FloatOps.sitofp (F := Ideal) .f32 (IntOp.addi (Scalar.muli w 1024#32) (BitVec.ofNat 32 r.val)) + 1 := by
  pointwise [k0_pay24, k0_pay20]

/-- The extended rows: the carried ones, then the tile's. -/
theorem pay18_at (u : FVec Ideal S1024x512 .f32) (s : Vec Ideal S16x512 .f32) (r : Fin 1040) (l : Fin 512) :
    k0_pay18 u s (ix2 r l) = if h : r.val < 16 then s (ix2 ⟨r.val, h⟩ l) else u (ix2 ⟨r.val - 16, by omega⟩ l) := by
  pointwise [k0_pay18]

/-- Group 0 by the one-group payload. -/
theorem pay21_eq (u : FVec Ideal S1024x512 .f32) (w : BitVec 32) (s : Vec Ideal S16x512 .f32) (pw : Vec Ideal S1x128x128 .bf16) (ps : Vec Ideal S1x128 .f32) :
    k0_pay21 u w s pw ps = k0_pay25 (grp0 (k0_pay18 u s)) (add1 (grp0 (k0_pay18 u s))) (k0_pay24 w) (Scalar.ofBits .f32 0x40000000#32) pw ps := rfl

/-- Group 1 by the one-group payload. -/
theorem pay25_eq (u : FVec Ideal S1024x512 .f32) (w : BitVec 32) (s : Vec Ideal S16x512 .f32) (cst) (pw : Vec Ideal S1x128x128 .bf16) (ps : Vec Ideal S1x128 .f32) :
    k0_pay25 (k0_pay22 u s) (k0_pay23 u s) (k0_pay24 w) cst pw ps = k0_pay25 (grp1 (k0_pay18 u s)) (add2 (add1 (grp1 (k0_pay18 u s)))) (k0_pay24 w) cst pw ps := rfl

/-- Group 2 by the one-group payload. -/
theorem pay28_eq (u : FVec Ideal S1040x512 .f32) (w : BitVec 32) (pw : Vec Ideal S1x128x128 .bf16) (ps : Vec Ideal S1x128 .f32) :
    k0_pay28 (k0_pay26 u (k0_pay20 w) pw) (k0_pay27 ps) = k0_pay25 (grp2 u) (add4 (add2 (add1 (grp2 u)))) (k0_pay24 w) (Scalar.ofBits .f32 0x41000000#32) pw ps := rfl

/-- Group 3 by the one-group payload. -/
theorem pay29_eq (u : FVec Ideal S1040x512 .f32) (w : BitVec 32) (pw : Vec Ideal S1x128x128 .bf16) (ps : Vec Ideal S1x128 .f32) :
    k0_pay29 u (k0_pay20 w) pw ps = k0_pay25 (grp3 u) (add8 (add4 (add2 (add1 (grp3 u))))) (k0_pay24 w) (Scalar.ofBits .f32 0x41800000#32) pw ps := rfl

end Cert.ProjIdeal.Gen

end
-- ==== Proof.ProjBlock.lean ====
/- What the projection's body leaves in the blocks of its results. -/
module
public import proofs.«01_k».proof.Proof.ProjFrame
public import proofs.«01_k».proof.Proof.ProjLayers
public import Idealize.ShloMosaic.Lib.Pointwise
public import Idealize.ShloMosaic.Lib.WholeRead
public import Idealize.ShloMosaic.Lib.Pipeline.ValueKit

@[expose] public section

set_option maxRecDepth 16384

noncomputable section

namespace Cert.ProjIdeal.Gen

open Idealize.ShloMosaic Idealize.ShloMosaic.TcCoe

/-- Stores whose payloads agree with one array and that cover the buffer leave that array. -/
theorem of_pieces {S : Shape} {e : EltTy} {M : Memref sig .tc .vmem S e} (f : M.view.ty.Contents (Elt Ideal))
    (L : List (View.Piece (Elt Ideal) S e)) (G : Vec Ideal S e) (hp : ∀ p ∈ L, ∀ x, p.2 x = G (p.1.emb x))
    (hc : ∀ y, ∃ p ∈ L, y ∈ p.1.set) : M.view.read (Elt Ideal) (M.view.writes (Elt Ideal) f L) = G := by
  rw [View.read_writes_eq_canon _ _ _ hc]
  funext y
  exact View.canon_apply_of_pieces G L hp y (hc y)

/-- One store of the whole of a buffer leaves its payload. -/
theorem full_store {S : Shape} {e : EltTy} {M : Memref sig .tc .vmem S e} (f : M.view.ty.Contents (Elt Ideal))
    (off : Fin S.rank → Nat) (ho : off = fun _ => 0) (inb) (w : Vec Ideal S e) :
    M.view.read (Elt Ideal) (M.view.writes (Elt Ideal) f [⟨Rect.unit (s := S) off S.size inb, w⟩]) = w := by
  rw [View.read_writes_eq_canon _ _ _ (fun y => ⟨_, List.mem_cons_self, View.mem_set_unit_zero ho inb y⟩)]
  exact View.canon_unit_zero ho _ _

/-- The whole tile's read. -/
theorem ld0 (x : Vec Ideal S1024x1024 .f32) : View.ld x (Rect.unit ![0, 0] ![1024, 1024] inb_S1024x1024_S1024x1024_0_0) = x :=
  View.ld_unit_zero (by decide) _ x
/-- The gains' read. -/
theorem ld1 (x : Vec Ideal S1x1024 .f32) : View.ld x (Rect.unit ![0, 0] ![1, 1024] inb_S1x1024_S1x1024_0_0) = x :=
  View.ld_unit_zero (by decide) _ x
/-- The values' weights' read. -/
theorem ld3 (x : Vec Ideal S512x1024 .bf16) : View.ld x (Rect.unit ![0, 0] ![512, 1024] inb_S512x1024_S512x1024_0_0) = x :=
  View.ld_unit_zero (by decide) _ x
/-- The carried rows' read. -/
theorem lds (x : Vec Ideal S16x512 .f32) : View.ld x (Rect.unit ![0, 0] ![16, 512] inb_S16x512_S16x512_0_0) = x :=
  View.ld_unit_zero (by decide) _ x
/-- The pooling columns' read. -/
theorem ldc0 (x2 : Vec Ideal S1024x2048 .bf16) : View.ld x2 (Rect.unit ![0, 0] ![1024, 512] inb_S1024x2048_S1024x512_0_0) = cols x2 0 (by decide) := by
  funext y
  refine congrArg x2 ?_
  funext a
  fin_cases a <;> refine Fin.ext ?_
  · show 0 + 1 * (y 0).val = (y 0).val
    omega
  · show 0 + 1 * (y 1).val = 0 + (y 1).val
    omega
/-- The queries' columns' read. -/
theorem ldc512 (x2 : Vec Ideal S1024x2048 .bf16) : View.ld x2 (Rect.unit ![0, 512] ![1024, 512] inb_S1024x2048_S1024x512_0_512) = cols x2 512 (by decide) := by
  funext y
  refine congrArg x2 ?_
  funext a
  fin_cases a <;> refine Fin.ext ?_
  · show 0 + 1 * (y 0).val = (y 0).val
    omega
  · show 512 + 1 * (y 1).val = 512 + (y 1).val
    omega
/-- The keys' columns' read. -/
theorem ldc1024 (x2 : Vec Ideal S1024x2048 .bf16) : View.ld x2 (Rect.unit ![0, 1024] ![1024, 512] inb_S1024x2048_S1024x512_0_1024) = cols x2 1024 (by decide) := by
  funext y
  refine congrArg x2 ?_
  funext a
  fin_cases a <;> refine Fin.ext ?_
  · show 0 + 1 * (y 0).val = (y 0).val
    omega
  · show 1024 + 1 * (y 1).val = 1024 + (y 1).val
    omega
/-- The values' columns' read. -/
theorem ldc1536 (x2 : Vec Ideal S1024x2048 .bf16) : View.ld x2 (Rect.unit ![0, 1536] ![1024, 512] inb_S1024x2048_S1024x512_0_1536) = cols x2 1536 (by decide) := by
  funext y
  refine congrArg x2 ?_
  funext a
  fin_cases a <;> refine Fin.ext ?_
  · show 0 + 1 * (y 0).val = (y 0).val
    omega
  · show 1536 + 1 * (y 1).val = 1536 + (y 1).val
    omega

/-- The pooling heads' columns of a tile. -/
def ub (x0 : Vec Ideal S1024x1024 .f32) (x1 : Vec Ideal S1x1024 .f32) (x2 : Vec Ideal S1024x2048 .bf16) : FVec Ideal S1024x512 .f32 :=
  k0_pay5 x0 x1 (cols x2 0 (by decide))
/-- The keys' columns of a tile. -/
def kb (x0 : Vec Ideal S1024x1024 .f32) (x1 : Vec Ideal S1x1024 .f32) (x2 : Vec Ideal S1024x2048 .bf16) : FVec Ideal S1024x512 .f32 :=
  k0_pay7 x0 x1 (cols x2 1024 (by decide))
/-- The values' columns of a tile. -/
def vb (x0 : Vec Ideal S1024x1024 .f32) (x1 : Vec Ideal S1x1024 .f32) (x2 : Vec Ideal S1024x2048 .bf16) : FVec Ideal S1024x512 .f32 :=
  k0_pay8 x0 x1 (cols x2 1536 (by decide))

/-- A tile's columns by heads: head `h` of token `r` on row `4 r + h`. -/
def byHead (Y : FVec Ideal S1024x512 .f32) : Vec Ideal S4096x128 .f32 := fun y =>
  Y (ix2 ⟨(y 0).val / 4, by have h : (y 0).val < 4096 := (y 0).isLt; omega⟩
    ⟨128 * ((y 0).val % 4) + (y 1).val, by have h : (y 1).val < 128 := (y 1).isLt; omega⟩)

/-- Head `s`'s columns are the rows `s`, `s + 4`, … -/
theorem byHead_strip (Y : FVec Ideal S1024x512 .f32) (s : Nat) (hs : s < 4) (n : Nat) (hn : n = 128 * s)
    (hsl : S1024x512.Slices ![0, n] S1024x128) (inb) (sp) (x : S1024x128.Idx) :
    extractStridedSlice S1024x128 ![0, n] Y hsl x
      = byHead Y ((⟨(⟨![s, 0], S1024x128.size, ![4, 1], inb⟩ : LoadRect S4096x128), sp⟩ : Rect S4096x128).emb x) := by
  subst hn
  unfold extractStridedSlice byHead
  refine congrArg Y ?_
  funext a
  have h0 : (x 0).val < 1024 := (x 0).isLt
  have h1 : (x 1).val < 128 := (x 1).isLt
  fin_cases a
  · refine Fin.ext ?_
    show 0 + (x 0).val = (s + 4 * (x 0).val) / 4
    omega
  · refine Fin.ext ?_
    show 128 * s + (x 1).val = 128 * ((s + 4 * (x 0).val) % 4) + (0 + 1 * (x 1).val)
    omega

/-- A tile's values transposed, in pieces of 512 tokens. -/
def vtb (xb : FVec Ideal S1024x1024 .bf16) (x3 : Vec Ideal S512x1024 .bf16) : Vec Ideal S2x512x512 .bf16 := fun y =>
  ∑ d, xb (ix2 ⟨512 * (y 0).val + (y 2).val, by
    have h : (y 0).val < 2 := (y 0).isLt
    have h' : (y 2).val < 512 := (y 2).isLt
    omega⟩ d) * x3 (ix2 ⟨(y 1).val, (y 1).isLt⟩ d)

/-- The second half of the turned values. -/
theorem vtb_1 (xb : FVec Ideal S1024x1024 .bf16) (x3 : Vec Ideal S512x1024 .bf16) (x : S1x512x512.Idx) :
    k0_pay3 xb x3 x = vtb xb x3 ((Rect.unit (s := S2x512x512) ![1, 0, 0] ![1, 512, 512] inb_S2x512x512_S1x512x512_1_0_0).emb x) := by
  obtain ⟨r, k, rfl⟩ : ∃ r k : Fin 512, x = ix3 0 r k := ⟨x 1, x 2, (ValueIdx.eq_ix3 x).trans (by rw [show x 0 = (0 : Fin 1) from Fin.ext (show (x 0).val = 0 from by have h : (x 0).val < 1 := (x 0).isLt; omega)]; rfl)⟩
  refine (pay3_at xb x3 r k).trans (Finset.sum_congr rfl fun d _ => congrArg₂ (fun a b => xb a * x3 b) ?_ ?_)
  · congr 1
    refine Fin.ext ?_
    show 512 + k.val = 512 * (1 + 1 * 0) + (0 + 1 * k.val)
    omega
  · congr 1
    refine Fin.ext ?_
    show r.val = 0 + 1 * r.val
    omega

/-- The first half of the turned values. -/
theorem vtb_0 (xb : FVec Ideal S1024x1024 .bf16) (x3 : Vec Ideal S512x1024 .bf16) (x : S1x512x512.Idx) :
    k0_pay2 xb x3 x = vtb xb x3 ((Rect.unit (s := S2x512x512) ![0, 0, 0] ![1, 512, 512] inb_S2x512x512_S1x512x512_0_0_0).emb x) := by
  obtain ⟨r, k, rfl⟩ : ∃ r k : Fin 512, x = ix3 0 r k := ⟨x 1, x 2, (ValueIdx.eq_ix3 x).trans (by rw [show x 0 = (0 : Fin 1) from Fin.ext (show (x 0).val = 0 from by have h : (x 0).val < 1 := (x 0).isLt; omega)]; rfl)⟩
  refine (pay2_at xb x3 r k).trans (Finset.sum_congr rfl fun d _ => congrArg₂ (fun a b => xb a * x3 b) ?_ ?_)
  · congr 1
    refine Fin.ext ?_
    show k.val = 512 * (0 + 1 * 0) + (0 + 1 * k.val)
    omega
  · congr 1
    refine Fin.ext ?_
    show r.val = 0 + 1 * r.val
    omega

/-- One group's projection matrix. -/
def pws (x4 : Vec Ideal S4x128x128 .bf16) (g : Fin 4) : Vec Ideal S1x128x128 .bf16 := fun y =>
  x4 (ix3 g ⟨(y 1).val, (y 1).isLt⟩ ⟨(y 2).val, (y 2).isLt⟩)
/-- One group's scales. -/
def pss (x5 : Vec Ideal S1x512 .f32) (o : Nat) (ho : o + 128 ≤ 512) : Vec Ideal S1x128 .f32 := fun y =>
  x5 (ix2 0 ⟨o + (y 1).val, by have h : (y 1).val < 128 := (y 1).isLt; omega⟩)

/-- Group 0's projection's read. -/
theorem ldp0 (x4 : Vec Ideal S4x128x128 .bf16) : View.ld x4 (Rect.unit ![0, 0, 0] ![1, 128, 128] inb_S4x128x128_S1x128x128_0_0_0) = pws x4 0 := by
  funext y
  refine congrArg x4 ?_
  have h : (y 0).val < 1 := (y 0).isLt
  funext a
  fin_cases a <;> refine Fin.ext ?_
  · show 0 + 1 * (y 0).val = 0
    omega
  · show 0 + 1 * (y 1).val = (y 1).val
    omega
  · show 0 + 1 * (y 2).val = (y 2).val
    omega
/-- Group 0's scales' read. -/
theorem lde0 (x5 : Vec Ideal S1x512 .f32) : View.ld x5 (Rect.unit ![0, 0] ![1, 128] inb_S1x512_S1x128_0_0) = pss x5 0 (by decide) := by
  funext y
  refine congrArg x5 ?_
  have h : (y 0).val < 1 := (y 0).isLt
  funext a
  fin_cases a <;> refine Fin.ext ?_
  · show 0 + 1 * (y 0).val = 0
    omega
  · show 0 + 1 * (y 1).val = 0 + (y 1).val
    omega
/-- Group 1's projection's read. -/
theorem ldp1 (x4 : Vec Ideal S4x128x128 .bf16) : View.ld x4 (Rect.unit ![1, 0, 0] ![1, 128, 128] inb_S4x128x128_S1x128x128_1_0_0) = pws x4 1 := by
  funext y
  refine congrArg x4 ?_
  have h : (y 0).val < 1 := (y 0).isLt
  funext a
  fin_cases a <;> refine Fin.ext ?_
  · show 1 + 1 * (y 0).val = 1
    omega
  · show 0 + 1 * (y 1).val = (y 1).val
    omega
  · show 0 + 1 * (y 2).val = (y 2).val
    omega
/-- Group 1's scales' read. -/
theorem lde1 (x5 : Vec Ideal S1x512 .f32) : View.ld x5 (Rect.unit ![0, 128] ![1, 128] inb_S1x512_S1x128_0_128) = pss x5 128 (by decide) := by
  funext y
  refine congrArg x5 ?_
  have h : (y 0).val < 1 := (y 0).isLt
  funext a
  fin_cases a <;> refine Fin.ext ?_
  · show 0 + 1 * (y 0).val = 0
    omega
  · show 128 + 1 * (y 1).val = 128 + (y 1).val
    omega
/-- Group 2's projection's read. -/
theorem ldp2 (x4 : Vec Ideal S4x128x128 .bf16) : View.ld x4 (Rect.unit ![2, 0, 0] ![1, 128, 128] inb_S4x128x128_S1x128x128_2_0_0) = pws x4 2 := by
  funext y
  refine congrArg x4 ?_
  have h : (y 0).val < 1 := (y 0).isLt
  funext a
  fin_cases a <;> refine Fin.ext ?_
  · show 2 + 1 * (y 0).val = 2
    omega
  · show 0 + 1 * (y 1).val = (y 1).val
    omega
  · show 0 + 1 * (y 2).val = (y 2).val
    omega
/-- Group 2's scales' read. -/
theorem lde2 (x5 : Vec Ideal S1x512 .f32) : View.ld x5 (Rect.unit ![0, 256] ![1, 128] inb_S1x512_S1x128_0_256) = pss x5 256 (by decide) := by
  funext y
  refine congrArg x5 ?_
  have h : (y 0).val < 1 := (y 0).isLt
  funext a
  fin_cases a <;> refine Fin.ext ?_
  · show 0 + 1 * (y 0).val = 0
    omega
  · show 256 + 1 * (y 1).val = 256 + (y 1).val
    omega
/-- Group 3's projection's read. -/
theorem ldp3 (x4 : Vec Ideal S4x128x128 .bf16) : View.ld x4 (Rect.unit ![3, 0, 0] ![1, 128, 128] inb_S4x128x128_S1x128x128_3_0_0) = pws x4 3 := by
  funext y
  refine congrArg x4 ?_
  have h : (y 0).val < 1 := (y 0).isLt
  funext a
  fin_cases a <;> refine Fin.ext ?_
  · show 3 + 1 * (y 0).val = 3
    omega
  · show 0 + 1 * (y 1).val = (y 1).val
    omega
  · show 0 + 1 * (y 2).val = (y 2).val
    omega
/-- Group 3's scales' read. -/
theorem lde3 (x5 : Vec Ideal S1x512 .f32) : View.ld x5 (Rect.unit ![0, 384] ![1, 128] inb_S1x512_S1x128_0_384) = pss x5 384 (by decide) := by
  funext y
  refine congrArg x5 ?_
  have h : (y 0).val < 1 := (y 0).isLt
  funext a
  fin_cases a <;> refine Fin.ext ?_
  · show 0 + 1 * (y 0).val = 0
    omega
  · show 384 + 1 * (y 1).val = 384 + (y 1).val
    omega

/-- Four groups of columns side by side. -/
def four (p0 p1 p2 p3 : FVec Ideal S1024x128 .bf16) : Vec Ideal S1024x512 .bf16 := fun y =>
  if h : (y 1).val < 128 then p0 (ix2 ⟨(y 0).val, (y 0).isLt⟩ ⟨(y 1).val, h⟩)
  else if h : (y 1).val < 256 then p1 (ix2 ⟨(y 0).val, (y 0).isLt⟩ ⟨(y 1).val - 128, by omega⟩)
  else if h : (y 1).val < 384 then p2 (ix2 ⟨(y 0).val, (y 0).isLt⟩ ⟨(y 1).val - 256, by omega⟩)
  else p3 (ix2 ⟨(y 0).val, (y 0).isLt⟩ ⟨(y 1).val - 384, by have h : (y 1).val < 512 := (y 1).isLt; omega⟩)

/-- Group 0's columns of the pooled block. -/
theorem four_0 (p0 p1 p2 p3 : FVec Ideal S1024x128 .bf16) (x : S1024x128.Idx) :
    p0 x = four p0 p1 p2 p3 ((Rect.unit (s := S1024x512) ![0, 0] ![1024, 128] inb_S1024x512_S1024x128_0_0).emb x) := by
  have h1 : (x 1).val < 128 := (x 1).isLt
  generalize he : (Rect.unit (s := S1024x512) ![0, 0] ![1024, 128] inb_S1024x512_S1024x128_0_0).emb x = z
  have e0 : (z 0).val = (x 0).val := by
    rw [← he]
    show 0 + 1 * (x 0).val = (x 0).val
    omega
  have e1 : (z 1).val = 0 + (x 1).val := by
    rw [← he]
    show 0 + 1 * (x 1).val = 0 + (x 1).val
    omega
  unfold four
  rw [dif_pos (by omega)]
  refine congrArg p0 ?_
  funext a
  fin_cases a
  · exact Fin.ext e0.symm
  · refine Fin.ext ?_
    show (x 1).val = (z 1).val
    omega

/-- Group 1's columns of the pooled block. -/
theorem four_1 (p0 p1 p2 p3 : FVec Ideal S1024x128 .bf16) (x : S1024x128.Idx) :
    p1 x = four p0 p1 p2 p3 ((Rect.unit (s := S1024x512) ![0, 128] ![1024, 128] inb_S1024x512_S1024x128_0_128).emb x) := by
  have h1 : (x 1).val < 128 := (x 1).isLt
  generalize he : (Rect.unit (s := S1024x512) ![0, 128] ![1024, 128] inb_S1024x512_S1024x128_0_128).emb x = z
  have e0 : (z 0).val = (x 0).val := by
    rw [← he]
    show 0 + 1 * (x 0).val = (x 0).val
    omega
  have e1 : (z 1).val = 128 + (x 1).val := by
    rw [← he]
    show 128 + 1 * (x 1).val = 128 + (x 1).val
    omega
  unfold four
  rw [dif_neg (by omega)]
  rw [dif_pos (by omega)]
  refine congrArg p1 ?_
  funext a
  fin_cases a
  · exact Fin.ext e0.symm
  · refine Fin.ext ?_
    show (x 1).val = (z 1).val - 128
    omega

/-- Group 2's columns of the pooled block. -/
theorem four_2 (p0 p1 p2 p3 : FVec Ideal S1024x128 .bf16) (x : S1024x128.Idx) :
    p2 x = four p0 p1 p2 p3 ((Rect.unit (s := S1024x512) ![0, 256] ![1024, 128] inb_S1024x512_S1024x128_0_256).emb x) := by
  have h1 : (x 1).val < 128 := (x 1).isLt
  generalize he : (Rect.unit (s := S1024x512) ![0, 256] ![1024, 128] inb_S1024x512_S1024x128_0_256).emb x = z
  have e0 : (z 0).val = (x 0).val := by
    rw [← he]
    show 0 + 1 * (x 0).val = (x 0).val
    omega
  have e1 : (z 1).val = 256 + (x 1).val := by
    rw [← he]
    show 256 + 1 * (x 1).val = 256 + (x 1).val
    omega
  unfold four
  rw [dif_neg (by omega)]
  rw [dif_neg (by omega)]
  rw [dif_pos (by omega)]
  refine congrArg p2 ?_
  funext a
  fin_cases a
  · exact Fin.ext e0.symm
  · refine Fin.ext ?_
    show (x 1).val = (z 1).val - 256
    omega

/-- Group 3's columns of the pooled block. -/
theorem four_3 (p0 p1 p2 p3 : FVec Ideal S1024x128 .bf16) (x : S1024x128.Idx) :
    p3 x = four p0 p1 p2 p3 ((Rect.unit (s := S1024x512) ![0, 384] ![1024, 128] inb_S1024x512_S1024x128_0_384).emb x) := by
  have h1 : (x 1).val < 128 := (x 1).isLt
  generalize he : (Rect.unit (s := S1024x512) ![0, 384] ![1024, 128] inb_S1024x512_S1024x128_0_384).emb x = z
  have e0 : (z 0).val = (x 0).val := by
    rw [← he]
    show 0 + 1 * (x 0).val = (x 0).val
    omega
  have e1 : (z 1).val = 384 + (x 1).val := by
    rw [← he]
    show 384 + 1 * (x 1).val = 384 + (x 1).val
    omega
  unfold four
  rw [dif_neg (by omega)]
  rw [dif_neg (by omega)]
  rw [dif_neg (by omega)]
  refine congrArg p3 ?_
  funext a
  fin_cases a
  · exact Fin.ext e0.symm
  · refine Fin.ext ?_
    show (x 1).val = (z 1).val - 384
    omega

/-- A tile's pooled heads, from the rows of the tile and the sixteen rows before it. -/
def poolb (u : FVec Ideal S1024x512 .f32) (w : BitVec 32) (s : Vec Ideal S16x512 .f32) (x4 : Vec Ideal S4x128x128 .bf16) (x5 : Vec Ideal S1x512 .f32) :
    Vec Ideal S1024x512 .bf16 :=
  four (k0_pay21 u w s (pws x4 0) (pss x5 0 (by decide)))
    (k0_pay25 (k0_pay22 u s) (k0_pay23 u s) (k0_pay24 w) (Scalar.ofBits .f32 0x40800000#32) (pws x4 1) (pss x5 128 (by decide)))
    (k0_pay28 (k0_pay26 (k0_pay18 u s) (k0_pay20 w) (pws x4 2)) (k0_pay27 (pss x5 256 (by decide))))
    (k0_pay29 (k0_pay18 u s) (k0_pay20 w) (pws x4 3) (pss x5 384 (by decide)))

section
variable (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S512x1024 .bf16) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S1024x512 .bf16) (harg7 : arg7.IsWhole) (arg8 : Memref sig .tc .vmem S1x16x512 .f32) (harg8 : arg8.IsWhole) (arg9 : Memref sig .tc .vmem S1024x512 .f32) (harg9 : arg9.IsWhole) (arg10 : Memref sig .tc .vmem S4096x128 .f32) (harg10 : arg10.IsWhole) (arg11 : Memref sig .tc .vmem S4096x128 .f32) (harg11 : arg11.IsWhole) (arg12 : Memref sig .tc .vmem S1024x512 .bf16) (harg12 : arg12.IsWhole) (arg13 : Memref sig .tc .vmem S2x512x512 .bf16) (harg13 : arg13.IsWhole) (arg14 : Memref sig .tc .vmem S16x512 .f32) (harg14 : arg14.IsWhole)
  (x0 : Vec Ideal S1024x1024 .f32) (x1 : Vec Ideal S1x1024 .f32) (x2 : Vec Ideal S1024x2048 .bf16) (x3 : Vec Ideal S512x1024 .bf16) (x4 : Vec Ideal S4x128x128 .bf16) (x5 : Vec Ideal S1x512 .f32) (xs0 : Vec Ideal S16x512 .f32)

/-- At a batch's first tile, output 8 is the scaled queries. -/
theorem outA8 (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay6 x0 x1 (cols x2 512 (by decide)) := by
  unfold out0_A_8 kernelRun0_A
  dsimp only
  refine (full_store _ _ (by decide) _ _).trans ?_
  simp only [View.readAt_eq_ld, harg1.read_unread, harg2.read_unread, harg3.read_unread, harg4.read_unread, harg5.read_unread, harg6.read_unread, ld0, ld1, ld3, ldc0, ldc512, ldc1024, ldc1536]
  try rfl

/-- At a batch's first tile, output 7 is the last rows. -/
theorem outA7 (hc0 : cond0_0 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay30 (ub x0 x1 x2) := by
  unfold out0_A_7 kernelRun0_A
  dsimp only
  refine (full_store _ _ (by decide) _ _).trans ?_
  unfold kernelRun0_A.sl.r_1
  simp only [View.readAt_eq_ld, harg1.read_unread, harg2.read_unread, harg3.read_unread, harg4.read_unread, harg5.read_unread, harg6.read_unread, ld0, ld1, ld3, ldc0, ldc512, ldc1024, ldc1536]
  try rfl

/-- At a batch's first tile, output 11 is the keys by tokens. -/
theorem outA11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay31 (kb x0 x1 x2) := by
  unfold out0_A_11 kernelRun0_A
  dsimp only
  refine (full_store _ _ (by decide) _ _).trans ?_
  unfold kernelRun0_A.sl.r_12
  try unfold kernelRun0_A.sl.r_2
  simp only [View.readAt_eq_ld, harg1.read_unread, harg2.read_unread, harg3.read_unread, harg4.read_unread, harg5.read_unread, harg6.read_unread, ld0, ld1, ld3, ldc0, ldc512, ldc1024, ldc1536]
  try rfl

/-- At a batch's first tile, output 12 is the turned values. -/
theorem outA12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = vtb (k0_pay4 x0 x1) x3 := by
  unfold out0_A_12
  refine of_pieces _ _ _ ?_ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5)
  unfold kernelRun0_A
  dsimp only
  unfold kernelRun0_A.sl.r
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl
  · exact vtb_1 _ _
  · exact vtb_0 _ _

/-- At a batch's first tile, output 9 is the keys by heads. -/
theorem outA9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = byHead (kb x0 x1 x2) := by
  unfold out0_A_9
  refine of_pieces _ _ _ ?_ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5)
  unfold kernelRun0_A
  dsimp only
  unfold kernelRun0_A.sl.r_4 kernelRun0_A.sl.r_2
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl | rfl | rfl
  · exact fun x => byHead_strip (kb x0 x1 x2) 3 (by decide) 384 rfl (by decide) _ _ x
  · exact fun x => byHead_strip (kb x0 x1 x2) 2 (by decide) 256 rfl (by decide) _ _ x
  · exact fun x => byHead_strip (kb x0 x1 x2) 1 (by decide) 128 rfl (by decide) _ _ x
  · exact fun x => byHead_strip (kb x0 x1 x2) 0 (by decide) 0 rfl (by decide) _ _ x

/-- At a batch's first tile, output 10 is the values by heads. -/
theorem outA10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = byHead (vb x0 x1 x2) := by
  unfold out0_A_10
  refine of_pieces _ _ _ ?_ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5)
  unfold kernelRun0_A
  dsimp only
  unfold kernelRun0_A.sl.r_3
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl | rfl | rfl
  · exact fun x => byHead_strip (vb x0 x1 x2) 3 (by decide) 384 rfl (by decide) _ _ x
  · exact fun x => byHead_strip (vb x0 x1 x2) 2 (by decide) 256 rfl (by decide) _ _ x
  · exact fun x => byHead_strip (vb x0 x1 x2) 1 (by decide) 128 rfl (by decide) _ _ x
  · exact fun x => byHead_strip (vb x0 x1 x2) 0 (by decide) 0 rfl (by decide) _ _ x

/-- What a first tile leaves in the carried rows. -/
theorem scrA (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = k0_pay19 (ub x0 x1 x2) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5)]
  unfold kernelRun0_A
  dsimp only
  refine (View.canon_cons_unit_zero (by decide) _ _ _).trans ?_
  unfold kernelRun0_A.sl.r_1
  simp only [View.readAt_eq_ld, harg1.read_unread, harg2.read_unread, harg3.read_unread, harg4.read_unread, harg5.read_unread, harg6.read_unread, ld0, ld1, ld3, ldc0, ldc512, ldc1024, ldc1536]
  rfl

/-- The half's word at a first tile. -/
theorem wordA : kernelRun0_A.sl.v57 i = BitVec.ofNat 32 ((i 0).val % 2) := by
  first | unfold kernelRun0_A.sl.v57 kernelRun0_A.sl.v55 kernelRun0_A.sl.v56 kernelRun0_A.sl.v54 kernelRun0_A.sl.v53 kernelRun0_A.sl.v52 kernelRun0_A.sl.v51 kernelRun0_A.sl.v50 | unfold kernelRun0_A.sl.v57 kernelRun0_A.sl.v55 kernelRun0_A.sl.v56 kernelRun0_A.sl.v54 kernelRun0_A.sl.v52 kernelRun0_A.sl.v51 kernelRun0_A.sl.v50
  have h : (i 0).val < 16 := (i 0).isLt
  generalize (i 0).val = n at h ⊢
  interval_cases n <;> rfl

/-- A first tile reads back the zeros it stored. -/
theorem carryA : kernelRun0_A.sl.v61 (F := Ideal) c arg14 = k0_pay17 (F := Ideal) := by
  unfold kernelRun0_A.sl.v61 kernelRun0_A.sl.HS0_1
  exact View.readCov_cons_toLoadRect _ _ _ _

/-- At a batch's first tile, output 6 is the pooled block. -/
theorem outA6 (hc0 : cond0_0 i) : out0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 = poolb (ub x0 x1 x2) (BitVec.ofNat 32 ((i 0).val % 2)) (k0_pay17 (F := Ideal)) x4 x5 := by
  unfold out0_A_6
  refine of_pieces _ _ _ ?_ (cover0_A_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5)
  unfold kernelRun0_A
  dsimp only
  unfold kernelRun0_A.sl.r_10 kernelRun0_A.sl.r_11 kernelRun0_A.sl.r_5 kernelRun0_A.sl.r_6 kernelRun0_A.sl.r_7 kernelRun0_A.sl.r_8 kernelRun0_A.sl.r_9 kernelRun0_A.sl.r_1
  simp only [View.readAt_eq_ld, harg1.read_unread, harg2.read_unread, harg3.read_unread, harg4.read_unread, harg5.read_unread, harg6.read_unread, ld0, ld1, ld3, ldc0, ldc512, ldc1024, ldc1536, harg14.read_unread, lds, ldp0, ldp1, ldp2, ldp3, lde0, lde1, lde2, lde3]
  rw [wordA i]
  rw [carryA]
  intro p hp
  simp only [List.mem_cons, List.not_mem_nil, or_false] at hp
  rcases hp with rfl | rfl | rfl | rfl
  · exact fun x => four_3 _ _ _ _ x
  · exact fun x => four_2 _ _ _ _ x
  · exact fun x => four_1 _ _ _ _ x
  · exact fun x => four_0 _ _ _ _ x

/-- At a batch's second tile, output 8 is the scaled queries. -/
theorem outB8 (hc0 : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = k0_pay6 x0 x1 (cols x2 512 (by decide)) := by
  unfold out0_B_8 kernelRun0_B
  dsimp only
  refine (full_store _ _ (by decide) _ _).trans ?_
  simp only [View.readAt_eq_ld, harg1.read_unread, harg2.read_unread, harg3.read_unread, harg4.read_unread, harg5.read_unread, harg6.read_unread, ld0, ld1, ld3, ldc0, ldc512, ldc1024, ldc1536]
  try rfl

/-- At a batch's second tile, output 7 is the last rows. -/
theorem outB7 (hc0 : ¬cond0_0 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = k0_pay30 (ub x0 x1 x2) := by
  unfold out0_B_7 kernelRun0_B
  dsimp only
  refine (full_store _ _ (by decide) _ _).trans ?_
  unfold kernelRun0_B.sl.r_1
  simp only [View.readAt_eq_ld, harg1.read_unread, harg2.read_unread, harg3.read_unread, harg4.read_unread, harg5.read_unread, harg6.read_unread, ld0, ld1, ld3, ldc0, ldc512, ldc1024, ldc1536]
  try rfl

/-- At a batch's second tile, output 11 is the keys by tokens. -/
theorem outB11 (hc0 : ¬cond0_0 i) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = k0_pay31 (kb x0 x1 x2) := by
  unfold out0_B_11 kernelRun0_B
  dsimp only
  refine (full_store _ _ (by decide) _ _).trans ?_
  unfold kernelRun0_B.sl.r_12
  try unfold kernelRun0_B.sl.r_2
  simp only [View.readAt_eq_ld, harg1.read_unread, harg2.read_unread, harg3.read_unread, harg4.read_unread, harg5.read_unread, harg6.read_unread, ld0, ld1, ld3, ldc0, ldc512, ldc1024, ldc1536]
  try rfl

/-- At a batch's second tile, output 12 is the turned values. -/
theorem outB12 (hc0 : ¬cond0_0 i) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = vtb (k0_pay4 x0 x1) x3 := by
  unfold out0_B_12
  refine of_pieces _ _ _ ?_ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0)
  unfold kernelRun0_B
  dsimp only
  unfold kernelRun0_B.sl.r
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl
  · exact vtb_1 _ _
  · exact vtb_0 _ _

/-- At a batch's second tile, output 9 is the keys by heads. -/
theorem outB9 (hc0 : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = byHead (kb x0 x1 x2) := by
  unfold out0_B_9
  refine of_pieces _ _ _ ?_ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0)
  unfold kernelRun0_B
  dsimp only
  unfold kernelRun0_B.sl.r_4 kernelRun0_B.sl.r_2
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl | rfl | rfl
  · exact fun x => byHead_strip (kb x0 x1 x2) 3 (by decide) 384 rfl (by decide) _ _ x
  · exact fun x => byHead_strip (kb x0 x1 x2) 2 (by decide) 256 rfl (by decide) _ _ x
  · exact fun x => byHead_strip (kb x0 x1 x2) 1 (by decide) 128 rfl (by decide) _ _ x
  · exact fun x => byHead_strip (kb x0 x1 x2) 0 (by decide) 0 rfl (by decide) _ _ x

/-- At a batch's second tile, output 10 is the values by heads. -/
theorem outB10 (hc0 : ¬cond0_0 i) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = byHead (vb x0 x1 x2) := by
  unfold out0_B_10
  refine of_pieces _ _ _ ?_ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0)
  unfold kernelRun0_B
  dsimp only
  unfold kernelRun0_B.sl.r_3
  simp only [View.readAt_eq_ld, harg1.read_unread, harg2.read_unread, harg3.read_unread, harg4.read_unread, harg5.read_unread, harg6.read_unread, ld0, ld1, ld3, ldc0, ldc512, ldc1024, ldc1536]
  intro p hp
  simp only [List.mem_cons, List.not_mem_nil, or_false] at hp
  rcases hp with rfl | rfl | rfl | rfl
  · exact fun x => byHead_strip (vb x0 x1 x2) 3 (by decide) 384 rfl (by decide) _ _ x
  · exact fun x => byHead_strip (vb x0 x1 x2) 2 (by decide) 256 rfl (by decide) _ _ x
  · exact fun x => byHead_strip (vb x0 x1 x2) 1 (by decide) 128 rfl (by decide) _ _ x
  · exact fun x => byHead_strip (vb x0 x1 x2) 0 (by decide) 0 rfl (by decide) _ _ x

/-- What a second tile leaves in the carried rows. -/
theorem scrB (hc0 : ¬cond0_0 i) : sout0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = k0_pay19 (ub x0 x1 x2) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0)]
  unfold kernelRun0_B
  dsimp only
  refine (View.canon_cons_unit_zero (by decide) _ _ _).trans ?_
  unfold kernelRun0_B.sl.r_1
  simp only [View.readAt_eq_ld, harg1.read_unread, harg2.read_unread, harg3.read_unread, harg4.read_unread, harg5.read_unread, harg6.read_unread, ld0, ld1, ld3, ldc0, ldc512, ldc1024, ldc1536]
  rfl

/-- The half's word at a second tile. -/
theorem wordB : kernelRun0_B.sl.v57 i = BitVec.ofNat 32 ((i 0).val % 2) := by
  first | unfold kernelRun0_B.sl.v57 kernelRun0_B.sl.v55 kernelRun0_B.sl.v56 kernelRun0_B.sl.v54 kernelRun0_B.sl.v53 kernelRun0_B.sl.v52 kernelRun0_B.sl.v51 kernelRun0_B.sl.v50 | unfold kernelRun0_B.sl.v57 kernelRun0_B.sl.v55 kernelRun0_B.sl.v56 kernelRun0_B.sl.v54 kernelRun0_B.sl.v52 kernelRun0_B.sl.v51 kernelRun0_B.sl.v50
  have h : (i 0).val < 16 := (i 0).isLt
  generalize (i 0).val = n at h ⊢
  interval_cases n <;> rfl

/-- At a batch's second tile, output 6 is the pooled block. -/
theorem outB6 (hc0 : ¬cond0_0 i) : out0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 = poolb (ub x0 x1 x2) (BitVec.ofNat 32 ((i 0).val % 2)) xs0 x4 x5 := by
  unfold out0_B_6
  refine of_pieces _ _ _ ?_ (cover0_B_6 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0)
  unfold kernelRun0_B
  dsimp only
  unfold kernelRun0_B.sl.r_10 kernelRun0_B.sl.r_11 kernelRun0_B.sl.r_5 kernelRun0_B.sl.r_6 kernelRun0_B.sl.r_7 kernelRun0_B.sl.r_8 kernelRun0_B.sl.r_9 kernelRun0_B.sl.r_1
  simp only [View.readAt_eq_ld, harg1.read_unread, harg2.read_unread, harg3.read_unread, harg4.read_unread, harg5.read_unread, harg6.read_unread, ld0, ld1, ld3, ldc0, ldc512, ldc1024, ldc1536, harg14.read_unread, lds, ldp0, ldp1, ldp2, ldp3, lde0, lde1, lde2, lde3]
  rw [wordB i]
  intro p hp
  simp only [List.mem_cons, List.not_mem_nil, or_false] at hp
  rcases hp with rfl | rfl | rfl | rfl
  · exact fun x => four_3 _ _ _ _ x
  · exact fun x => four_2 _ _ _ _ x
  · exact fun x => four_1 _ _ _ _ x
  · exact fun x => four_0 _ _ _ _ x

end

end Cert.ProjIdeal.Gen

end
-- ==== Proof.ProjValue.lean ====
module

public import proofs.«01_k».proof.Proof.ProjFrame
public import Idealize.ShloMosaic.Lib.Pipeline.Value

@[expose] public section

noncomputable section

namespace Cert.ProjIdeal.Value

open Cert.ProjIdeal Cert.ProjIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

-- no `blocks7`: window 7's index map revisits a block index, or its points could not be enumerated here;
-- the final array is still the frame's `arrAt`, to read with Lib/Pipeline/Value.lean's lemmas by hand

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v11_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v11_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v11_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v11_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v11_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v11_5) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v11_6) = (dats m 0 c).arrAt 12 cfg0.N :=
  (h c).1 12

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v11_0) = (dats m 0 c).arrAt 6 cfg0.N
      ∧ r.2.mem ((c : Thread nD τ).loc main_v11_1) = (dats m 0 c).arrAt 7 cfg0.N
      ∧ r.2.mem ((c : Thread nD τ).loc main_v11_2) = (dats m 0 c).arrAt 8 cfg0.N
      ∧ r.2.mem ((c : Thread nD τ).loc main_v11_3) = (dats m 0 c).arrAt 9 cfg0.N
      ∧ r.2.mem ((c : Thread nD τ).loc main_v11_4) = (dats m 0 c).arrAt 10 cfg0.N
      ∧ r.2.mem ((c : Thread nD τ).loc main_v11_5) = (dats m 0 c).arrAt 11 cfg0.N
      ∧ r.2.mem ((c : Thread nD τ).loc main_v11_6) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post6 m r h c,
      post7 m r h c,
      post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1024x512 .bf16 × Vec F S1x16x512 .f32 × Vec F S1024x512 .f32 × Vec F S4096x128 .f32 × Vec F S4096x128 .f32 × Vec F S1024x512 .bf16 × Vec F S2x512x512 .bf16 × Vec F S16x512 .f32 :=
  ((VO0_6.read (Elt F) VO0_6.junk, VO0_7.read (Elt F) VO0_7.junk, VO0_8.read (Elt F) VO0_8.junk, VO0_9.read (Elt F) VO0_9.junk, VO0_10.read (Elt F) VO0_10.junk, VO0_11.read (Elt F) VO0_11.junk, VO0_12.read (Elt F) VO0_12.junk, VS0_0.read (Elt F) VS0_0.junk) : Vec F S1024x512 .bf16 × Vec F S1x16x512 .f32 × Vec F S1024x512 .f32 × Vec F S4096x128 .f32 × Vec F S4096x128 .f32 × Vec F S1024x512 .bf16 × Vec F S2x512x512 .bf16 × Vec F S16x512 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x512 .bf16 × Vec F S1x16x512 .f32 × Vec F S1024x512 .f32 × Vec F S4096x128 .f32 × Vec F S4096x128 .f32 × Vec F S1024x512 .bf16 × Vec F S2x512x512 .bf16 × Vec F S16x512 .f32) : Vec F S1024x512 .bf16 × Vec F S1x16x512 .f32 × Vec F S1024x512 .f32 × Vec F S4096x128 .f32 × Vec F S4096x128 .f32 × Vec F S1024x512 .bf16 × Vec F S2x512x512 .bf16 × Vec F S16x512 .f32 :=
  if h0 : n % 2 = 0 then
    (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_8 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_9 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_10 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_11 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, out0_B_12 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2.2.2.2.2.2)

/-- `stAt0` at a point of case A: that case's contents. -/
theorem stAt0_A (c : Dev nD) (t : Fin cfg0.N) (acc : Vec F S1024x512 .bf16 × Vec F S1x16x512 .f32 × Vec F S1024x512 .f32 × Vec F S4096x128 .f32 × Vec F S4096x128 .f32 × Vec F S1024x512 .bf16 × Vec F S2x512x512 .bf16 × Vec F S16x512 .f32) (h0 : t.val % 2 = 0) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) (iblk m c 0 t) (iblk m c 1 t) (iblk m c 2 t) (iblk m c 3 t) (iblk m c 4 t) (iblk m c 5 t)) :=
  (dif_pos h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S16384x512.Idx) : ℕ := 1 * ((i 0).val / 1024 - 0) + 1 * ((i 1).val / 512 - 0)
set_option backward.proofsInPublic true in
abbrev loc6Of (i : S16384x512.Idx) : S1024x512.Idx := fun a => match a with
  | ⟨0, _⟩ => ⟨(i 0).val % 1024, Nat.mod_lt _ (by decide)⟩
  | ⟨1, _⟩ => ⟨(i 1).val % 512, Nat.mod_lt _ (by decide)⟩
abbrev pt6Of (i : S16384x512.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v11_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 15
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 16) (q1 : Fin 1) : Fin grid0.N :=
  ⟨1 * q0.val + 1 * q1.val, lt_of_lt_of_eq (by omega) N_0.symm⟩
theorem idx_onto6 : ∀ (q0 : Fin 16) (q1 : Fin 1), ∃ t : Fin cfg0.N, (cfg0.win 6).flush t = true ∧ win0_6.index t = ![q0.val + 0, q1.val + 0] :=
  fun q0 q1 => ⟨onto6Pt q0 q1, (by decide +kernel : ∀ (q0 : Fin 16) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 1024 := (y 0).isLt
  have hy1 : (y 1).val < 512 := (y 1).isLt
  have hb0 : (((cfg0.win 6).blk t).view.emb y 0).val = win0_6.index t (0 : Fin 2) * 1024 + 1 * (y 0).val := rfl
  have hb1 : (((cfg0.win 6).blk t).view.emb y 1).val = win0_6.index t (1 : Fin 2) * 512 + 1 * (y 1).val := rfl
  have hr : run6Of (((cfg0.win 6).blk t).view.emb y) = t.val := by
    show 1 * ((((cfg0.win 6).blk t).view.emb y 0).val / 1024 - 0) + 1 * ((((cfg0.win 6).blk t).view.emb y 1).val / 512 - 0) = _
    rw [hb0, hb1]
    rw [show (win0_6.index t (0 : Fin 2) * 1024 + 1 * (y 0).val) / 1024 = win0_6.index t (0 : Fin 2) from by omega]; rw [show (win0_6.index t (1 : Fin 2) * 512 + 1 * (y 1).val) / 512 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1024 = (y 0).val; rw [hb0]; omega
    | ⟨1, _⟩ => show (((cfg0.win 6).blk t).view.emb y 1).val % 512 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v11_0).slice (win0_6.rect t)).set ↔ _
  rw [View.set_slice_whole, Rect.mem_set_unit]
  exact Iff.rfl

/-- THE COVERED INDICES: in some flushing point's block iff inside the box those blocks fill. -/
theorem covered_iff6 (i : S16384x512.Idx) :
    (∃ t : Fin cfg0.N, (cfg0.win 6).flush t = true ∧ i ∈ ((cfg0.win 6).blk t).view.set) ↔ 0 ≤ (i 0).val ∧ (i 0).val < 16384 ∧ 0 ≤ (i 1).val ∧ (i 1).val < 512 := by
  constructor
  · rintro ⟨t, -, hi⟩
    rw [mem_blk6] at hi
    have b0 : win0_6.index t (0 : Fin 2) * 1024 ≤ (i 0).val ∧ (i 0).val < win0_6.index t (0 : Fin 2) * 1024 + 1024 := hi 0
    have b1 : win0_6.index t (1 : Fin 2) * 512 ≤ (i 1).val ∧ (i 1).val < win0_6.index t (1 : Fin 2) * 512 + 512 := hi 1
    obtain ⟨e0, e1, e2⟩ := idx_facts6 t
    omega
  · intro h
    have hi0 : (i 0).val < 16384 := (i 0).isLt
    have hi1 : (i 1).val < 512 := (i 1).isLt
    obtain ⟨t, hft, ht⟩ := idx_onto6 ⟨(i 0).val / 1024 - 0, by omega⟩ ⟨(i 1).val / 512 - 0, by omega⟩
    have q0 : win0_6.index t (0 : Fin 2) = (i 0).val / 1024 - 0 + 0 := congrFun ht 0
    have q1 : win0_6.index t (1 : Fin 2) = (i 1).val / 512 - 0 + 0 := congrFun ht 1
    refine ⟨t, hft, ?_⟩
    rw [mem_blk6]
    intro a
    match a with
    | ⟨0, _⟩ => show win0_6.index t (0 : Fin 2) * 1024 ≤ (i 0).val ∧ (i 0).val < win0_6.index t (0 : Fin 2) * 1024 + 1024; omega
    | ⟨1, _⟩ => show win0_6.index t (1 : Fin 2) * 512 ≤ (i 1).val ∧ (i 1).val < win0_6.index t (1 : Fin 2) * 512 + 512; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 16384 := (i 0).isLt; have h1 : (i 1).val < 512 := (i 1).isLt; omega))

/-! ## Output window 7 -/

/-- The block of the array that holds index `i`, numbered in the order the points write the blocks back (one every 2 points),
    `i`'s place in it, and the point that writes it back (the last of its 2). -/
abbrev run7Of (i : S8x16x512.Idx) : ℕ := 1 * ((i 0).val / 1 - 0) + 1 * ((i 1).val / 16 - 0) + 1 * ((i 2).val / 512 - 0)
set_option backward.proofsInPublic true in
abbrev loc7Of (i : S8x16x512.Idx) : S1x16x512.Idx := fun a => match a with
  | ⟨0, _⟩ => ⟨(i 0).val % 1, Nat.mod_lt _ (by decide)⟩
  | ⟨1, _⟩ => ⟨(i 1).val % 16, Nat.mod_lt _ (by decide)⟩
  | ⟨2, _⟩ => ⟨(i 2).val % 512, Nat.mod_lt _ (by decide)⟩
abbrev pt7Of (i : S8x16x512.Idx) : ℕ := 2 * run7Of i + 1

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v11_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t / 2`). -/
theorem idx_facts7 : ∀ t : Fin cfg0.N, 0 ≤ win0_7.index t (0 : Fin 3) ∧ win0_7.index t (0 : Fin 3) ≤ 7
    ∧ 0 ≤ win0_7.index t (1 : Fin 3) ∧ win0_7.index t (1 : Fin 3) ≤ 0
    ∧ 0 ≤ win0_7.index t (2 : Fin 3) ∧ win0_7.index t (2 : Fin 3) ≤ 0
    ∧ 1 * (win0_7.index t (0 : Fin 3) - 0) + 1 * (win0_7.index t (1 : Fin 3) - 0) + 1 * (win0_7.index t (2 : Fin 3) - 0) = t.val / 2 :=
  (by decide +kernel : ∀ t : Fin grid0.N, _)

/-- Every block of the box is SOME flushing point's: `onto7Pt`, the point that writes back the block at place `q` of the box (the last point of its run). -/
abbrev onto7Pt (q0 : Fin 8) (q1 : Fin 1) (q2 : Fin 1) : Fin grid0.N :=
  ⟨2 * (1 * q0.val + 1 * q1.val + 1 * q2.val) + 1, lt_of_lt_of_eq (by omega) N_0.symm⟩
theorem idx_onto7 : ∀ (q0 : Fin 8) (q1 : Fin 1) (q2 : Fin 1), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 8) (q1 : Fin 1) (q2 : Fin 1), win0_7.flush (onto7Pt q0 q1 q2) = true ∧ win0_7.index (onto7Pt q0 q1 q2) = ![q0.val + 0, q1.val + 0, q2.val + 0]) q0 q1 q2⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 2 = 1 := (flush0_7 t).mp hf
  obtain ⟨e0, e1, e2, e3⟩ := idx_facts7 t
  funext y
  have hy0 : (y 0).val < 1 := (y 0).isLt
  have hy1 : (y 1).val < 16 := (y 1).isLt
  have hy2 : (y 2).val < 512 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 16 + 1 * (y 1).val := rfl
  have hb2 : (((cfg0.win 7).blk t).view.emb y 2).val = win0_7.index t (2 : Fin 3) * 512 + 1 * (y 2).val := rfl
  have hr : run7Of (((cfg0.win 7).blk t).view.emb y) = t.val / 2 := by
    show 1 * ((((cfg0.win 7).blk t).view.emb y 0).val / 1 - 0) + 1 * ((((cfg0.win 7).blk t).view.emb y 1).val / 16 - 0) + 1 * ((((cfg0.win 7).blk t).view.emb y 2).val / 512 - 0) = _
    rw [hb0, hb1, hb2]
    rw [show (win0_7.index t (0 : Fin 3) * 1 + 1 * (y 0).val) / 1 = win0_7.index t (0 : Fin 3) from by omega]; rw [show (win0_7.index t (1 : Fin 3) * 16 + 1 * (y 1).val) / 16 = win0_7.index t (1 : Fin 3) from by omega]; rw [show (win0_7.index t (2 : Fin 3) * 512 + 1 * (y 2).val) / 512 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 16 = (y 1).val; rw [hb1]; omega
    | ⟨2, _⟩ => show (((cfg0.win 7).blk t).view.emb y 2).val % 512 = (y 2).val; rw [hb2]; omega
  have hp : pt7Of (((cfg0.win 7).blk t).view.emb y) = t.val := by
    show 2 * run7Of (((cfg0.win 7).blk t).view.emb y) + 1 = _
    rw [hr]; have := Nat.div_add_mod t.val 2; omega
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S8x16x512.Idx) :
    i ∈ ((cfg0.win 7).blk t).view.set ↔ ∀ a : Fin 3, win0_7.index t a * S1x16x512.size a ≤ (i a).val ∧ (i a).val < win0_7.index t a * S1x16x512.size a + S1x16x512.size a := by
  show i ∈ ((View.whole main_v11_1).slice (win0_7.rect t)).set ↔ _
  rw [View.set_slice_whole, Rect.mem_set_unit]
  exact Iff.rfl

/-- THE COVERED INDICES: in some flushing point's block iff inside the box those blocks fill. -/
theorem covered_iff7 (i : S8x16x512.Idx) :
    (∃ t : Fin cfg0.N, (cfg0.win 7).flush t = true ∧ i ∈ ((cfg0.win 7).blk t).view.set) ↔ 0 ≤ (i 0).val ∧ (i 0).val < 8 ∧ 0 ≤ (i 1).val ∧ (i 1).val < 16 ∧ 0 ≤ (i 2).val ∧ (i 2).val < 512 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 16 ≤ (i 1).val ∧ (i 1).val < win0_7.index t (1 : Fin 3) * 16 + 16 := hi 1
    have b2 : win0_7.index t (2 : Fin 3) * 512 ≤ (i 2).val ∧ (i 2).val < win0_7.index t (2 : Fin 3) * 512 + 512 := hi 2
    obtain ⟨e0, e1, e2, e3⟩ := idx_facts7 t
    omega
  · intro h
    have hi0 : (i 0).val < 8 := (i 0).isLt
    have hi1 : (i 1).val < 16 := (i 1).isLt
    have hi2 : (i 2).val < 512 := (i 2).isLt
    obtain ⟨t, hft, ht⟩ := idx_onto7 ⟨(i 0).val / 1 - 0, by omega⟩ ⟨(i 1).val / 16 - 0, by omega⟩ ⟨(i 2).val / 512 - 0, by omega⟩
    have q0 : win0_7.index t (0 : Fin 3) = (i 0).val / 1 - 0 + 0 := congrFun ht 0
    have q1 : win0_7.index t (1 : Fin 3) = (i 1).val / 16 - 0 + 0 := congrFun ht 1
    have q2 : win0_7.index t (2 : Fin 3) = (i 2).val / 512 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 16 ≤ (i 1).val ∧ (i 1).val < win0_7.index t (1 : Fin 3) * 16 + 16; omega
    | ⟨2, _⟩ => show win0_7.index t (2 : Fin 3) * 512 ≤ (i 2).val ∧ (i 2).val < win0_7.index t (2 : Fin 3) * 512 + 512; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 8 := (i 0).isLt; have h1 : (i 1).val < 16 := (i 1).isLt; have h2 : (i 2).val < 512 := (i 2).isLt; omega))

/-! ## Output window 8 -/

/-- The block of the array that holds index `i`, numbered in the order the points write the blocks back (one per point),
    `i`'s place in it, and the point that writes it back. -/
abbrev run8Of (i : S16384x512.Idx) : ℕ := 1 * ((i 0).val / 1024 - 0) + 1 * ((i 1).val / 512 - 0)
set_option backward.proofsInPublic true in
abbrev loc8Of (i : S16384x512.Idx) : S1024x512.Idx := fun a => match a with
  | ⟨0, _⟩ => ⟨(i 0).val % 1024, Nat.mod_lt _ (by decide)⟩
  | ⟨1, _⟩ => ⟨(i 1).val % 512, Nat.mod_lt _ (by decide)⟩
abbrev pt8Of (i : S16384x512.Idx) : ℕ := run8Of i

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v11_2) := fun i =>
  if h : pt8Of i < cfg0.N then
    (Pipeline.accAt (fun n h => stAt0 m c n h junk0) (stAt0 m c) 0 (pt8Of i) (by omega)).2.2.1 (loc8Of i)
  else V m c (Pipeline.arrRef spec0 8) i

/-- The printed index map, decided over the grid: output window 8's block indices stay in the box, and the block number
    read off them is the point's (`t`). -/
theorem idx_facts8 : ∀ t : Fin cfg0.N, 0 ≤ win0_8.index t (0 : Fin 2) ∧ win0_8.index t (0 : Fin 2) ≤ 15
    ∧ 0 ≤ win0_8.index t (1 : Fin 2) ∧ win0_8.index t (1 : Fin 2) ≤ 0
    ∧ 1 * (win0_8.index t (0 : Fin 2) - 0) + 1 * (win0_8.index t (1 : Fin 2) - 0) = t.val :=
  (by decide +kernel : ∀ t : Fin grid0.N, _)

/-- Every block of the box is SOME flushing point's: `onto8Pt`, the point that writes back the block at place `q` of the box. -/
abbrev onto8Pt (q0 : Fin 16) (q1 : Fin 1) : Fin grid0.N :=
  ⟨1 * q0.val + 1 * q1.val, lt_of_lt_of_eq (by omega) N_0.symm⟩
theorem idx_onto8 : ∀ (q0 : Fin 16) (q1 : Fin 1), ∃ t : Fin cfg0.N, (cfg0.win 8).flush t = true ∧ win0_8.index t = ![q0.val + 0, q1.val + 0] :=
  fun q0 q1 => ⟨onto8Pt q0 q1, (by decide +kernel : ∀ (q0 : Fin 16) (q1 : Fin 1), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  obtain ⟨e0, e1, e2⟩ := idx_facts8 t
  funext y
  have hy0 : (y 0).val < 1024 := (y 0).isLt
  have hy1 : (y 1).val < 512 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 512 + 1 * (y 1).val := rfl
  have hr : run8Of (((cfg0.win 8).blk t).view.emb y) = t.val := by
    show 1 * ((((cfg0.win 8).blk t).view.emb y 0).val / 1024 - 0) + 1 * ((((cfg0.win 8).blk t).view.emb y 1).val / 512 - 0) = _
    rw [hb0, hb1]
    rw [show (win0_8.index t (0 : Fin 2) * 1024 + 1 * (y 0).val) / 1024 = win0_8.index t (0 : Fin 2) from by omega]; rw [show (win0_8.index t (1 : Fin 2) * 512 + 1 * (y 1).val) / 512 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1024 = (y 0).val; rw [hb0]; omega
    | ⟨1, _⟩ => show (((cfg0.win 8).blk t).view.emb y 1).val % 512 = (y 1).val; rw [hb1]; omega
  have hp : pt8Of (((cfg0.win 8).blk t).view.emb y) = t.val := by
    exact hr
  show (Pipeline.accAt (fun n h => stAt0 m c n h junk0) (stAt0 m c) 0 t.val _).2.2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S16384x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v11_2).slice (win0_8.rect t)).set ↔ _
  rw [View.set_slice_whole, Rect.mem_set_unit]
  exact Iff.rfl

/-- THE COVERED INDICES: in some flushing point's block iff inside the box those blocks fill. -/
theorem covered_iff8 (i : S16384x512.Idx) :
    (∃ t : Fin cfg0.N, (cfg0.win 8).flush t = true ∧ i ∈ ((cfg0.win 8).blk t).view.set) ↔ 0 ≤ (i 0).val ∧ (i 0).val < 16384 ∧ 0 ≤ (i 1).val ∧ (i 1).val < 512 := by
  constructor
  · rintro ⟨t, -, hi⟩
    rw [mem_blk8] at hi
    have b0 : win0_8.index t (0 : Fin 2) * 1024 ≤ (i 0).val ∧ (i 0).val < win0_8.index t (0 : Fin 2) * 1024 + 1024 := hi 0
    have b1 : win0_8.index t (1 : Fin 2) * 512 ≤ (i 1).val ∧ (i 1).val < win0_8.index t (1 : Fin 2) * 512 + 512 := hi 1
    obtain ⟨e0, e1, e2⟩ := idx_facts8 t
    omega
  · intro h
    have hi0 : (i 0).val < 16384 := (i 0).isLt
    have hi1 : (i 1).val < 512 := (i 1).isLt
    obtain ⟨t, hft, ht⟩ := idx_onto8 ⟨(i 0).val / 1024 - 0, by omega⟩ ⟨(i 1).val / 512 - 0, by omega⟩
    have q0 : win0_8.index t (0 : Fin 2) = (i 0).val / 1024 - 0 + 0 := congrFun ht 0
    have q1 : win0_8.index t (1 : Fin 2) = (i 1).val / 512 - 0 + 0 := congrFun ht 1
    refine ⟨t, hft, ?_⟩
    rw [mem_blk8]
    intro a
    match a with
    | ⟨0, _⟩ => show win0_8.index t (0 : Fin 2) * 1024 ≤ (i 0).val ∧ (i 0).val < win0_8.index t (0 : Fin 2) * 1024 + 1024; omega
    | ⟨1, _⟩ => show win0_8.index t (1 : Fin 2) * 512 ≤ (i 1).val ∧ (i 1).val < win0_8.index t (1 : Fin 2) * 512 + 512; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 16384 := (i 0).isLt; have h1 : (i 1).val < 512 := (i 1).isLt; omega))

/-! ## Output window 9 -/

/-- The block of the array that holds index `i`, numbered in the order the points write the blocks back (one per point),
    `i`'s place in it, and the point that writes it back. -/
abbrev run9Of (i : S65536x128.Idx) : ℕ := 1 * ((i 0).val / 4096 - 0) + 1 * ((i 1).val / 128 - 0)
set_option backward.proofsInPublic true in
abbrev loc9Of (i : S65536x128.Idx) : S4096x128.Idx := fun a => match a with
  | ⟨0, _⟩ => ⟨(i 0).val % 4096, Nat.mod_lt _ (by decide)⟩
  | ⟨1, _⟩ => ⟨(i 1).val % 128, Nat.mod_lt _ (by decide)⟩
abbrev pt9Of (i : S65536x128.Idx) : ℕ := run9Of i

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v11_3) := fun i =>
  if h : pt9Of i < cfg0.N then
    (Pipeline.accAt (fun n h => stAt0 m c n h junk0) (stAt0 m c) 0 (pt9Of i) (by omega)).2.2.2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 2) ∧ win0_9.index t (0 : Fin 2) ≤ 15
    ∧ 0 ≤ win0_9.index t (1 : Fin 2) ∧ win0_9.index t (1 : Fin 2) ≤ 0
    ∧ 1 * (win0_9.index t (0 : Fin 2) - 0) + 1 * (win0_9.index t (1 : Fin 2) - 0) = t.val :=
  (by decide +kernel : ∀ t : Fin grid0.N, _)

/-- Every block of the box is SOME flushing point's: `onto9Pt`, the point that writes back the block at place `q` of the box. -/
abbrev onto9Pt (q0 : Fin 16) (q1 : Fin 1) : Fin grid0.N :=
  ⟨1 * q0.val + 1 * q1.val, lt_of_lt_of_eq (by omega) N_0.symm⟩
theorem idx_onto9 : ∀ (q0 : Fin 16) (q1 : Fin 1), ∃ t : Fin cfg0.N, (cfg0.win 9).flush t = true ∧ win0_9.index t = ![q0.val + 0, q1.val + 0] :=
  fun q0 q1 => ⟨onto9Pt q0 q1, (by decide +kernel : ∀ (q0 : Fin 16) (q1 : Fin 1), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  obtain ⟨e0, e1, e2⟩ := idx_facts9 t
  funext y
  have hy0 : (y 0).val < 4096 := (y 0).isLt
  have hy1 : (y 1).val < 128 := (y 1).isLt
  have hb0 : (((cfg0.win 9).blk t).view.emb y 0).val = win0_9.index t (0 : Fin 2) * 4096 + 1 * (y 0).val := rfl
  have hb1 : (((cfg0.win 9).blk t).view.emb y 1).val = win0_9.index t (1 : Fin 2) * 128 + 1 * (y 1).val := rfl
  have hr : run9Of (((cfg0.win 9).blk t).view.emb y) = t.val := by
    show 1 * ((((cfg0.win 9).blk t).view.emb y 0).val / 4096 - 0) + 1 * ((((cfg0.win 9).blk t).view.emb y 1).val / 128 - 0) = _
    rw [hb0, hb1]
    rw [show (win0_9.index t (0 : Fin 2) * 4096 + 1 * (y 0).val) / 4096 = win0_9.index t (0 : Fin 2) from by omega]; rw [show (win0_9.index t (1 : Fin 2) * 128 + 1 * (y 1).val) / 128 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 4096 = (y 0).val; rw [hb0]; omega
    | ⟨1, _⟩ => show (((cfg0.win 9).blk t).view.emb y 1).val % 128 = (y 1).val; rw [hb1]; omega
  have hp : pt9Of (((cfg0.win 9).blk t).view.emb y) = t.val := by
    exact hr
  show (Pipeline.accAt (fun n h => stAt0 m c n h junk0) (stAt0 m c) 0 t.val _).2.2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S65536x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v11_3).slice (win0_9.rect t)).set ↔ _
  rw [View.set_slice_whole, Rect.mem_set_unit]
  exact Iff.rfl

/-- THE COVERED INDICES: in some flushing point's block iff inside the box those blocks fill. -/
theorem covered_iff9 (i : S65536x128.Idx) :
    (∃ t : Fin cfg0.N, (cfg0.win 9).flush t = true ∧ i ∈ ((cfg0.win 9).blk t).view.set) ↔ 0 ≤ (i 0).val ∧ (i 0).val < 65536 ∧ 0 ≤ (i 1).val ∧ (i 1).val < 128 := by
  constructor
  · rintro ⟨t, -, hi⟩
    rw [mem_blk9] at hi
    have b0 : win0_9.index t (0 : Fin 2) * 4096 ≤ (i 0).val ∧ (i 0).val < win0_9.index t (0 : Fin 2) * 4096 + 4096 := hi 0
    have b1 : win0_9.index t (1 : Fin 2) * 128 ≤ (i 1).val ∧ (i 1).val < win0_9.index t (1 : Fin 2) * 128 + 128 := hi 1
    obtain ⟨e0, e1, e2⟩ := idx_facts9 t
    omega
  · intro h
    have hi0 : (i 0).val < 65536 := (i 0).isLt
    have hi1 : (i 1).val < 128 := (i 1).isLt
    obtain ⟨t, hft, ht⟩ := idx_onto9 ⟨(i 0).val / 4096 - 0, by omega⟩ ⟨(i 1).val / 128 - 0, by omega⟩
    have q0 : win0_9.index t (0 : Fin 2) = (i 0).val / 4096 - 0 + 0 := congrFun ht 0
    have q1 : win0_9.index t (1 : Fin 2) = (i 1).val / 128 - 0 + 0 := congrFun ht 1
    refine ⟨t, hft, ?_⟩
    rw [mem_blk9]
    intro a
    match a with
    | ⟨0, _⟩ => show win0_9.index t (0 : Fin 2) * 4096 ≤ (i 0).val ∧ (i 0).val < win0_9.index t (0 : Fin 2) * 4096 + 4096; omega
    | ⟨1, _⟩ => show win0_9.index t (1 : Fin 2) * 128 ≤ (i 1).val ∧ (i 1).val < win0_9.index t (1 : Fin 2) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 65536 := (i 0).isLt; have h1 : (i 1).val < 128 := (i 1).isLt; omega))

/-! ## Output window 10 -/

/-- The block of the array that holds index `i`, numbered in the order the points write the blocks back (one per point),
    `i`'s place in it, and the point that writes it back. -/
abbrev run10Of (i : S65536x128.Idx) : ℕ := 1 * ((i 0).val / 4096 - 0) + 1 * ((i 1).val / 128 - 0)
set_option backward.proofsInPublic true in
abbrev loc10Of (i : S65536x128.Idx) : S4096x128.Idx := fun a => match a with
  | ⟨0, _⟩ => ⟨(i 0).val % 4096, Nat.mod_lt _ (by decide)⟩
  | ⟨1, _⟩ => ⟨(i 1).val % 128, Nat.mod_lt _ (by decide)⟩
abbrev pt10Of (i : S65536x128.Idx) : ℕ := run10Of i

/-- WHAT THE ARRAY ENDS HOLDING at index `i` inside the box the flushing blocks fill: output 10's component of the carried
    state's fold at the point that writes `i`'s block back, at `i`'s place in the block. `G10` states the array's contents
    only inside the box. -/
def G10 (c : Dev nD) : Buf (Elt F) ((c : Thread nD τ).loc main_v11_4) := fun i =>
  if h : pt10Of i < cfg0.N then
    (Pipeline.accAt (fun n h => stAt0 m c n h junk0) (stAt0 m c) 0 (pt10Of i) (by omega)).2.2.2.2.1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 2) ∧ win0_10.index t (0 : Fin 2) ≤ 15
    ∧ 0 ≤ win0_10.index t (1 : Fin 2) ∧ win0_10.index t (1 : Fin 2) ≤ 0
    ∧ 1 * (win0_10.index t (0 : Fin 2) - 0) + 1 * (win0_10.index t (1 : Fin 2) - 0) = t.val :=
  (by decide +kernel : ∀ t : Fin grid0.N, _)

/-- Every block of the box is SOME flushing point's: `onto10Pt`, the point that writes back the block at place `q` of the box. -/
abbrev onto10Pt (q0 : Fin 16) (q1 : Fin 1) : Fin grid0.N :=
  ⟨1 * q0.val + 1 * q1.val, lt_of_lt_of_eq (by omega) N_0.symm⟩
theorem idx_onto10 : ∀ (q0 : Fin 16) (q1 : Fin 1), ∃ t : Fin cfg0.N, (cfg0.win 10).flush t = true ∧ win0_10.index t = ![q0.val + 0, q1.val + 0] :=
  fun q0 q1 => ⟨onto10Pt q0 q1, (by decide +kernel : ∀ (q0 : Fin 16) (q1 : Fin 1), win0_10.flush (onto10Pt q0 q1) = true ∧ win0_10.index (onto10Pt q0 q1) = ![q0.val + 0, q1.val + 0]) q0 q1⟩

/-- WHAT A FLUSHING POINT `t` WRITES BACK is block `t` of `G10`: output 10's component of the fold up to `t`. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10, outsAt0_sweep]
  obtain ⟨e0, e1, e2⟩ := idx_facts10 t
  funext y
  have hy0 : (y 0).val < 4096 := (y 0).isLt
  have hy1 : (y 1).val < 128 := (y 1).isLt
  have hb0 : (((cfg0.win 10).blk t).view.emb y 0).val = win0_10.index t (0 : Fin 2) * 4096 + 1 * (y 0).val := rfl
  have hb1 : (((cfg0.win 10).blk t).view.emb y 1).val = win0_10.index t (1 : Fin 2) * 128 + 1 * (y 1).val := rfl
  have hr : run10Of (((cfg0.win 10).blk t).view.emb y) = t.val := by
    show 1 * ((((cfg0.win 10).blk t).view.emb y 0).val / 4096 - 0) + 1 * ((((cfg0.win 10).blk t).view.emb y 1).val / 128 - 0) = _
    rw [hb0, hb1]
    rw [show (win0_10.index t (0 : Fin 2) * 4096 + 1 * (y 0).val) / 4096 = win0_10.index t (0 : Fin 2) from by omega]; rw [show (win0_10.index t (1 : Fin 2) * 128 + 1 * (y 1).val) / 128 = win0_10.index t (1 : Fin 2) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 4096 = (y 0).val; rw [hb0]; omega
    | ⟨1, _⟩ => show (((cfg0.win 10).blk t).view.emb y 1).val % 128 = (y 1).val; rw [hb1]; omega
  have hp : pt10Of (((cfg0.win 10).blk t).view.emb y) = t.val := by
    exact hr
  show (Pipeline.accAt (fun n h => stAt0 m c n h junk0) (stAt0 m c) 0 t.val _).2.2.2.2.1 ((cfg0.win 10).xinj (grid0.coords t) y) = G10 m c (((cfg0.win 10).blk t).view.emb y)
  unfold G10
  rw [dif_pos (by rw [hp]; exact t.isLt), hl, fold0_congr m c _ _ _ _ hp.symm]

/-- An index of the array is in point `t`'s block iff each coordinate is in the block's range on its axis. -/
theorem mem_blk10 (t : Fin cfg0.N) (i : S65536x128.Idx) :
    i ∈ ((cfg0.win 10).blk t).view.set ↔ ∀ a : Fin 2, win0_10.index t a * S4096x128.size a ≤ (i a).val ∧ (i a).val < win0_10.index t a * S4096x128.size a + S4096x128.size a := by
  show i ∈ ((View.whole main_v11_4).slice (win0_10.rect t)).set ↔ _
  rw [View.set_slice_whole, Rect.mem_set_unit]
  exact Iff.rfl

/-- THE COVERED INDICES: in some flushing point's block iff inside the box those blocks fill. -/
theorem covered_iff10 (i : S65536x128.Idx) :
    (∃ t : Fin cfg0.N, (cfg0.win 10).flush t = true ∧ i ∈ ((cfg0.win 10).blk t).view.set) ↔ 0 ≤ (i 0).val ∧ (i 0).val < 65536 ∧ 0 ≤ (i 1).val ∧ (i 1).val < 128 := by
  constructor
  · rintro ⟨t, -, hi⟩
    rw [mem_blk10] at hi
    have b0 : win0_10.index t (0 : Fin 2) * 4096 ≤ (i 0).val ∧ (i 0).val < win0_10.index t (0 : Fin 2) * 4096 + 4096 := hi 0
    have b1 : win0_10.index t (1 : Fin 2) * 128 ≤ (i 1).val ∧ (i 1).val < win0_10.index t (1 : Fin 2) * 128 + 128 := hi 1
    obtain ⟨e0, e1, e2⟩ := idx_facts10 t
    omega
  · intro h
    have hi0 : (i 0).val < 65536 := (i 0).isLt
    have hi1 : (i 1).val < 128 := (i 1).isLt
    obtain ⟨t, hft, ht⟩ := idx_onto10 ⟨(i 0).val / 4096 - 0, by omega⟩ ⟨(i 1).val / 128 - 0, by omega⟩
    have q0 : win0_10.index t (0 : Fin 2) = (i 0).val / 4096 - 0 + 0 := congrFun ht 0
    have q1 : win0_10.index t (1 : Fin 2) = (i 1).val / 128 - 0 + 0 := congrFun ht 1
    refine ⟨t, hft, ?_⟩
    rw [mem_blk10]
    intro a
    match a with
    | ⟨0, _⟩ => show win0_10.index t (0 : Fin 2) * 4096 ≤ (i 0).val ∧ (i 0).val < win0_10.index t (0 : Fin 2) * 4096 + 4096; omega
    | ⟨1, _⟩ => show win0_10.index t (1 : Fin 2) * 128 ≤ (i 1).val ∧ (i 1).val < win0_10.index t (1 : Fin 2) * 128 + 128; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 65536 := (i 0).isLt; have h1 : (i 1).val < 128 := (i 1).isLt; omega))

/-! ## Output window 11 -/

/-- The block of the array that holds index `i`, numbered in the order the points write the blocks back (one per point),
    `i`'s place in it, and the point that writes it back. -/
abbrev run11Of (i : S16384x512.Idx) : ℕ := 1 * ((i 0).val / 1024 - 0) + 1 * ((i 1).val / 512 - 0)
set_option backward.proofsInPublic true in
abbrev loc11Of (i : S16384x512.Idx) : S1024x512.Idx := fun a => match a with
  | ⟨0, _⟩ => ⟨(i 0).val % 1024, Nat.mod_lt _ (by decide)⟩
  | ⟨1, _⟩ => ⟨(i 1).val % 512, Nat.mod_lt _ (by decide)⟩
abbrev pt11Of (i : S16384x512.Idx) : ℕ := run11Of i

/-- WHAT THE ARRAY ENDS HOLDING at index `i` inside the box the flushing blocks fill: output 11's component of the carried
    state's fold at the point that writes `i`'s block back, at `i`'s place in the block. `G11` states the array's contents
    only inside the box. -/
def G11 (c : Dev nD) : Buf (Elt F) ((c : Thread nD τ).loc main_v11_5) := fun i =>
  if h : pt11Of i < cfg0.N then
    (Pipeline.accAt (fun n h => stAt0 m c n h junk0) (stAt0 m c) 0 (pt11Of i) (by omega)).2.2.2.2.2.1 (loc11Of i)
  else V m c (Pipeline.arrRef spec0 11) i

/-- The printed index map, decided over the grid: output window 11's block indices stay in the box, and the block number
    read off them is the point's (`t`). -/
theorem idx_facts11 : ∀ t : Fin cfg0.N, 0 ≤ win0_11.index t (0 : Fin 2) ∧ win0_11.index t (0 : Fin 2) ≤ 15
    ∧ 0 ≤ win0_11.index t (1 : Fin 2) ∧ win0_11.index t (1 : Fin 2) ≤ 0
    ∧ 1 * (win0_11.index t (0 : Fin 2) - 0) + 1 * (win0_11.index t (1 : Fin 2) - 0) = t.val :=
  (by decide +kernel : ∀ t : Fin grid0.N, _)

/-- Every block of the box is SOME flushing point's: `onto11Pt`, the point that writes back the block at place `q` of the box. -/
abbrev onto11Pt (q0 : Fin 16) (q1 : Fin 1) : Fin grid0.N :=
  ⟨1 * q0.val + 1 * q1.val, lt_of_lt_of_eq (by omega) N_0.symm⟩
theorem idx_onto11 : ∀ (q0 : Fin 16) (q1 : Fin 1), ∃ t : Fin cfg0.N, (cfg0.win 11).flush t = true ∧ win0_11.index t = ![q0.val + 0, q1.val + 0] :=
  fun q0 q1 => ⟨onto11Pt q0 q1, (by decide +kernel : ∀ (q0 : Fin 16) (q1 : Fin 1), win0_11.flush (onto11Pt q0 q1) = true ∧ win0_11.index (onto11Pt q0 q1) = ![q0.val + 0, q1.val + 0]) q0 q1⟩

/-- WHAT A FLUSHING POINT `t` WRITES BACK is block `t` of `G11`: output 11's component of the fold up to `t`. -/
theorem flushed11_eq (c : Dev nD) (t : Fin cfg0.N) (hf : (cfg0.win 11).flush t = true) :
    (dats m 0 c).flushed 11 t = ((cfg0.win 11).blk t).view.read (Elt F) (G11 m c) := by
  show (cfg0.win 11).cut (grid0.coords t) ((dats m 0 c).after 11 t) = _
  rw [after0_11, outsAt0_sweep]
  obtain ⟨e0, e1, e2⟩ := idx_facts11 t
  funext y
  have hy0 : (y 0).val < 1024 := (y 0).isLt
  have hy1 : (y 1).val < 512 := (y 1).isLt
  have hb0 : (((cfg0.win 11).blk t).view.emb y 0).val = win0_11.index t (0 : Fin 2) * 1024 + 1 * (y 0).val := rfl
  have hb1 : (((cfg0.win 11).blk t).view.emb y 1).val = win0_11.index t (1 : Fin 2) * 512 + 1 * (y 1).val := rfl
  have hr : run11Of (((cfg0.win 11).blk t).view.emb y) = t.val := by
    show 1 * ((((cfg0.win 11).blk t).view.emb y 0).val / 1024 - 0) + 1 * ((((cfg0.win 11).blk t).view.emb y 1).val / 512 - 0) = _
    rw [hb0, hb1]
    rw [show (win0_11.index t (0 : Fin 2) * 1024 + 1 * (y 0).val) / 1024 = win0_11.index t (0 : Fin 2) from by omega]; rw [show (win0_11.index t (1 : Fin 2) * 512 + 1 * (y 1).val) / 512 = win0_11.index t (1 : Fin 2) from by omega]
    omega
  have hl : loc11Of (((cfg0.win 11).blk t).view.emb y) = (cfg0.win 11).xinj (grid0.coords t) y := by
    funext a; apply Fin.ext
    match a with
    | ⟨0, _⟩ => show (((cfg0.win 11).blk t).view.emb y 0).val % 1024 = (y 0).val; rw [hb0]; omega
    | ⟨1, _⟩ => show (((cfg0.win 11).blk t).view.emb y 1).val % 512 = (y 1).val; rw [hb1]; omega
  have hp : pt11Of (((cfg0.win 11).blk t).view.emb y) = t.val := by
    exact hr
  show (Pipeline.accAt (fun n h => stAt0 m c n h junk0) (stAt0 m c) 0 t.val _).2.2.2.2.2.1 ((cfg0.win 11).xinj (grid0.coords t) y) = G11 m c (((cfg0.win 11).blk t).view.emb y)
  unfold G11
  rw [dif_pos (by rw [hp]; exact t.isLt), hl, fold0_congr m c _ _ _ _ hp.symm]

/-- An index of the array is in point `t`'s block iff each coordinate is in the block's range on its axis. -/
theorem mem_blk11 (t : Fin cfg0.N) (i : S16384x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v11_5).slice (win0_11.rect t)).set ↔ _
  rw [View.set_slice_whole, Rect.mem_set_unit]
  exact Iff.rfl

/-- THE COVERED INDICES: in some flushing point's block iff inside the box those blocks fill. -/
theorem covered_iff11 (i : S16384x512.Idx) :
    (∃ t : Fin cfg0.N, (cfg0.win 11).flush t = true ∧ i ∈ ((cfg0.win 11).blk t).view.set) ↔ 0 ≤ (i 0).val ∧ (i 0).val < 16384 ∧ 0 ≤ (i 1).val ∧ (i 1).val < 512 := by
  constructor
  · rintro ⟨t, -, hi⟩
    rw [mem_blk11] at hi
    have b0 : win0_11.index t (0 : Fin 2) * 1024 ≤ (i 0).val ∧ (i 0).val < win0_11.index t (0 : Fin 2) * 1024 + 1024 := hi 0
    have b1 : win0_11.index t (1 : Fin 2) * 512 ≤ (i 1).val ∧ (i 1).val < win0_11.index t (1 : Fin 2) * 512 + 512 := hi 1
    obtain ⟨e0, e1, e2⟩ := idx_facts11 t
    omega
  · intro h
    have hi0 : (i 0).val < 16384 := (i 0).isLt
    have hi1 : (i 1).val < 512 := (i 1).isLt
    obtain ⟨t, hft, ht⟩ := idx_onto11 ⟨(i 0).val / 1024 - 0, by omega⟩ ⟨(i 1).val / 512 - 0, by omega⟩
    have q0 : win0_11.index t (0 : Fin 2) = (i 0).val / 1024 - 0 + 0 := congrFun ht 0
    have q1 : win0_11.index t (1 : Fin 2) = (i 1).val / 512 - 0 + 0 := congrFun ht 1
    refine ⟨t, hft, ?_⟩
    rw [mem_blk11]
    intro a
    match a with
    | ⟨0, _⟩ => show win0_11.index t (0 : Fin 2) * 1024 ≤ (i 0).val ∧ (i 0).val < win0_11.index t (0 : Fin 2) * 1024 + 1024; omega
    | ⟨1, _⟩ => show win0_11.index t (1 : Fin 2) * 512 ≤ (i 1).val ∧ (i 1).val < win0_11.index t (1 : Fin 2) * 512 + 512; omega

/-- THE ARRAY after the run: `G11` (the flushing blocks tile it). -/
theorem final11 (c : Dev nD) : (dats m 0 c).arrAt 11 cfg0.N = G11 m c :=
  (dats m 0 c).arrAt_eq_of_cover 11 _ (fun t hf => flushed11_eq m c t hf) (fun i => (covered_iff11 i).2 (by
    have h0 : (i 0).val < 16384 := (i 0).isLt; have h1 : (i 1).val < 512 := (i 1).isLt; omega))

/-! ## Output window 12 -/

/-- The block of the array that holds index `i`, numbered in the order the points write the blocks back (one per point),
    `i`'s place in it, and the point that writes it back. -/
abbrev run12Of (i : S32x512x512.Idx) : ℕ := 1 * ((i 0).val / 2 - 0) + 1 * ((i 1).val / 512 - 0) + 1 * ((i 2).val / 512 - 0)
set_option backward.proofsInPublic true in
abbrev loc12Of (i : S32x512x512.Idx) : S2x512x512.Idx := fun a => match a with
  | ⟨0, _⟩ => ⟨(i 0).val % 2, Nat.mod_lt _ (by decide)⟩
  | ⟨1, _⟩ => ⟨(i 1).val % 512, Nat.mod_lt _ (by decide)⟩
  | ⟨2, _⟩ => ⟨(i 2).val % 512, Nat.mod_lt _ (by decide)⟩
abbrev pt12Of (i : S32x512x512.Idx) : ℕ := run12Of i

/-- WHAT THE ARRAY ENDS HOLDING at index `i` inside the box the flushing blocks fill: output 12's component of the carried
    state's fold at the point that writes `i`'s block back, at `i`'s place in the block. `G12` states the array's contents
    only inside the box. -/
def G12 (c : Dev nD) : Buf (Elt F) ((c : Thread nD τ).loc main_v11_6) := fun i =>
  if h : pt12Of i < cfg0.N then
    (Pipeline.accAt (fun n h => stAt0 m c n h junk0) (stAt0 m c) 0 (pt12Of i) (by omega)).2.2.2.2.2.2.1 (loc12Of i)
  else V m c (Pipeline.arrRef spec0 12) i

/-- The printed index map, decided over the grid: output window 12's block indices stay in the box, and the block number
    read off them is the point's (`t`). -/
theorem idx_facts12 : ∀ t : Fin cfg0.N, 0 ≤ win0_12.index t (0 : Fin 3) ∧ win0_12.index t (0 : Fin 3) ≤ 15
    ∧ 0 ≤ win0_12.index t (1 : Fin 3) ∧ win0_12.index t (1 : Fin 3) ≤ 0
    ∧ 0 ≤ win0_12.index t (2 : Fin 3) ∧ win0_12.index t (2 : Fin 3) ≤ 0
    ∧ 1 * (win0_12.index t (0 : Fin 3) - 0) + 1 * (win0_12.index t (1 : Fin 3) - 0) + 1 * (win0_12.index t (2 : Fin 3) - 0) = t.val :=
  (by decide +kernel : ∀ t : Fin grid0.N, _)

/-- Every block of the box is SOME flushing point's: `onto12Pt`, the point that writes back the block at place `q` of the box. -/
abbrev onto12Pt (q0 : Fin 16) (q1 : Fin 1) (q2 : Fin 1) : Fin grid0.N :=
  ⟨1 * q0.val + 1 * q1.val + 1 * q2.val, lt_of_lt_of_eq (by omega) N_0.symm⟩
theorem idx_onto12 : ∀ (q0 : Fin 16) (q1 : Fin 1) (q2 : Fin 1), ∃ t : Fin cfg0.N, (cfg0.win 12).flush t = true ∧ win0_12.index t = ![q0.val + 0, q1.val + 0, q2.val + 0] :=
  fun q0 q1 q2 => ⟨onto12Pt q0 q1 q2, (by decide +kernel : ∀ (q0 : Fin 16) (q1 : Fin 1) (q2 : Fin 1), win0_12.flush (onto12Pt q0 q1 q2) = true ∧ win0_12.index (onto12Pt q0 q1 q2) = ![q0.val + 0, q1.val + 0, q2.val + 0]) q0 q1 q2⟩

/-- WHAT A FLUSHING POINT `t` WRITES BACK is block `t` of `G12`: output 12's component of the fold up to `t`. -/
theorem flushed12_eq (c : Dev nD) (t : Fin cfg0.N) (hf : (cfg0.win 12).flush t = true) :
    (dats m 0 c).flushed 12 t = ((cfg0.win 12).blk t).view.read (Elt F) (G12 m c) := by
  show (cfg0.win 12).cut (grid0.coords t) ((dats m 0 c).after 12 t) = _
  rw [after0_12, outsAt0_sweep]
  obtain ⟨e0, e1, e2, e3⟩ := idx_facts12 t
  funext y
  have hy0 : (y 0).val < 2 := (y 0).isLt
  have hy1 : (y 1).val < 512 := (y 1).isLt
  have hy2 : (y 2).val < 512 := (y 2).isLt
  have hb0 : (((cfg0.win 12).blk t).view.emb y 0).val = win0_12.index t (0 : Fin 3) * 2 + 1 * (y 0).val := rfl
  have hb1 : (((cfg0.win 12).blk t).view.emb y 1).val = win0_12.index t (1 : Fin 3) * 512 + 1 * (y 1).val := rfl
  have hb2 : (((cfg0.win 12).blk t).view.emb y 2).val = win0_12.index t (2 : Fin 3) * 512 + 1 * (y 2).val := rfl
  have hr : run12Of (((cfg0.win 12).blk t).view.emb y) = t.val := by
    show 1 * ((((cfg0.win 12).blk t).view.emb y 0).val / 2 - 0) + 1 * ((((cfg0.win 12).blk t).view.emb y 1).val / 512 - 0) + 1 * ((((cfg0.win 12).blk t).view.emb y 2).val / 512 - 0) = _
    rw [hb0, hb1, hb2]
    rw [show (win0_12.index t (0 : Fin 3) * 2 + 1 * (y 0).val) / 2 = win0_12.index t (0 : Fin 3) from by omega]; rw [show (win0_12.index t (1 : Fin 3) * 512 + 1 * (y 1).val) / 512 = win0_12.index t (1 : Fin 3) from by omega]; rw [show (win0_12.index t (2 : Fin 3) * 512 + 1 * (y 2).val) / 512 = win0_12.index t (2 : Fin 3) from by omega]
    omega
  have hl : loc12Of (((cfg0.win 12).blk t).view.emb y) = (cfg0.win 12).xinj (grid0.coords t) y := by
    funext a; apply Fin.ext
    match a with
    | ⟨0, _⟩ => show (((cfg0.win 12).blk t).view.emb y 0).val % 2 = (y 0).val; rw [hb0]; omega
    | ⟨1, _⟩ => show (((cfg0.win 12).blk t).view.emb y 1).val % 512 = (y 1).val; rw [hb1]; omega
    | ⟨2, _⟩ => show (((cfg0.win 12).blk t).view.emb y 2).val % 512 = (y 2).val; rw [hb2]; omega
  have hp : pt12Of (((cfg0.win 12).blk t).view.emb y) = t.val := by
    exact hr
  show (Pipeline.accAt (fun n h => stAt0 m c n h junk0) (stAt0 m c) 0 t.val _).2.2.2.2.2.2.1 ((cfg0.win 12).xinj (grid0.coords t) y) = G12 m c (((cfg0.win 12).blk t).view.emb y)
  unfold G12
  rw [dif_pos (by rw [hp]; exact t.isLt), hl, fold0_congr m c _ _ _ _ hp.symm]

/-- An index of the array is in point `t`'s block iff each coordinate is in the block's range on its axis. -/
theorem mem_blk12 (t : Fin cfg0.N) (i : S32x512x512.Idx) :
    i ∈ ((cfg0.win 12).blk t).view.set ↔ ∀ a : Fin 3, win0_12.index t a * S2x512x512.size a ≤ (i a).val ∧ (i a).val < win0_12.index t a * S2x512x512.size a + S2x512x512.size a := by
  show i ∈ ((View.whole main_v11_6).slice (win0_12.rect t)).set ↔ _
  rw [View.set_slice_whole, Rect.mem_set_unit]
  exact Iff.rfl

/-- THE COVERED INDICES: in some flushing point's block iff inside the box those blocks fill. -/
theorem covered_iff12 (i : S32x512x512.Idx) :
    (∃ t : Fin cfg0.N, (cfg0.win 12).flush t = true ∧ i ∈ ((cfg0.win 12).blk t).view.set) ↔ 0 ≤ (i 0).val ∧ (i 0).val < 32 ∧ 0 ≤ (i 1).val ∧ (i 1).val < 512 ∧ 0 ≤ (i 2).val ∧ (i 2).val < 512 := by
  constructor
  · rintro ⟨t, -, hi⟩
    rw [mem_blk12] at hi
    have b0 : win0_12.index t (0 : Fin 3) * 2 ≤ (i 0).val ∧ (i 0).val < win0_12.index t (0 : Fin 3) * 2 + 2 := hi 0
    have b1 : win0_12.index t (1 : Fin 3) * 512 ≤ (i 1).val ∧ (i 1).val < win0_12.index t (1 : Fin 3) * 512 + 512 := hi 1
    have b2 : win0_12.index t (2 : Fin 3) * 512 ≤ (i 2).val ∧ (i 2).val < win0_12.index t (2 : Fin 3) * 512 + 512 := hi 2
    obtain ⟨e0, e1, e2, e3⟩ := idx_facts12 t
    omega
  · intro h
    have hi0 : (i 0).val < 32 := (i 0).isLt
    have hi1 : (i 1).val < 512 := (i 1).isLt
    have hi2 : (i 2).val < 512 := (i 2).isLt
    obtain ⟨t, hft, ht⟩ := idx_onto12 ⟨(i 0).val / 2 - 0, by omega⟩ ⟨(i 1).val / 512 - 0, by omega⟩ ⟨(i 2).val / 512 - 0, by omega⟩
    have q0 : win0_12.index t (0 : Fin 3) = (i 0).val / 2 - 0 + 0 := congrFun ht 0
    have q1 : win0_12.index t (1 : Fin 3) = (i 1).val / 512 - 0 + 0 := congrFun ht 1
    have q2 : win0_12.index t (2 : Fin 3) = (i 2).val / 512 - 0 + 0 := congrFun ht 2
    refine ⟨t, hft, ?_⟩
    rw [mem_blk12]
    intro a
    match a with
    | ⟨0, _⟩ => show win0_12.index t (0 : Fin 3) * 2 ≤ (i 0).val ∧ (i 0).val < win0_12.index t (0 : Fin 3) * 2 + 2; omega
    | ⟨1, _⟩ => show win0_12.index t (1 : Fin 3) * 512 ≤ (i 1).val ∧ (i 1).val < win0_12.index t (1 : Fin 3) * 512 + 512; omega
    | ⟨2, _⟩ => show win0_12.index t (2 : Fin 3) * 512 ≤ (i 2).val ∧ (i 2).val < win0_12.index t (2 : Fin 3) * 512 + 512; omega

/-- THE ARRAY after the run: `G12` (the flushing blocks tile it). -/
theorem final12 (c : Dev nD) : (dats m 0 c).arrAt 12 cfg0.N = G12 m c :=
  (dats m 0 c).arrAt_eq_of_cover 12 _ (fun t hf => flushed12_eq m c t hf) (fun i => (covered_iff12 i).2 (by
    have h0 : (i 0).val < 32 := (i 0).isLt; have h1 : (i 1).val < 512 := (i 1).isLt; have h2 : (i 2).val < 512 := (i 2).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v11_0) = G6 m c
      ∧ r.2.mem ((c : Thread nD τ).loc main_v11_1) = G7 m c
      ∧ r.2.mem ((c : Thread nD τ).loc main_v11_2) = G8 m c
      ∧ r.2.mem ((c : Thread nD τ).loc main_v11_3) = G9 m c
      ∧ r.2.mem ((c : Thread nD τ).loc main_v11_4) = G10 m c
      ∧ r.2.mem ((c : Thread nD τ).loc main_v11_5) = G11 m c
      ∧ r.2.mem ((c : Thread nD τ).loc main_v11_6) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c⟩)
    (run_main m ρ)

end Cert.ProjIdeal.Value

end
-- ==== Proof.ProjPoint.lean ====
/- What the projection's body finds in its buffers at a point, and what it leaves there. -/
module
public import proofs.«01_k».proof.Proof.ProjBlock
public import proofs.«01_k».proof.Proof.ProjValue

@[expose] public section

set_option maxRecDepth 16384

noncomputable section

namespace Cert.ProjIdeal.Gen

open Idealize.ShloMosaic Idealize.ShloMosaic.TcCoe Idealize.SL.Sem Cert.Proj

variable (m : (ℓ : Loc nD τ sig) → Buf (Elt Ideal) ℓ)

section Stage
variable (c : Dev nD)
  (x : FVec Ideal S8x2048x1024 .f32) (hx : m ((c : Thread nD τ).loc main_arg0) = x)
  (g : FVec Ideal S1x1024 .f32) (hg : m ((c : Thread nD τ).loc main_arg1) = g)
  (w : FVec Ideal S1x1024x2048 .f32) (hw : m ((c : Thread nD τ).loc main_arg2) = w)
  (pw : FVec Ideal S1x4x128x128 .f32) (hpw : m ((c : Thread nD τ).loc main_arg3) = pw)
  (ps : FVec Ideal S1x512 .f32) (hps : m ((c : Thread nD τ).loc main_arg4) = ps)

include hx in
/-- The staged tokens, one row each. -/
theorem stage_x (n : Fin 16384) (d : Fin 1024) :
    (V m c main_v10 : Vec Ideal S16384x1024 .f32) (ix2 n d) = x (ix3 ⟨n.val / 2048, by omega⟩ ⟨n.val % 2048, by omega⟩ d) := by
  entry_read
  pointwise
  subst hx
  blk_ext []

include hg in
/-- The staged gains. -/
theorem stage_g (d : Fin 1024) : (V m c main_v1 : Vec Ideal S1x1024 .f32) (ix2 0 d) = g (ix2 0 d) := by
  entry_read
  pointwise
  subst hg
  blk_ext []

include hw in
/-- The staged weights. -/
theorem stage_w (d : Fin 1024) (f : Fin 2048) : (V m c main_v3 : Vec Ideal S1024x2048 .bf16) (ix2 d f) = w (ix3 0 d f) := by
  entry_read
  pointwise
  subst hw
  blk_ext []

include hw in
/-- The staged values' weights, transposed. -/
theorem stage_wv (r : Fin 512) (d : Fin 1024) : (V m c main_v5 : Vec Ideal S512x1024 .bf16) (ix2 r d) = w (ix3 0 d ⟨1536 + r.val, by omega⟩) := by
  entry_read
  pointwise
  subst hw
  blk_ext []

include hpw in
/-- The staged projections of the pooled heads. -/
theorem stage_pw (e : Fin 4) (a b : Fin 128) : (V m c main_v7 : Vec Ideal S4x128x128 .bf16) (ix3 e a b) = pw (ix4 0 e a b) := by
  entry_read
  pointwise
  subst hpw
  blk_ext []

include hps in
/-- The staged scales. -/
theorem stage_ps (l : Fin 512) : (V m c main_v9 : Vec Ideal S1x512 .f32) (ix2 0 l) = ps (ix2 0 l) := by
  entry_read
  pointwise
  subst hps
  blk_ext []

/-- The tokens' block at a point is the point's. -/
theorem map0 : ∀ t : Fin grid0.N, cc0_transform_0 (grid0.coords t) 0 = t.val ∧ cc0_transform_0 (grid0.coords t) 1 = 0 := by decide +kernel
/-- A point's coordinate is its number. -/
theorem coords0 : ∀ t : Fin grid0.N, (grid0.coords t 0).val = t.val := by decide +kernel

/-- There are sixteen points. -/
theorem lt16 (t : Fin cfg0.N) : t.val < 16 := lt_of_lt_of_eq t.isLt N_0

include hx in
/-- The block of the tokens at a point. -/
theorem in0 (t : Fin cfg0.N) (r d : Fin 1024) (hb hb') :
    (iblk m c 0 t : Vec Ideal S1024x1024 .f32) (ix2 r d)
      = x (ix3 ⟨(1024 * t.val + r.val) / 2048, hb⟩ ⟨(1024 * t.val + r.val) % 2048, hb'⟩ d) := by
  have ht := lt16 t
  refine Eq.trans ?_ (stage_x m c x hx ⟨1024 * t.val + r.val, by omega⟩ d)
  refine congrArg (V m c main_v10 : Vec Ideal S16384x1024 .f32) ?_
  have h := map0 t
  funext a
  fin_cases a <;> refine Fin.ext ?_
  · show cc0_transform_0 (grid0.coords t) 0 * 1024 + 1 * r.val = 1024 * t.val + r.val
    rw [h.1]
    omega
  · show cc0_transform_0 (grid0.coords t) 1 * 1024 + 1 * d.val = d.val
    rw [h.2]
    omega

include hg in
/-- The gains at a point. -/
theorem in1 (t : Fin cfg0.N) (d : Fin 1024) : (iblk m c 1 t : Vec Ideal S1x1024 .f32) (ix2 0 d) = g (ix2 0 d) := by
  refine Eq.trans ?_ (stage_g m c g hg d)
  refine congrArg (V m c main_v1 : Vec Ideal S1x1024 .f32) ?_
  funext a
  fin_cases a <;> refine Fin.ext ?_
  · show 0 * 1 + 1 * 0 = 0
    omega
  · show 0 * 1024 + 1 * d.val = d.val
    omega

include hw in
/-- The weights at a point. -/
theorem in2 (t : Fin cfg0.N) (d : Fin 1024) (f : Fin 2048) : (iblk m c 2 t : Vec Ideal S1024x2048 .bf16) (ix2 d f) = w (ix3 0 d f) := by
  refine Eq.trans ?_ (stage_w m c w hw d f)
  refine congrArg (V m c main_v3 : Vec Ideal S1024x2048 .bf16) ?_
  funext a
  fin_cases a <;> refine Fin.ext ?_
  · show 0 * 1024 + 1 * d.val = d.val
    omega
  · show 0 * 2048 + 1 * f.val = f.val
    omega

include hw in
/-- The values' weights at a point. -/
theorem in3 (t : Fin cfg0.N) (r : Fin 512) (d : Fin 1024) :
    (iblk m c 3 t : Vec Ideal S512x1024 .bf16) (ix2 r d) = w (ix3 0 d ⟨1536 + r.val, by omega⟩) := by
  refine Eq.trans ?_ (stage_wv m c w hw r d)
  refine congrArg (V m c main_v5 : Vec Ideal S512x1024 .bf16) ?_
  funext a
  fin_cases a <;> refine Fin.ext ?_
  · show 0 * 512 + 1 * r.val = r.val
    omega
  · show 0 * 1024 + 1 * d.val = d.val
    omega

include hpw in
/-- The pooled heads' projections at a point. -/
theorem in4 (t : Fin cfg0.N) (e : Fin 4) (a b : Fin 128) : (iblk m c 4 t : Vec Ideal S4x128x128 .bf16) (ix3 e a b) = pw (ix4 0 e a b) := by
  refine Eq.trans ?_ (stage_pw m c pw hpw e a b)
  refine congrArg (V m c main_v7 : Vec Ideal S4x128x128 .bf16) ?_
  funext i
  fin_cases i <;> refine Fin.ext ?_
  · show 0 * 4 + 1 * e.val = e.val
    omega
  · show 0 * 128 + 1 * a.val = a.val
    omega
  · show 0 * 128 + 1 * b.val = b.val
    omega

include hps in
/-- The scales at a point. -/
theorem in5 (t : Fin cfg0.N) (l : Fin 512) : (iblk m c 5 t : Vec Ideal S1x512 .f32) (ix2 0 l) = ps (ix2 0 l) := by
  refine Eq.trans ?_ (stage_ps m c ps hps l)
  refine congrArg (V m c main_v9 : Vec Ideal S1x512 .f32) ?_
  funext i
  fin_cases i <;> refine Fin.ext ?_
  · show 0 * 1 + 1 * 0 = 0
    omega
  · show 0 * 512 + 1 * l.val = l.val
    omega

end Stage

/-- The pooling heads' columns of a point's tile. -/
def uAt (c : Dev nD) (t : Fin cfg0.N) : FVec Ideal S1024x512 .f32 := ub (iblk m c 0 t) (iblk m c 1 t) (iblk m c 2 t)

/-- The sixteen rows before a point's tile: zeros at a batch's first tile, the last rows of the tile before at its second. -/
def before (c : Dev nD) (t : Fin cfg0.N) : Vec Ideal S16x512 .f32 :=
  if t.val % 2 = 0 then k0_pay17 (F := Ideal) else k0_pay19 (uAt m c ⟨t.val - 1, by omega⟩)

/-- What a point leaves in its blocks and in the carried rows. -/
theorem point (c : Dev nD) (t : Fin cfg0.N) : outsAt0 m c t.val t.isLt =
    (poolb (uAt m c t) (BitVec.ofNat 32 (t.val % 2)) (before m c t) (iblk m c 4 t) (iblk m c 5 t),
     k0_pay30 (uAt m c t), k0_pay6 (iblk m c 0 t) (iblk m c 1 t) (cols (iblk m c 2 t) 512 (by decide)),
     byHead (kb (iblk m c 0 t) (iblk m c 1 t) (iblk m c 2 t)), byHead (vb (iblk m c 0 t) (iblk m c 1 t) (iblk m c 2 t)),
     k0_pay31 (kb (iblk m c 0 t) (iblk m c 1 t) (iblk m c 2 t)), vtb (k0_pay4 (iblk m c 0 t) (iblk m c 1 t)) (iblk m c 3 t),
     k0_pay19 (uAt m c t)) := by
  by_cases h0 : t.val % 2 = 0
  · refine (outsAt0_A m c t h0).trans (congrArg₂ Prod.mk ((outA6 ..).trans ?_) (congrArg₂ Prod.mk (outA7 ..) (congrArg₂ Prod.mk (outA8 ..) (congrArg₂ Prod.mk (outA9 ..) (congrArg₂ Prod.mk (outA10 ..) (congrArg₂ Prod.mk (outA11 ..) (congrArg₂ Prod.mk (outA12 ..) (scrA ..))))))))
    rw [coords0 t]
    unfold before
    rw [if_pos h0]
    rfl
  · have h1 : (t.val - 1) % 2 = 0 := by omega
    have hc : (outsAt0 m c (t.val - 1) (by omega)).2.2.2.2.2.2.2 = k0_pay19 (uAt m c ⟨t.val - 1, by omega⟩) := by
      have hA := outsAt0_A m c ⟨t.val - 1, by omega⟩ h1
      refine (congrArg (fun p => p.2.2.2.2.2.2.2) hA).trans ?_
      dsimp only
      exact scrA ..
    refine (outsAt0_B m c t h0).trans (congrArg₂ Prod.mk ((outB6 ..).trans ?_) (congrArg₂ Prod.mk (outB7 ..) (congrArg₂ Prod.mk (outB8 ..) (congrArg₂ Prod.mk (outB9 ..) (congrArg₂ Prod.mk (outB10 ..) (congrArg₂ Prod.mk (outB11 ..) (congrArg₂ Prod.mk (outB12 ..) (scrB ..))))))))
    rw [coords0 t]
    unfold before
    rw [if_neg h0]
    exact congrArg (fun s => poolb (uAt m c t) (BitVec.ofNat 32 (t.val % 2)) s (iblk m c 4 t) (iblk m c 5 t)) hc

end Cert.ProjIdeal.Gen

end
-- ==== Proof.ProjPool.lean ====
/- A tile's pooled block, entry by entry. -/
module
public import proofs.«01_k».proof.Proof.ProjBlock

@[expose] public section

set_option maxRecDepth 16384

noncomputable section

namespace Cert.ProjIdeal.Gen

open Idealize.ShloMosaic Idealize.ShloMosaic.TcCoe Idealize.SL.Sem Cert.Proj

/-- A group's entry, by its column among all the columns. -/
theorem group_close (p : Nat → Nat → EReal) (W : Fin 4 → Fin 128 → Fin 128 → EReal) (x5 : Vec Ideal S1x512 .f32) (N : Nat) (e : Fin 4) (o : Nat)
    (ho : o + 128 ≤ 512) (k : Fin 128) (l : Fin 512) (h : l.val = o + k.val) (he : o = 128 * e.val) :
    poolEntry p W (pss x5 o ho (ix2 0 k)) N e k = poolEntry p W (x5 (ix2 0 l)) N ⟨l.val / 128, by omega⟩ ⟨l.val % 128, by omega⟩ := by
  have e1 : (⟨l.val / 128, by omega⟩ : Fin 4) = e := Fin.ext (by dsimp only; omega)
  have e2 : (⟨l.val % 128, by omega⟩ : Fin 128) = k := Fin.ext (by dsimp only; omega)
  rw [e1, e2]
  exact congrArg (fun z => poolEntry p W z N e k) (congrArg (fun z => x5 (ix2 0 z)) (Fin.ext h.symm))

section
variable (u : FVec Ideal S1024x512 .f32) (s : Vec Ideal S16x512 .f32) (p : Nat → Nat → EReal) (n0 half : Nat)
  (hu : ∀ (r : Fin 1024) (l : Fin 512), u (ix2 r l) = p (n0 + r.val) l.val)
  (hs : ∀ (r : Fin 16) (l : Fin 512), s (ix2 r l) = if half = 0 then 0 else p (n0 + r.val - 16) l.val)
  (hh : half < 2) (hn : n0 % 2048 = 1024 * half)
include hu hs hh hn

/-- The row `b` before a tile's row, with zeros before a batch's first token. -/
theorem ext_at (r : Fin 1024) (b : Nat) (hb : b < 16) (l : Fin 512) (h : 16 + r.val - b < 1040) :
    k0_pay18 u s (ix2 ⟨16 + r.val - b, h⟩ l) = if b ≤ (n0 + r.val) % 2048 then p (n0 + r.val - b) l.val else 0 := by
  have hr := r.isLt
  rw [pay18_at]
  by_cases h1 : 16 + r.val - b < 16
  · rw [dif_pos h1, hs]
    by_cases h2 : half = 0
    · rw [if_pos h2, if_neg (by omega)]
    · rw [if_neg h2, if_pos (by omega)]
      exact congrArg (fun z => p z l.val) (show n0 + (16 + r.val - b) - 16 = n0 + r.val - b by omega)
  · rw [dif_neg h1, hu, if_pos (by omega)]
    exact congrArg (fun z => p z l.val) (show n0 + (16 + r.val - b - 16) = n0 + r.val - b by omega)

/-- One group's pooled entry. -/
theorem group_at (e : Fin 4) (E V : FVec Ideal S1040x128 .f32)
    (hE : ∀ (r : Fin 1040) (l : Fin 128), E (ix2 r l) = k0_pay18 u s (ix2 r ⟨128 * e.val + l.val, by omega⟩))
    (hV : ∀ (l : Fin 128) (n : Nat), 15 ≤ n → n < 1040 → nat V l n = ∑ b ∈ Finset.range (2 ^ (e.val + 1)), nat E l (n - b))
    (w : BitVec 32) (hw : w = BitVec.ofNat 32 half)
    (cst : EReal) (hc : cst = ((2 ^ (e.val + 1) : ℝ) : EReal)) (pw : Vec Ideal S1x128x128 .bf16) (ps : Vec Ideal S1x128 .f32)
    (W : Fin 4 → Fin 128 → Fin 128 → EReal) (hpw : ∀ a b, pw (ix3 0 a b) = W e a b) (r : Fin 1024) (l : Fin 128) :
    k0_pay25 E V (k0_pay24 w) cst pw ps (ix2 r l) = poolEntry p W (ps (ix2 0 l)) (n0 + r.val) e l := by
  have hr := r.isLt
  have he : 2 ^ (e.val + 1) ≤ 16 := by
    have : e.val + 1 ≤ 4 := by omega
    exact (Nat.pow_le_pow_right (by decide) this)
  have row : ∀ (x : Fin 128) (b : Nat), b < 16 → nat E x (16 + r.val - b) = if b ≤ (n0 + r.val) % 2048 then p (n0 + r.val - b) (128 * e.val + x.val) else 0 := by
    intro x b hb
    rw [nat_of _ _ _ (show 16 + r.val - b < 1040 by omega), hE]
    exact ext_at u s p n0 half hu hs hh hn r b hb _ _
  have e1 : (fun x => nat V x (16 + r.val)) = fun x : Fin 128 => ∑ b ∈ Finset.range (2 ^ (e.val + 1)), if b ≤ (n0 + r.val) % 2048 then p (n0 + r.val - b) (128 * e.val + x.val) else 0 := by
    funext x
    rw [hV x _ (by omega) (by omega)]
    refine Finset.sum_congr rfl fun b hb => ?_
    exact row x b (by have := Finset.mem_range.1 hb; omega)
  have e2 : (fun x => nat E x (16 + r.val)) = fun x : Fin 128 => p (n0 + r.val) (128 * e.val + x.val) := by
    funext x
    exact (row x 0 (by decide)).trans (if_pos (Nat.zero_le _))
  have e3 : (fun x => pw (ix3 0 x l)) = fun x => W e x l := funext fun x => hpw x l
  have e4 : min cst ((k0_pay24 w : FVec Ideal S1024x1 .f32) (ix2 r 0)) = cnt e ((n0 + r.val) % 2048) := by
    rw [pay24_at, hw, hc]
    unfold cnt
    have hword : IntOp.addi (Scalar.muli (BitVec.ofNat 32 half) 1024#32) (BitVec.ofNat 32 r.val) = BitVec.ofNat 32 ((n0 + r.val) % 2048) := by
      have e5 : (n0 + r.val) % 2048 = half * 1024 + r.val := by omega
      rw [e5, BitVec.ofNat_add, BitVec.ofNat_mul]
      rfl
    rw [hword]
  rw [pay25_at, e1, e2, e3, e4]
  rfl

/-- A tile's pooled entry. -/
theorem poolb_at (w : BitVec 32) (hw : w = BitVec.ofNat 32 half) (x4 : Vec Ideal S4x128x128 .bf16) (x5 : Vec Ideal S1x512 .f32) (r : Fin 1024) (l : Fin 512) :
    poolb u w s x4 x5 (ix2 r l) = poolEntry p (fun e a b => x4 (ix3 e a b)) (x5 (ix2 0 l)) (n0 + r.val) ⟨l.val / 128, by omega⟩ ⟨l.val % 128, by omega⟩ := by
  have G := group_at u s p n0 half hu hs hh hn
  have hl := l.isLt
  unfold poolb four
  dsimp only
  by_cases h0 : l.val < 128
  · refine (dif_pos h0).trans ?_
    rw [pay21_eq]
    refine (G 0 _ _ (fun r l => (grp0_at _ r l).trans (congrArg (fun z => k0_pay18 u s (ix2 r z)) (Fin.ext (by simp)))) (fun l n h h' => win1 _ l n (by omega) h') w hw _ (two.trans (congrArg _ (by norm_num))) _ _ (fun e a b => x4 (ix3 e a b)) (fun a b => rfl) _ _).trans ?_
    exact group_close p _ x5 _ 0 0 _ ⟨l.val, h0⟩ l (by dsimp only; omega) (by simp)
  · refine (dif_neg h0).trans ?_
    by_cases h1 : l.val < 256
    · refine (dif_pos h1).trans ?_
      rw [pay25_eq]
      refine (G 1 _ _ (fun r l => (grp1_at _ r l).trans (congrArg (fun z => k0_pay18 u s (ix2 r z)) (Fin.ext (by simp)))) (fun l n h h' => win2 _ l n (by omega) h') w hw _ (fourr.trans (congrArg _ (by norm_num))) _ _ (fun e a b => x4 (ix3 e a b)) (fun a b => rfl) _ _).trans ?_
      exact group_close p _ x5 _ 1 128 _ ⟨l.val - 128, by omega⟩ l (by dsimp only; omega) (by simp)
    · refine (dif_neg h1).trans ?_
      by_cases h2 : l.val < 384
      · refine (dif_pos h2).trans ?_
        rw [pay28_eq]
        refine (G 2 _ _ (fun r l => (grp2_at _ r l).trans (congrArg (fun z => k0_pay18 u s (ix2 r z)) (Fin.ext (by simp)))) (fun l n h h' => win4 _ l n (by omega) h') w hw _ (eight.trans (congrArg _ (by norm_num))) _ _ (fun e a b => x4 (ix3 e a b)) (fun a b => rfl) _ _).trans ?_
        exact group_close p _ x5 _ 2 256 _ ⟨l.val - 256, by omega⟩ l (by dsimp only; omega) (by simp)
      · refine (dif_neg h2).trans ?_
        rw [pay29_eq]
        refine (G 3 _ _ (fun r l => (grp3_at _ r l).trans (congrArg (fun z => k0_pay18 u s (ix2 r z)) (Fin.ext (by simp)))) (fun l n h h' => win8 _ l n (by omega) h') w hw _ (sixteen.trans (congrArg _ (by norm_num))) _ _ (fun e a b => x4 (ix3 e a b)) (fun a b => rfl) _ _).trans ?_
        exact group_close p _ x5 _ 3 384 _ ⟨l.val - 384, by omega⟩ l (by dsimp only; omega) (by simp)

end

end Cert.ProjIdeal.Gen

end
-- ==== Proof.ProjValueAt.lean ====
/- The projection's result arrays, entry by entry. -/
module
public import proofs.«01_k».proof.Proof.ProjPoint
public import proofs.«01_k».proof.Proof.ProjPool

@[expose] public section

set_option maxRecDepth 16384

noncomputable section

namespace Cert.ProjIdeal.Gen

open Idealize.ShloMosaic Idealize.ShloMosaic.TcCoe Idealize.SL.Sem Cert.Proj Cert.ProjIdeal.Value

variable (m : (ℓ : Loc nD τ sig) → Buf (Elt Ideal) ℓ)

/-- The run's state at a point is the point's outputs. -/
theorem outs_of (c : Dev nD) (n n' : Nat) (h : 0 + n < cfg0.N) (e : n = n') (hn : n' < cfg0.N) :
    Pipeline.accAt (fun n h => stAt0 m c n h junk0) (stAt0 m c) 0 n h = outsAt0 m c n' hn := by
  subst e
  exact (outsAt0_sweep m c n hn).symm

/-- Every number below sixteen is a point. -/
theorem lt_N (n : Nat) (h : n < 16) : n < cfg0.N := lt_of_lt_of_eq h N_0.symm

section
variable (c : Dev nD)
  (x : Vec Ideal S8x2048x1024 .f32) (hx : m ((c : Thread nD τ).loc main_arg0) = x)
  (g : Vec Ideal S1x1024 .f32) (hg : m ((c : Thread nD τ).loc main_arg1) = g)
  (w : Vec Ideal S1x1024x2048 .f32) (hw : m ((c : Thread nD τ).loc main_arg2) = w)
  (pw : Vec Ideal S1x4x128x128 .f32) (hpw : m ((c : Thread nD τ).loc main_arg3) = pw)
  (ps : Vec Ideal S1x512 .f32) (hps : m ((c : Thread nD τ).loc main_arg4) = ps)

/-- A token's projection on a column, from the arguments. -/
abbrev pOf (x : Vec Ideal S8x2048x1024 .f32) (g : Vec Ideal S1x1024 .f32) (w : Vec Ideal S1x1024x2048 .f32) : Nat → Nat → EReal :=
  P (fun b t d => x (ix3 b t d)) (fun d => g (ix2 0 d)) (fun d f => w (ix3 0 d f))

section
include hx hg hw

/-- A point's projection on a column of the weights. -/
theorem prj_in (t : Fin cfg0.N) (r : Fin 1024) (f : Fin 2048) (q : Fin 1024 → EReal) (hq : ∀ d, q d = w (ix3 0 d f)) :
    prj (fun d => (iblk m c 0 t : Vec Ideal S1024x1024 .f32) (ix2 r d)) (fun d => (iblk m c 1 t : Vec Ideal S1x1024 .f32) (ix2 0 d)) q
      = pOf x g w (1024 * t.val + r.val) f.val := by
  have ht := lt16 t
  have hr := r.isLt
  refine Eq.trans ?_ (P_of _ _ _ (1024 * t.val + r.val) f.val (by omega) f.isLt (by omega) (by omega))
  rw [funext (fun d => in0 m c x hx t r d (by omega) (by omega)), funext (fun d => in1 m c g hg t d), funext hq]

/-- A point's pooling columns. -/
theorem u_at (t : Fin cfg0.N) (r : Fin 1024) (l : Fin 512) : uAt m c t (ix2 r l) = pOf x g w (1024 * t.val + r.val) l.val := by
  refine (pay5_at _ _ _ 0 _ r l).trans ((prj_in m c x hx g hg w hw t r ⟨0 + l.val, by omega⟩ _ (fun d => in2 m c w hw t d _)).trans ?_)
  exact congrArg (pOf x g w _) (Nat.zero_add _)

/-- A point's keys. -/
theorem k_at (t : Fin cfg0.N) (r : Fin 1024) (l : Fin 512) :
    kb (iblk m c 0 t) (iblk m c 1 t) (iblk m c 2 t) (ix2 r l) = pOf x g w (1024 * t.val + r.val) (1024 + l.val) :=
  (pay7_at _ _ _ 1024 _ r l).trans (prj_in m c x hx g hg w hw t r ⟨1024 + l.val, by omega⟩ _ (fun d => in2 m c w hw t d _))

/-- A point's values. -/
theorem v_at (t : Fin cfg0.N) (r : Fin 1024) (l : Fin 512) :
    vb (iblk m c 0 t) (iblk m c 1 t) (iblk m c 2 t) (ix2 r l) = pOf x g w (1024 * t.val + r.val) (1536 + l.val) :=
  (pay8_at _ _ _ 1536 _ r l).trans (prj_in m c x hx g hg w hw t r ⟨1536 + l.val, by omega⟩ _ (fun d => in2 m c w hw t d _))

/-- A point's scaled queries. -/
theorem q_at (t : Fin cfg0.N) (r : Fin 1024) (l : Fin 512) :
    k0_pay6 (iblk m c 0 t) (iblk m c 1 t) (cols (iblk m c 2 t) 512 (by decide)) (ix2 r l)
      = pOf x g w (1024 * t.val + r.val) (512 + l.val) * Ideal.ofBits .f32 1040187392#32 :=
  (pay6_at _ _ _ 512 _ r l).trans (congrArg (fun y => y * _) (prj_in m c x hx g hg w hw t r ⟨512 + l.val, by omega⟩ _ (fun d => in2 m c w hw t d _)))

/-- A point's turned values. -/
theorem vt_at (t : Fin cfg0.N) (a : Fin 2) (f k : Fin 512) :
    vtb (k0_pay4 (iblk m c 0 t) (iblk m c 1 t)) (iblk m c 3 t) (ix3 a f k) = pOf x g w (1024 * t.val + (512 * a.val + k.val)) (1536 + f.val) := by
  refine Eq.trans ?_ (prj_in m c x hx g hg w hw t ⟨512 * a.val + k.val, by omega⟩ ⟨1536 + f.val, by omega⟩ _ (fun d => in3 m c w hw t f d))
  unfold vtb prj
  exact Finset.sum_congr rfl fun d _ => congrArg (fun y => y * _) (pay4_at ..)

/-- The rows before a point's tile. -/
theorem before_at (t : Fin cfg0.N) (r : Fin 16) (l : Fin 512) :
    before m c t (ix2 r l) = if t.val % 2 = 0 then 0 else pOf x g w (1024 * t.val + r.val - 16) l.val := by
  unfold before
  by_cases h : t.val % 2 = 0
  · rw [if_pos h, if_pos h]
    exact pay17_at r l
  · rw [if_neg h, if_neg h]
    refine (pay19_at _ r l).trans ((u_at m c x hx g hg w hw ⟨t.val - 1, by omega⟩ ⟨1008 + r.val, by omega⟩ l).trans ?_)
    refine congrArg (fun y => pOf x g w y l.val) ?_
    dsimp only
    omega

include hpw hps in
/-- A point's pooled entry. -/
theorem pool_at (t : Fin cfg0.N) (r : Fin 1024) (l : Fin 512) :
    poolb (uAt m c t) (BitVec.ofNat 32 (t.val % 2)) (before m c t) (iblk m c 4 t) (iblk m c 5 t) (ix2 r l)
      = poolEntry (pOf x g w) (fun e a b => pw (ix4 0 e a b)) (ps (ix2 0 l)) (1024 * t.val + r.val) ⟨l.val / 128, by omega⟩ ⟨l.val % 128, by omega⟩ := by
  refine (poolb_at _ _ (pOf x g w) (1024 * t.val) (t.val % 2) (u_at m c x hx g hg w hw t) (before_at m c x hx g hg w hw t) (by omega) (by omega) _ rfl _ _ r l).trans ?_
  rw [in5 m c ps hps t l, show (fun e a b => (iblk m c 4 t : Vec Ideal S4x128x128 .bf16) (ix3 e a b)) = fun e a b => pw (ix4 0 e a b) from
    funext fun e => funext fun a => funext fun b => in4 m c pw hpw t e a b]

end

section
include hx hg hw

include hpw hps in
/-- The pooled result. -/
theorem G6_at (n : Fin 16384) (l : Fin 512) : (G6 m c : Vec Ideal S16384x512 .bf16) (ix2 n l)
    = poolEntry (pOf x g w) (fun e a b => pw (ix4 0 e a b)) (ps (ix2 0 l)) n.val ⟨l.val / 128, by omega⟩ ⟨l.val % 128, by omega⟩ := by
  have hl := l.isLt
  have hp : pt6Of (ix2 n l) = n.val / 1024 := by
    show 1 * (n.val / 1024 - 0) + 1 * (l.val / 512 - 0) = _
    omega
  have hN := lt_N (n.val / 1024) (by omega)
  refine (dif_pos (lt_of_eq_of_lt hp hN)).trans ?_
  rw [outs_of m c _ _ _ hp hN]
  have e := congrArg (fun o => o.1) (point m c ⟨n.val / 1024, hN⟩)
  refine (congrFun e _).trans ?_
  have hi : loc6Of (ix2 n l) = ix2 ⟨n.val % 1024, Nat.mod_lt _ (by decide)⟩ l := by
    funext a
    fin_cases a
    · rfl
    · exact Fin.ext (Nat.mod_eq_of_lt hl)
  rw [hi]
  refine (pool_at m c x hx g hg w hw pw hpw ps hps _ _ l).trans ?_
  exact congrArg (fun y => poolEntry _ _ _ y _ _) (Nat.div_add_mod n.val 1024)

/-- The last rows of each batch's pooling columns. -/
theorem G7_at (b : Fin 8) (j : Fin 16) (l : Fin 512) : (G7 m c : Vec Ideal S8x16x512 .f32) (ix3 b j l)
    = pOf x g w (2048 * b.val + (2032 + j.val)) l.val := by
  have hb := b.isLt
  have hj := j.isLt
  have hl := l.isLt
  have hp : pt7Of (ix3 b j l) = 2 * b.val + 1 := by
    show 2 * (1 * (b.val / 1 - 0) + 1 * (j.val / 16 - 0) + 1 * (l.val / 512 - 0)) + 1 = _
    omega
  have hN := lt_N (2 * b.val + 1) (by omega)
  refine (dif_pos (lt_of_eq_of_lt hp hN)).trans ?_
  rw [outs_of m c _ _ _ hp hN]
  have e := congrArg (fun o => o.2.1) (point m c ⟨2 * b.val + 1, hN⟩)
  refine (congrFun e _).trans ?_
  have hi : loc7Of (ix3 b j l) = ix3 0 j l := by
    funext a
    fin_cases a
    · exact Fin.ext (Nat.mod_one _)
    · exact Fin.ext (Nat.mod_eq_of_lt hj)
    · exact Fin.ext (Nat.mod_eq_of_lt hl)
  rw [hi]
  refine (pay30_at _ j l).trans ((u_at m c x hx g hg w hw _ _ l).trans ?_)
  refine congrArg (fun y => pOf x g w y l.val) ?_
  dsimp only
  omega

/-- The scaled queries. -/
theorem G8_at (n : Fin 16384) (l : Fin 512) : (G8 m c : Vec Ideal S16384x512 .f32) (ix2 n l)
    = pOf x g w n.val (512 + l.val) * Ideal.ofBits .f32 1040187392#32 := by
  have hl := l.isLt
  have hp : pt8Of (ix2 n l) = n.val / 1024 := by
    show 1 * (n.val / 1024 - 0) + 1 * (l.val / 512 - 0) = _
    omega
  have hN := lt_N (n.val / 1024) (by omega)
  refine (dif_pos (lt_of_eq_of_lt hp hN)).trans ?_
  rw [outs_of m c _ _ _ hp hN]
  have e := congrArg (fun o => o.2.2.1) (point m c ⟨n.val / 1024, hN⟩)
  refine (congrFun e _).trans ?_
  have hi : loc8Of (ix2 n l) = ix2 ⟨n.val % 1024, Nat.mod_lt _ (by decide)⟩ l := by
    funext a
    fin_cases a
    · rfl
    · exact Fin.ext (Nat.mod_eq_of_lt hl)
  rw [hi]
  refine (q_at m c x hx g hg w hw _ _ l).trans ?_
  exact congrArg (fun y => pOf x g w y (512 + l.val) * _) (Nat.div_add_mod n.val 1024)

/-- The keys by heads. -/
theorem G9_at (n : Fin 65536) (l : Fin 128) : (G9 m c : Vec Ideal S65536x128 .f32) (ix2 n l)
    = pOf x g w (n.val / 4) (1024 + (128 * (n.val % 4) + l.val)) := by
  have hl := l.isLt
  have hp : pt9Of (ix2 n l) = n.val / 4096 := by
    show 1 * (n.val / 4096 - 0) + 1 * (l.val / 128 - 0) = _
    omega
  have hN := lt_N (n.val / 4096) (by omega)
  refine (dif_pos (lt_of_eq_of_lt hp hN)).trans ?_
  rw [outs_of m c _ _ _ hp hN]
  have e := congrArg (fun o => o.2.2.2.1) (point m c ⟨n.val / 4096, hN⟩)
  refine (congrFun e _).trans ?_
  have hi : loc9Of (ix2 n l) = ix2 ⟨n.val % 4096, Nat.mod_lt _ (by decide)⟩ l := by
    funext a
    fin_cases a
    · rfl
    · exact Fin.ext (Nat.mod_eq_of_lt hl)
  rw [hi]
  refine (k_at m c x hx g hg w hw _ ⟨n.val % 4096 / 4, by omega⟩ ⟨128 * (n.val % 4096 % 4) + l.val, by omega⟩).trans ?_
  refine congrArg₂ (pOf x g w) ?_ ?_ <;> (dsimp only; omega)

/-- The values by heads. -/
theorem G10_at (n : Fin 65536) (l : Fin 128) : (G10 m c : Vec Ideal S65536x128 .f32) (ix2 n l)
    = pOf x g w (n.val / 4) (1536 + (128 * (n.val % 4) + l.val)) := by
  have hl := l.isLt
  have hp : pt10Of (ix2 n l) = n.val / 4096 := by
    show 1 * (n.val / 4096 - 0) + 1 * (l.val / 128 - 0) = _
    omega
  have hN := lt_N (n.val / 4096) (by omega)
  refine (dif_pos (lt_of_eq_of_lt hp hN)).trans ?_
  rw [outs_of m c _ _ _ hp hN]
  have e := congrArg (fun o => o.2.2.2.2.1) (point m c ⟨n.val / 4096, hN⟩)
  refine (congrFun e _).trans ?_
  have hi : loc10Of (ix2 n l) = ix2 ⟨n.val % 4096, Nat.mod_lt _ (by decide)⟩ l := by
    funext a
    fin_cases a
    · rfl
    · exact Fin.ext (Nat.mod_eq_of_lt hl)
  rw [hi]
  refine (v_at m c x hx g hg w hw _ ⟨n.val % 4096 / 4, by omega⟩ ⟨128 * (n.val % 4096 % 4) + l.val, by omega⟩).trans ?_
  refine congrArg₂ (pOf x g w) ?_ ?_ <;> (dsimp only; omega)

/-- The keys by tokens. -/
theorem G11_at (n : Fin 16384) (l : Fin 512) : (G11 m c : Vec Ideal S16384x512 .bf16) (ix2 n l)
    = pOf x g w n.val (1024 + l.val) := by
  have hl := l.isLt
  have hp : pt11Of (ix2 n l) = n.val / 1024 := by
    show 1 * (n.val / 1024 - 0) + 1 * (l.val / 512 - 0) = _
    omega
  have hN := lt_N (n.val / 1024) (by omega)
  refine (dif_pos (lt_of_eq_of_lt hp hN)).trans ?_
  rw [outs_of m c _ _ _ hp hN]
  have e := congrArg (fun o => o.2.2.2.2.2.1) (point m c ⟨n.val / 1024, hN⟩)
  refine (congrFun e _).trans ?_
  have hi : loc11Of (ix2 n l) = ix2 ⟨n.val % 1024, Nat.mod_lt _ (by decide)⟩ l := by
    funext a
    fin_cases a
    · rfl
    · exact Fin.ext (Nat.mod_eq_of_lt hl)
  rw [hi]
  refine (pay31_at _ _ l).trans ((k_at m c x hx g hg w hw _ _ l).trans ?_)
  exact congrArg (fun y => pOf x g w y (1024 + l.val)) (Nat.div_add_mod n.val 1024)

/-- The values, each tile turned. -/
theorem G12_at (a : Fin 32) (f k : Fin 512) : (G12 m c : Vec Ideal S32x512x512 .bf16) (ix3 a f k)
    = pOf x g w (512 * a.val + k.val) (1536 + f.val) := by
  have ha := a.isLt
  have hf := f.isLt
  have hk := k.isLt
  have hp : pt12Of (ix3 a f k) = a.val / 2 := by
    show 1 * (a.val / 2 - 0) + 1 * (f.val / 512 - 0) + 1 * (k.val / 512 - 0) = _
    omega
  have hN := lt_N (a.val / 2) (by omega)
  refine (dif_pos (lt_of_eq_of_lt hp hN)).trans ?_
  rw [outs_of m c _ _ _ hp hN]
  have e := congrArg (fun o => o.2.2.2.2.2.2.1) (point m c ⟨a.val / 2, hN⟩)
  refine (congrFun e _).trans ?_
  have hi : loc12Of (ix3 a f k) = ix3 ⟨a.val % 2, Nat.mod_lt _ (by decide)⟩ f k := by
    funext y
    fin_cases y
    · rfl
    · exact Fin.ext (Nat.mod_eq_of_lt hf)
    · exact Fin.ext (Nat.mod_eq_of_lt hk)
  rw [hi]
  refine (vt_at m c x hx g hg w hw _ _ f k).trans ?_
  refine congrArg (fun y => pOf x g w y (1536 + f.val)) ?_
  dsimp only
  omega

end

end

end Cert.ProjIdeal.Gen

end
-- ==== Proof.ProjReference.lean ====
/- The projection's reference, read at an entry. -/
module
public import proofs.«01_k».proof.Proof.Gen.ProjReferenceIdeal.Run
public import proofs.«01_k».proof.Proof.ProjLayers
public import Idealize.ShloMosaic.Lib.Pointwise

@[expose] public section

set_option maxRecDepth 16384

noncomputable section

namespace Cert.ProjRef
open Cert.ProjReferenceIdeal Cert.ProjReferenceIdeal.Gen

open Idealize.ShloMosaic Idealize.ShloMosaic.TcCoe Idealize.SL.Sem Cert.Proj

/-- The projection of every token's normalized row. -/
def projected (a0 : FVec Ideal S8x2048x1024 .f32) (a1 : FVec Ideal S1x1024 .f32) (a2 : FVec Ideal S1x1024x2048 .f32) : FVec Ideal S8x2048x2048 .f32 :=
  Host.dotGeneral dot_S8x2048x1024_S1024x2048_S8x2048x2048_2_0_01_1_n_n none (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ a1 shapeCasts_S1x1024_S1024)))) (shapeCast _ a2 shapeCasts_S1x1024x2048_S1024x2048)

/-- The pooling heads' columns. -/
def heads (z : FVec Ideal S8x2048x2048 .f32) : FVec Ideal S8x2048x512 .f32 :=
  extractStridedSlice S8x2048x512 ![0, 0, 0] z slices_S8x2048x2048_S8x2048x512_0_0_0

/-- Whether a token is in another's trailing window, by groups. -/
def inside : FVec Ideal S4x2048x2048 .f32 :=
  uitofp .f32 (andi (broadcastInDim S4x2048x2048 ![0, 1, 2] bcast_S1x2048x2048_S4x2048x2048_0_1_2 (cmpi .sge (broadcastInDim S1x2048x2048 ![1, 2] bcast_S2048x2048_S1x2048x2048_1_2 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S1x2048x2048 ![] bcast_S_S1x2048x2048 (constantI S_ 32 0#32)))) (cmpi .slt (broadcastInDim S4x2048x2048 ![0, 1, 2] bcast_S1x2048x2048_S4x2048x2048_0_1_2 (broadcastInDim S1x2048x2048 ![1, 2] bcast_S2048x2048_S1x2048x2048_1_2 (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S4x2048x2048 ![0, 1, 2] bcast_S4x1x1_S4x2048x2048_0_1_2 (broadcastInDim S4x1x1 ![0] bcast_S4_S4x1x1_0 (Host.shli (broadcastInDim S4 ![] bcast_S_S4 (constantI S_ 32 2#32)) (iotaInDim S4 32 0))))))

/-- How many tokens a window holds. -/
def counts : FVec Ideal S2048x4 .f32 :=
  minimumf (broadcastInDim S2048x4 ![0, 1] bcast_S1x4_S2048x4_0_1 (broadcastInDim S1x4 ![1] bcast_S4_S1x4_1 (sitofp .f32 (Host.shli (broadcastInDim S4 ![] bcast_S_S4 (constantI S_ 32 2#32)) (iotaInDim S4 32 0))))) (broadcastInDim S2048x4 ![0, 1] bcast_S2048x1_S2048x4_0_1 (addf (broadcastInDim S2048x1 ![0] bcast_S2048_S2048x1_0 (sitofp .f32 (iotaInDim S2048 32 0))) (broadcastInDim S2048x1 ![] bcast_S_S2048x1 (constant S_ .f32 0x3F800000#32))))

/-- The windows' means less the tokens. -/
def diff (u : FVec Ideal S8x2048x512 .f32) : FVec Ideal S8x2048x4x128 .f32 :=
  subf (Host.divf (transpose S8x2048x4x128 [1, 3, 0, 2] (Host.dotGeneral dot_S8x2048x4x128_S4x2048x2048_S4x8x128x2048_1_2_03_1_2_0 none (shapeCast _ u shapeCasts_S8x2048x512_S8x2048x4x128) inside) transposes_S4x8x128x2048_S8x2048x4x128_1_3_0_2) (broadcastInDim S8x2048x4x128 ![0, 1, 2, 3] bcast_S1x2048x4x1_S8x2048x4x128_0_1_2_3 (broadcastInDim S1x2048x4x1 ![1, 2] bcast_S2048x4_S1x2048x4x1_1_2 counts))) (shapeCast _ u shapeCasts_S8x2048x512_S8x2048x4x128)

/-- The pooled heads. -/
def pooled (u : FVec Ideal S8x2048x512 .f32) (a3 : FVec Ideal S1x4x128x128 .f32) (a4 : FVec Ideal S1x512 .f32) : FVec Ideal S16384x512 .bf16 :=
  truncf .bf16 (shapeCast _ (mulf (shapeCast _ (transpose S8x2048x4x128 [2, 3, 0, 1] (Host.dotGeneral dot_S4x128x128_S8x2048x4x128_S4x128x8x2048_1_3_2_01_0_2 none (shapeCast _ a3 shapeCasts_S1x4x128x128_S4x128x128) (diff u)) transposes_S4x128x8x2048_S8x2048x4x128_2_3_0_1) shapeCasts_S8x2048x4x128_S8x2048x512) (broadcastInDim S8x2048x512 ![0, 1, 2] bcast_S1x1x512_S8x2048x512_0_1_2 (broadcastInDim S1x1x512 ![2] bcast_S512_S1x1x512_2 (shapeCast _ a4 shapeCasts_S1x512_S512)))) shapeCasts_S8x2048x512_S16384x512) bitsLt_bf16_f32

/-- The projection, at an entry. -/
theorem projected_at (a0 : FVec Ideal S8x2048x1024 .f32) (a1 : FVec Ideal S1x1024 .f32) (a2 : FVec Ideal S1x1024x2048 .f32)
    (b : Fin 8) (t f : Fin 2048) : projected a0 a1 a2 (ix3 b t f)
      = prj (fun d => a0 (ix3 b t d)) (fun d => a1 (ix2 0 d)) (fun d => a2 (ix3 0 d f)) := by
  pointwise [projected]
  rfl

/-- The pooling columns, at an entry. -/
theorem heads_at (z : FVec Ideal S8x2048x2048 .f32) (b : Fin 8) (t : Fin 2048) (l : Fin 512) :
    heads z (ix3 b t l) = z (ix3 b t ⟨l.val, by omega⟩) := by
  pointwise [heads]

/-- The shifted word: the window's length. -/
theorem shl_at (e : Fin 4) : IntOp.shli ArithUnit.host (2#32) (BitVec.ofNat 32 e.val) = BitVec.ofNat 32 (2 ^ (e.val + 1)) := by
  fin_cases e <;> rfl

/-- The difference of two tokens' numbers, as a signed word. -/
theorem sub_toInt (t s : Fin 2048) : (IntOp.subi (BitVec.ofNat 32 t.val) (BitVec.ofNat 32 s.val)).toInt = (t.val : Int) - s.val := by
  have ht := t.isLt
  have hs := s.isLt
  unfold IntOp.subi
  rw [BitVec.toInt_sub]
  have e1 : (BitVec.ofNat 32 t.val).toInt = t.val := by
    rw [BitVec.toInt_eq_toNat_cond, BitVec.toNat_ofNat]
    split <;> omega
  have e2 : (BitVec.ofNat 32 s.val).toInt = s.val := by
    rw [BitVec.toInt_eq_toNat_cond, BitVec.toNat_ofNat]
    split <;> omega
  rw [e1, e2]
  exact Int.bmod_eq_of_le (by omega) (by omega)

/-- The word one as a number. -/
theorem one_word : FloatOps.uitofp (F := Ideal) FTy.f32 1#1 = 1 := by
  show (((1#1 : BitVec 1).toNat : ℝ) : EReal) = 1
  norm_num
/-- The word zero as a number. -/
theorem zero_word : FloatOps.uitofp (F := Ideal) FTy.f32 0#1 = 0 := by
  show (((0#1 : BitVec 1).toNat : ℝ) : EReal) = 0
  norm_num

/-- Whether a token is in a window. -/
theorem inside_at (e : Fin 4) (t s : Fin 2048) : inside (ix3 e t s) = if s.val ≤ t.val ∧ t.val < s.val + 2 ^ (e.val + 1) then 1 else 0 := by
  pointwise [inside]
  rw [shl_at]
  have hd := sub_toInt t s
  generalize IntOp.subi (BitVec.ofNat 32 t.val) (BitVec.ofNat 32 s.val) = d at hd ⊢
  have he : (BitVec.ofNat 32 (2 ^ (e.val + 1))).toInt = (2 ^ (e.val + 1) : Nat) := by fin_cases e <;> rfl
  generalize BitVec.ofNat 32 (2 ^ (e.val + 1)) = v at he ⊢
  generalize 2 ^ (e.val + 1) = w at he ⊢
  unfold IntOp.cmpi IntOp.andi
  simp only [BitVec.sle, BitVec.slt, hd, he]
  by_cases h1 : s.val ≤ t.val
  · by_cases h2 : t.val < s.val + w
    · simp [h1, h2, show (t.val : Int) - s.val < w by omega]
      exact one_word
    · simp [h1, h2, show ¬ (t.val : Int) - s.val < w by omega]
      exact zero_word
  · simp [h1]
    exact zero_word

/-- How many tokens a window holds, at an entry. -/
theorem counts_at (e : Fin 4) (t : Fin 2048) : counts (ix2 t e) = cnt e t.val := by
  pointwise [counts]
  rw [shl_at]
  unfold cnt
  refine congrArg (fun z => min z _) ?_
  show (((BitVec.ofNat 32 (2 ^ (e.val + 1))).toInt : ℝ) : EReal) = _
  have he : (BitVec.ofNat 32 (2 ^ (e.val + 1))).toInt = (2 ^ (e.val + 1) : Nat) := by fin_cases e <;> rfl
  rw [he]
  push_cast
  rfl

/-- A window's mean less its token, at an entry. -/
theorem diff_at (u : FVec Ideal S8x2048x512 .f32) (p : Nat → Nat → EReal) (hu : ∀ (b : Fin 8) (t : Fin 2048) (l : Fin 512), u (ix3 b t l) = p (2048 * b.val + t.val) l.val)
    (b : Fin 8) (t : Fin 2048) (e : Fin 4) (k : Fin 128) : diff u (ix4 b t e k)
      = Ideal.div (∑ q ∈ Finset.range (2 ^ (e.val + 1)), if q ≤ t.val then p (2048 * b.val + t.val - q) (128 * e.val + k.val) else 0) (cnt e t.val)
        - p (2048 * b.val + t.val) (128 * e.val + k.val) := by
  pointwise [diff]
  simp only [hu, inside_at, counts_at, Nat.mul_comm e.val 128]
  rw [window_sum (fun x => p (2048 * b.val + x) (128 * e.val + k.val)) t.val _ t.isLt]
  refine congrArg (fun z => Ideal.div z _ - _) (Finset.sum_congr rfl fun q _ => ?_)
  by_cases h : q ≤ t.val
  · rw [if_pos h, if_pos h, Nat.add_sub_assoc h]
  · rw [if_neg h, if_neg h]

/-- The pooled heads, at an entry. -/
theorem pooled_at (u : FVec Ideal S8x2048x512 .f32) (p : Nat → Nat → EReal) (hu : ∀ (b : Fin 8) (t : Fin 2048) (l : Fin 512), u (ix3 b t l) = p (2048 * b.val + t.val) l.val)
    (a3 : FVec Ideal S1x4x128x128 .f32) (a4 : FVec Ideal S1x512 .f32) (n : Fin 16384) (j : Fin 512) :
    pooled u a3 a4 (ix2 n j) = poolEntry p (fun e a b => a3 (ix4 0 e a b)) (a4 (ix2 0 j)) n.val ⟨j.val / 128, by omega⟩ ⟨j.val % 128, by omega⟩ := by
  pointwise [pooled]
  simp only [diff_at u p hu]
  unfold poolEntry mix
  have e : 2048 * (n.val / 2048) + n.val % 2048 = n.val := by omega
  refine congrArg (fun z => z * _) (Finset.sum_congr rfl fun x _ => ?_)
  dsimp only
  rw [e]
  exact mul_comm _ _

end Cert.ProjRef

end
-- ==== Proof.ProjResults.lean ====
/- The projection's reference: its results, entry by entry. -/
module
public import proofs.«01_k».proof.Proof.ProjReference

@[expose] public section

set_option maxRecDepth 16384

noncomputable section

namespace Cert.ProjRef
open Cert.ProjReferenceIdeal Cert.ProjReferenceIdeal.Gen

open Idealize.ShloMosaic Idealize.ShloMosaic.TcCoe Idealize.SL.Sem Cert.Proj

/-- The last rows of each batch's pooling columns. -/
def resTail (z : FVec Ideal S8x2048x2048 .f32) : FVec Ideal S8x16x512 .f32 :=
  extractStridedSlice S8x16x512 ![0, 2032, 0] (extractStridedSlice S8x2048x512 ![0, 0, 0] z slices_S8x2048x2048_S8x2048x512_0_0_0) slices_S8x2048x512_S8x16x512_0_2032_0

/-- The scaled queries. -/
def resQ (z : FVec Ideal S8x2048x2048 .f32) : FVec Ideal S16384x512 .f32 :=
  shapeCast _ (mulf (extractStridedSlice S8x2048x512 ![0, 0, 512] z slices_S8x2048x2048_S8x2048x512_0_0_512) (broadcastInDim S8x2048x512 ![] bcast_S_S8x2048x512 (constant S_ .f32 0x3E000000#32))) shapeCasts_S8x2048x512_S16384x512

/-- The keys by heads. -/
def resK (z : FVec Ideal S8x2048x2048 .f32) : FVec Ideal S65536x128 .f32 :=
  shapeCast _ (extractStridedSlice S8x2048x512 ![0, 0, 1024] z slices_S8x2048x2048_S8x2048x512_0_0_1024) shapeCasts_S8x2048x512_S65536x128

/-- The values by heads. -/
def resV (z : FVec Ideal S8x2048x2048 .f32) : FVec Ideal S65536x128 .f32 :=
  shapeCast _ (extractStridedSlice S8x2048x512 ![0, 0, 1536] z slices_S8x2048x2048_S8x2048x512_0_0_1536) shapeCasts_S8x2048x512_S65536x128

/-- The keys by tokens. -/
def resKb (z : FVec Ideal S8x2048x2048 .f32) : FVec Ideal S16384x512 .bf16 :=
  truncf .bf16 (shapeCast _ (extractStridedSlice S8x2048x512 ![0, 0, 1024] z slices_S8x2048x2048_S8x2048x512_0_0_1024) shapeCasts_S8x2048x512_S16384x512) bitsLt_bf16_f32

/-- The values, each tile turned. -/
def resVt (z : FVec Ideal S8x2048x2048 .f32) : FVec Ideal S32x512x512 .bf16 :=
  truncf .bf16 (transpose S32x512x512 [0, 2, 1] (shapeCast _ (extractStridedSlice S8x2048x512 ![0, 0, 1536] z slices_S8x2048x2048_S8x2048x512_0_0_1536) shapeCasts_S8x2048x512_S32x512x512) transposes_S32x512x512_S32x512x512_0_2_1) bitsLt_bf16_f32

section
variable (z : FVec Ideal S8x2048x2048 .f32) (p : Nat → Nat → EReal) (hz : ∀ (b : Fin 8) (t f : Fin 2048), z (ix3 b t f) = p (2048 * b.val + t.val) f.val)
include hz

/-- The last rows of each batch's pooling columns, at an entry. -/
theorem resTail_at (b : Fin 8) (j : Fin 16) (l : Fin 512) : resTail z (ix3 b j l) = p (2048 * b.val + (2032 + j.val)) l.val := by
  pointwise [resTail]
  rw [hz]

/-- The scaled queries, at an entry. -/
theorem resQ_at (n : Fin 16384) (j : Fin 512) : resQ z (ix2 n j) = p n.val (512 + j.val) * Ideal.ofBits .f32 1040187392#32 := by
  pointwise [resQ]
  rw [hz]
  refine congrArg (fun y => y * _) (congrArg₂ p ?_ ?_) <;> first | rfl | omega | (dsimp only; omega)

/-- The keys by heads, at an entry. -/
theorem resK_at (i : Fin 65536) (l : Fin 128) : resK z (ix2 i l) = p (i.val / 4) (1024 + (128 * (i.val % 4) + l.val)) := by
  pointwise [resK]
  rw [hz]
  refine congrArg₂ p ?_ ?_ <;> first | rfl | omega | (dsimp only; omega)

/-- The values by heads, at an entry. -/
theorem resV_at (i : Fin 65536) (l : Fin 128) : resV z (ix2 i l) = p (i.val / 4) (1536 + (128 * (i.val % 4) + l.val)) := by
  pointwise [resV]
  rw [hz]
  refine congrArg₂ p ?_ ?_ <;> first | rfl | omega | (dsimp only; omega)

/-- The keys by tokens, at an entry. -/
theorem resKb_at (n : Fin 16384) (j : Fin 512) : resKb z (ix2 n j) = p n.val (1024 + j.val) := by
  pointwise [resKb]
  rw [hz]
  refine congrArg₂ p ?_ ?_ <;> first | rfl | omega | (dsimp only; omega)

/-- The values, each tile turned, at an entry. -/
theorem resVt_at (a : Fin 32) (f k : Fin 512) : resVt z (ix3 a f k) = p (512 * a.val + k.val) (1536 + f.val) := by
  pointwise [resVt]
  rw [hz]
  refine congrArg₂ p ?_ ?_ <;> first | rfl | omega | (dsimp only; omega)

end

section
variable (m : (ℓ : Loc nD τ sig) → Buf (Elt Ideal) ℓ) (c : Dev nD)

/-- The pooled result, by the named steps. -/
theorem pooled_eq : Value.res_main_v66 m c = pooled (heads (projected (m ((c.tc : Thread nD τ).loc main_arg0)) (m ((c.tc : Thread nD τ).loc main_arg1)) (m ((c.tc : Thread nD τ).loc main_arg2))))
    (m ((c.tc : Thread nD τ).loc main_arg3)) (m ((c.tc : Thread nD τ).loc main_arg4)) := rfl

end

/-- The reference's projection by tokens' and columns' numbers. -/
theorem projected_P (a0 : FVec Ideal S8x2048x1024 .f32) (a1 : FVec Ideal S1x1024 .f32) (a2 : FVec Ideal S1x1024x2048 .f32)
    (b : Fin 8) (t f : Fin 2048) : projected a0 a1 a2 (ix3 b t f)
      = P (fun b t d => a0 (ix3 b t d)) (fun d => a1 (ix2 0 d)) (fun d f => a2 (ix3 0 d f)) (2048 * b.val + t.val) f.val := by
  have hb := b.isLt
  have ht := t.isLt
  rw [projected_at]
  refine Eq.trans ?_ (P_of _ _ _ (2048 * b.val + t.val) f.val (by omega) f.isLt (by omega) (by omega))
  refine congrArg (fun y => prj y _ _) (funext fun d => congrArg a0 ?_)
  have e1 : (⟨(2048 * b.val + t.val) / 2048, by omega⟩ : Fin 8) = b := Fin.ext (by dsimp only; omega)
  have e2 : (⟨(2048 * b.val + t.val) % 2048, by omega⟩ : Fin 2048) = t := Fin.ext (by dsimp only; omega)
  rw [e1, e2]

/-- The pooling heads' columns by tokens' and columns' numbers. -/
theorem heads_P (a0 : FVec Ideal S8x2048x1024 .f32) (a1 : FVec Ideal S1x1024 .f32) (a2 : FVec Ideal S1x1024x2048 .f32)
    (b : Fin 8) (t : Fin 2048) (l : Fin 512) : heads (projected a0 a1 a2) (ix3 b t l)
      = P (fun b t d => a0 (ix3 b t d)) (fun d => a1 (ix2 0 d)) (fun d f => a2 (ix3 0 d f)) (2048 * b.val + t.val) l.val :=
  (heads_at _ b t l).trans (projected_P a0 a1 a2 b t _)

end Cert.ProjRef

end
-- ==== Proof.ProjAlgebraic.lean ====
/- The projection and its reference: the frames, and that they end with the same arrays. -/
module
public import proofs.«01_k».proof.Defs
public import proofs.«01_k».proof.Proof.Gen.Proj
public import proofs.«01_k».proof.Proof.ProjValueAt
public import proofs.«01_k».proof.Proof.ProjResults

@[expose] public section

set_option maxRecDepth 16384

noncomputable section

namespace Cert.ProjRun

open Idealize.ShloMosaic Idealize.ShloMosaic.TcCoe Idealize.SL.Sem

/-- Arrays of two axes with the same entries are equal. -/
theorem ext2 {a b : Nat} {α : Type} (f g : (⟨2, ![a, b]⟩ : Shape).Idx → α) (h : ∀ (n : Fin a) (l : Fin b), f (ix2 n l) = g (ix2 n l)) : f = g := by
  funext i
  exact (congrArg f (ValueIdx.eq_ix2 i)).trans ((h _ _).trans (congrArg g (ValueIdx.eq_ix2 i)).symm)

/-- Arrays of three axes with the same entries are equal. -/
theorem ext3 {a b d : Nat} {α : Type} (f g : (⟨3, ![a, b, d]⟩ : Shape).Idx → α)
    (h : ∀ (n : Fin a) (l : Fin b) (k : Fin d), f (ix3 n l k) = g (ix3 n l k)) : f = g := by
  funext i
  exact (congrArg f (ValueIdx.eq_ix3 i)).trans ((h _ _ _).trans (congrArg g (ValueIdx.eq_ix3 i)).symm)

/-- The idealized program's frame. -/
theorem frame_ideal : Cert.quiescent_ProjIdeal (hProjIdeal := Cert.ProjIdeal.Gen.facts) := fun m ρ _ =>
  Cert.ProjIdeal.Gen.frame m ρ

section
open Cert.ProjIdeal

/-- The idealized program's frame, over the words. -/
def frameBits : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0)

end

/-- The two programs have the same text, so the run over the words is the other program's frame. -/
theorem frame_kernel : Cert.quiescent_Proj (hProj := Cert.Proj.Gen.facts) := by
  have h : frameBits := fun m ρ _ => Cert.ProjIdeal.Gen.frame (F := Bits) m ρ
  have e : Cert.quiescent_Proj (hProj := Cert.Proj.Gen.facts) = frameBits := by sl_kernel_rfl
  rw [e]
  exact h

/-- The reference runs and leaves its arguments, and no counter, since it has none. -/
theorem frame_reference : Cert.quiescent_ProjReferenceIdeal (hProjReferenceIdeal := Cert.ProjReferenceIdeal.Gen.facts) := fun m ρ _ =>
  (θ_run Cert.ProjReferenceIdeal.defs _ _).mono (fun r h => ⟨fun c => (h c).2.2.2.2.2.2.2, sem_eq_zero_of_no_sems (by decide) r.2⟩)
    (Cert.ProjReferenceIdeal.Value.run (F := Ideal) m ρ)

section
open Cert.ProjIdeal Cert.ProjIdeal.Gen Cert.ProjIdeal.Value

variable (m : (ℓ : Loc nD τ sig) → Buf (Elt Ideal) ℓ) (c : Dev nD)
  (a0 : Vec Ideal S8x2048x1024 .f32) (h0 : m ((c : Thread nD τ).loc main_arg0) = a0)
  (a1 : Vec Ideal S1x1024 .f32) (h1 : m ((c : Thread nD τ).loc main_arg1) = a1)
  (a2 : Vec Ideal S1x1024x2048 .f32) (h2 : m ((c : Thread nD τ).loc main_arg2) = a2)
  (a3 : Vec Ideal S1x4x128x128 .f32) (h3 : m ((c : Thread nD τ).loc main_arg3) = a3)
  (a4 : Vec Ideal S1x512 .f32) (h4 : m ((c : Thread nD τ).loc main_arg4) = a4)

include h0 h1 h2

include h3 h4 in
/-- The pooled results are equal. -/
theorem eq6 : ProjRef.pooled (ProjRef.heads (ProjRef.projected a0 a1 a2)) a3 a4 = (G6 m c : Vec Ideal S16384x512 .bf16) := by
  refine ext2 _ _ fun n l => ?_
  exact (ProjRef.pooled_at _ (pOf a0 a1 a2) (ProjRef.heads_P a0 a1 a2) a3 a4 n l).trans (G6_at m c a0 h0 a1 h1 a2 h2 a3 h3 a4 h4 n l).symm

/-- The last rows are equal. -/
theorem eq7 : ProjRef.resTail (ProjRef.projected a0 a1 a2) = (G7 m c : Vec Ideal S8x16x512 .f32) := by
  refine ext3 _ _ fun b j l => ?_
  exact (ProjRef.resTail_at _ (pOf a0 a1 a2) (ProjRef.projected_P a0 a1 a2) b j l).trans (G7_at m c a0 h0 a1 h1 a2 h2 b j l).symm

/-- The queries are equal. -/
theorem eq8 : ProjRef.resQ (ProjRef.projected a0 a1 a2) = (G8 m c : Vec Ideal S16384x512 .f32) := by
  refine ext2 _ _ fun n l => ?_
  exact (ProjRef.resQ_at _ (pOf a0 a1 a2) (ProjRef.projected_P a0 a1 a2) n l).trans (G8_at m c a0 h0 a1 h1 a2 h2 n l).symm

/-- The keys by heads are equal. -/
theorem eq9 : ProjRef.resK (ProjRef.projected a0 a1 a2) = (G9 m c : Vec Ideal S65536x128 .f32) := by
  refine ext2 _ _ fun n l => ?_
  exact (ProjRef.resK_at _ (pOf a0 a1 a2) (ProjRef.projected_P a0 a1 a2) n l).trans (G9_at m c a0 h0 a1 h1 a2 h2 n l).symm

/-- The values by heads are equal. -/
theorem eq10 : ProjRef.resV (ProjRef.projected a0 a1 a2) = (G10 m c : Vec Ideal S65536x128 .f32) := by
  refine ext2 _ _ fun n l => ?_
  exact (ProjRef.resV_at _ (pOf a0 a1 a2) (ProjRef.projected_P a0 a1 a2) n l).trans (G10_at m c a0 h0 a1 h1 a2 h2 n l).symm

/-- The keys by tokens are equal. -/
theorem eq11 : ProjRef.resKb (ProjRef.projected a0 a1 a2) = (G11 m c : Vec Ideal S16384x512 .bf16) := by
  refine ext2 _ _ fun n l => ?_
  exact (ProjRef.resKb_at _ (pOf a0 a1 a2) (ProjRef.projected_P a0 a1 a2) n l).trans (G11_at m c a0 h0 a1 h1 a2 h2 n l).symm

/-- The turned values are equal. -/
theorem eq12 : ProjRef.resVt (ProjRef.projected a0 a1 a2) = (G12 m c : Vec Ideal S32x512x512 .bf16) := by
  refine ext3 _ _ fun b j l => ?_
  exact (ProjRef.resVt_at _ (pOf a0 a1 a2) (ProjRef.projected_P a0 a1 a2) b j l).trans (G12_at m c a0 h0 a1 h1 a2 h2 b j l).symm

end

/-- The projection and the reference end with the same arrays. -/
theorem algebraic : algebraic_ProjIdeal_ProjReferenceIdeal (hProjIdeal := Cert.ProjIdeal.Gen.facts)
    (hProjReferenceIdeal := Cert.ProjReferenceIdeal.Gen.facts) := by
  intro m ρ m' ρ' _ hag
  refine ⟨Cert.ProjIdeal.Value.G6 m, Cert.ProjIdeal.Value.G7 m, Cert.ProjIdeal.Value.G8 m, Cert.ProjIdeal.Value.G9 m, Cert.ProjIdeal.Value.G10 m,
    Cert.ProjIdeal.Value.G11 m, Cert.ProjIdeal.Value.G12 m, Cert.ProjIdeal.Value.run m ρ,
    (θ_run _ _ _).mono (fun _ h c => ?_) (Cert.ProjReferenceIdeal.Value.run m' ρ')⟩
  obtain ⟨e0, e1, e2, e3, e4⟩ := hag c
  obtain ⟨r6, r7, r8, r9, r10, r11, r12, hargs⟩ := h c
  refine ⟨r6.trans ((ProjRef.pooled_eq m' c).trans (eq6 m c _ e0.symm _ e1.symm _ e2.symm _ e3.symm _ e4.symm)),
    r7.trans (eq7 m c _ e0.symm _ e1.symm _ e2.symm), r8.trans (eq8 m c _ e0.symm _ e1.symm _ e2.symm),
    r9.trans (eq9 m c _ e0.symm _ e1.symm _ e2.symm), r10.trans (eq10 m c _ e0.symm _ e1.symm _ e2.symm),
    r11.trans (eq11 m c _ e0.symm _ e1.symm _ e2.symm), r12.trans (eq12 m c _ e0.symm _ e1.symm _ e2.symm), hargs⟩

end Cert.ProjRun

end
-- ==== Proof.lean ====
/- The certificate: the frames, the two named constants, and the values of the attention, of the experts and of the projection. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Finite
public import proofs.«01_k».proof.Proof.Experts
public import proofs.«01_k».proof.Proof.ExpertsAlgebraic
public import proofs.«01_k».proof.Proof.Gen.Proj
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjReferenceIdeal
public import proofs.«01_k».proof.Proof.Gen.ProjReferenceIdeal.Run
public import proofs.«01_k».proof.Proof.ProjAlgebraic
public import Idealize.ShloMosaic.Adequacy
public import Idealize.ShloMosaic.Init

@[expose] public section

noncomputable section

namespace Cert.Proof

open Idealize.ShloMosaic Idealize.SL.Sem Cert.Kernel

/-- The kernel and the reference end with the same array, where the precondition holds. -/
theorem algebraic : algebraic_KernelIdeal_ReferenceIdeal_pre_finite_values (hKernelIdeal := Cert.KernelIdeal.Gen.facts)
    (hReferenceIdeal := Cert.ReferenceIdeal.Gen.facts) (hPre_finite_values := Cert.AttnRun.facts) := by
  intro m ρ m' ρ' hpre hag
  refine ⟨fun c => Cert.AttnRun.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7)),
    (θ_run _ _ _).mono (fun _ h c => ⟨(h c).1.trans ?_, (h c).2⟩) (Cert.KernelIdeal.Value.run_blocks m ρ),
    (θ_run _ _ _).mono (fun _ h c => ⟨(h c).1.trans ?_, (h c).2⟩) (Cert.ReferenceIdeal.Value.run m' ρ')⟩
  · obtain ⟨hv, h3, h4, h5, h6⟩ := Cert.AttnRun.real_inputs _ _ _ _ _ _ _ _ (congrFun (hpre c) ix0)
    exact Cert.AttnRun.final m c _ _ _ _ _ _ _ _ rfl rfl rfl rfl rfl rfl rfl rfl hv h3 h4 h5 h6
  · obtain ⟨e0, e1, e2, e3, e4, e5, e6, e7⟩ := hag c
    refine (Cert.AttnRef.res_eq m' c).trans ?_
    rw [e0, e1, e2, e3, e4, e5, e6, e7]
    rfl

/-- The reference runs and leaves its arguments, and no counter, since it has none. -/
theorem frame_reference : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything claimed. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts,
  Cert.Proj.Gen.facts, Cert.ProjIdeal.Gen.facts, Cert.ProjReferenceIdeal.Gen.facts, Cert.AttnRun.facts,
  Cert.Pre_experts_in_range.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  Cert.ExpertsRun.frame_kernel,
  Cert.ExpertsRun.frame_ideal,
  fun m ρ _ => Cert.ExpertsRun.frame_reference m ρ trivial,
  fun m ρ _ => Cert.ExpertsRun.frame_reference m ρ trivial,
  Cert.ProjRun.frame_kernel,
  Cert.ProjRun.frame_ideal,
  Cert.ProjRun.frame_reference,
  ⟨IdealRules.named_const.statement Cert.KernelIdeal.κ "log2e" .f32 0x3FB8AA3B#32 _ rfl,
    IdealRules.named_const.statement Cert.KernelIdeal.κ "mask" .f32 0xF149F2CA#32 _ rfl⟩,
  algebraic,
  trivial,
  Cert.ExpertsRun.algebraic,
  trivial,
  Cert.ProjRun.algebraic⟩

end Cert.Proof

end
